-- ==== Defs.lean ====
def Pre_Kernel [hPre_tables_in_range : Cert.Pre_tables_in_range.Facts] (m : (ℓ : Loc Cert.Kernel.nD Cert.Kernel.τ Cert.Kernel.sig) → Buf (Elt Bits) ℓ) : Prop :=
  ∀ c : Dev Cert.Kernel.nD,
    (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).1 = (fun _ => 1#1)
    ∧ (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2 = (fun _ => 1#1)

def Pre_KernelIdeal [hPre_tables_in_range : Cert.Pre_tables_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_KernelIdeal_attend_inputs [hPre_attend_inputs : Cert.Pre_attend_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_attend_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_attend_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_attend_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_attend_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_attend_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attend_inputs [hPre_attend_inputs : Cert.Pre_attend_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attend_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_attend_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_attend_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_attend_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_attend_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def Pre_KUp (m : (ℓ : Loc Cert.KUp.nD Cert.KUp.τ Cert.KUp.sig) → Buf (Elt Bits) ℓ) : Prop :=
  True

def Pre_KUpIdeal (m : (ℓ : Loc Cert.KUpIdeal.nD Cert.KUpIdeal.τ Cert.KUpIdeal.sig) → Buf (Elt Ideal) ℓ) : Prop :=
  True

def Pre_RUpIdeal (m : (ℓ : Loc Cert.RUpIdeal.nD Cert.RUpIdeal.τ Cert.RUpIdeal.sig) → Buf (Elt Ideal) ℓ) : Prop :=
  True

def Pre_KDown (m : (ℓ : Loc Cert.KDown.nD Cert.KDown.τ Cert.KDown.sig) → Buf (Elt Bits) ℓ) : Prop :=
  True

def Pre_KDownIdeal (m : (ℓ : Loc Cert.KDownIdeal.nD Cert.KDownIdeal.τ Cert.KDownIdeal.sig) → Buf (Elt Ideal) ℓ) : Prop :=
  True

def Pre_RDownIdeal (m : (ℓ : Loc Cert.RDownIdeal.nD Cert.RDownIdeal.τ Cert.RDownIdeal.sig) → Buf (Elt Ideal) ℓ) : Prop :=
  True

def Pre_KProj (m : (ℓ : Loc Cert.KProj.nD Cert.KProj.τ Cert.KProj.sig) → Buf (Elt Bits) ℓ) : Prop :=
  True

def Pre_KProjIdeal (m : (ℓ : Loc Cert.KProjIdeal.nD Cert.KProjIdeal.τ Cert.KProjIdeal.sig) → Buf (Elt Ideal) ℓ) : Prop :=
  True

def Pre_RProjIdeal (m : (ℓ : Loc Cert.RProjIdeal.nD Cert.RProjIdeal.τ Cert.RProjIdeal.sig) → Buf (Elt Ideal) ℓ) : Prop :=
  True

def Pre_KZm (m : (ℓ : Loc Cert.KZm.nD Cert.KZm.τ Cert.KZm.sig) → Buf (Elt Bits) ℓ) : Prop :=
  True

def Pre_KZmIdeal (m : (ℓ : Loc Cert.KZmIdeal.nD Cert.KZmIdeal.τ Cert.KZmIdeal.sig) → Buf (Elt Ideal) ℓ) : Prop :=
  True

def Pre_RZmIdeal (m : (ℓ : Loc Cert.RZmIdeal.nD Cert.RZmIdeal.τ Cert.RZmIdeal.sig) → Buf (Elt Ideal) ℓ) : Prop :=
  True

def Pre_KZs (m : (ℓ : Loc Cert.KZs.nD Cert.KZs.τ Cert.KZs.sig) → Buf (Elt Bits) ℓ) : Prop :=
  True

def Pre_KZsIdeal (m : (ℓ : Loc Cert.KZsIdeal.nD Cert.KZsIdeal.τ Cert.KZsIdeal.sig) → Buf (Elt Ideal) ℓ) : Prop :=
  True

def Pre_RZsIdeal (m : (ℓ : Loc Cert.RZsIdeal.nD Cert.RZsIdeal.τ Cert.RZsIdeal.sig) → Buf (Elt Ideal) ℓ) : Prop :=
  True

def Pre_KZp (m : (ℓ : Loc Cert.KZp.nD Cert.KZp.τ Cert.KZp.sig) → Buf (Elt Bits) ℓ) : Prop :=
  True

def Pre_KZpIdeal (m : (ℓ : Loc Cert.KZpIdeal.nD Cert.KZpIdeal.τ Cert.KZpIdeal.sig) → Buf (Elt Ideal) ℓ) : Prop :=
  True

def Pre_RZpIdeal (m : (ℓ : Loc Cert.RZpIdeal.nD Cert.RZpIdeal.τ Cert.RZpIdeal.sig) → Buf (Elt Ideal) ℓ) : Prop :=
  True

def Pre_KOut (m : (ℓ : Loc Cert.KOut.nD Cert.KOut.τ Cert.KOut.sig) → Buf (Elt Bits) ℓ) : Prop :=
  True

def Pre_KOutIdeal (m : (ℓ : Loc Cert.KOutIdeal.nD Cert.KOutIdeal.τ Cert.KOutIdeal.sig) → Buf (Elt Ideal) ℓ) : Prop :=
  True

def Pre_ROutIdeal (m : (ℓ : Loc Cert.ROutIdeal.nD Cert.ROutIdeal.τ Cert.ROutIdeal.sig) → Buf (Elt Ideal) ℓ) : Prop :=
  True

def Pre_KUpS (m : (ℓ : Loc Cert.KUpS.nD Cert.KUpS.τ Cert.KUpS.sig) → Buf (Elt Bits) ℓ) : Prop :=
  True

def Pre_KUpSIdeal (m : (ℓ : Loc Cert.KUpSIdeal.nD Cert.KUpSIdeal.τ Cert.KUpSIdeal.sig) → Buf (Elt Ideal) ℓ) : Prop :=
  True

def Pre_RUpSIdeal (m : (ℓ : Loc Cert.RUpSIdeal.nD Cert.RUpSIdeal.τ Cert.RUpSIdeal.sig) → Buf (Elt Ideal) ℓ) : Prop :=
  True

def Pre_KDownS (m : (ℓ : Loc Cert.KDownS.nD Cert.KDownS.τ Cert.KDownS.sig) → Buf (Elt Bits) ℓ) : Prop :=
  True

def Pre_KDownSIdeal (m : (ℓ : Loc Cert.KDownSIdeal.nD Cert.KDownSIdeal.τ Cert.KDownSIdeal.sig) → Buf (Elt Ideal) ℓ) : Prop :=
  True

def Pre_RDownSIdeal (m : (ℓ : Loc Cert.RDownSIdeal.nD Cert.RDownSIdeal.τ Cert.RDownSIdeal.sig) → Buf (Elt Ideal) ℓ) : Prop :=
  True

def Pre_KOutS (m : (ℓ : Loc Cert.KOutS.nD Cert.KOutS.τ Cert.KOutS.sig) → Buf (Elt Bits) ℓ) : Prop :=
  True

def Pre_KOutSIdeal (m : (ℓ : Loc Cert.KOutSIdeal.nD Cert.KOutSIdeal.τ Cert.KOutSIdeal.sig) → Buf (Elt Ideal) ℓ) : Prop :=
  True

def Pre_ROutSIdeal (m : (ℓ : Loc Cert.ROutSIdeal.nD Cert.ROutSIdeal.τ Cert.ROutSIdeal.sig) → Buf (Elt Ideal) ℓ) : Prop :=
  True

def Pre_KSel (m : (ℓ : Loc Cert.KSel.nD Cert.KSel.τ Cert.KSel.sig) → Buf (Elt Bits) ℓ) : Prop :=
  True

def Pre_KSelIdeal (m : (ℓ : Loc Cert.KSelIdeal.nD Cert.KSelIdeal.τ Cert.KSelIdeal.sig) → Buf (Elt Ideal) ℓ) : Prop :=
  True

def Pre_KSelIdeal_select_inputs [hPre_select_inputs : Cert.Pre_select_inputs.Facts] (m : (ℓ : Loc Cert.KSelIdeal.nD Cert.KSelIdeal.τ Cert.KSelIdeal.sig) → Buf (Elt Ideal) ℓ) : Prop :=
  ∀ c : Dev Cert.KSelIdeal.nD,
    (Cert.Pre_select_inputs.fn (F := Ideal) (m ((c.tc : Thread Cert.KSelIdeal.nD Cert.KSelIdeal.τ).loc Cert.KSelIdeal.main_arg0)) (m ((c.tc : Thread Cert.KSelIdeal.nD Cert.KSelIdeal.τ).loc Cert.KSelIdeal.main_arg1))).1 = (fun _ => 1#1)
    ∧ (Cert.Pre_select_inputs.fn (F := Ideal) (m ((c.tc : Thread Cert.KSelIdeal.nD Cert.KSelIdeal.τ).loc Cert.KSelIdeal.main_arg0)) (m ((c.tc : Thread Cert.KSelIdeal.nD Cert.KSelIdeal.τ).loc Cert.KSelIdeal.main_arg1))).2 = (fun _ => 1#1)

def Pre_RSelIdeal (m : (ℓ : Loc Cert.RSelIdeal.nD Cert.RSelIdeal.τ Cert.RSelIdeal.sig) → Buf (Elt Ideal) ℓ) : Prop :=
  True

def Pre_RSelIdeal_select_inputs [hPre_select_inputs : Cert.Pre_select_inputs.Facts] (m : (ℓ : Loc Cert.RSelIdeal.nD Cert.RSelIdeal.τ Cert.RSelIdeal.sig) → Buf (Elt Ideal) ℓ) : Prop :=
  ∀ c : Dev Cert.RSelIdeal.nD,
    (Cert.Pre_select_inputs.fn (F := Ideal) (m ((c.tc : Thread Cert.RSelIdeal.nD Cert.RSelIdeal.τ).loc Cert.RSelIdeal.main_arg0)) (m ((c.tc : Thread Cert.RSelIdeal.nD Cert.RSelIdeal.τ).loc Cert.RSelIdeal.main_arg1))).1 = (fun _ => 1#1)
    ∧ (Cert.Pre_select_inputs.fn (F := Ideal) (m ((c.tc : Thread Cert.RSelIdeal.nD Cert.RSelIdeal.τ).loc Cert.RSelIdeal.main_arg0)) (m ((c.tc : Thread Cert.RSelIdeal.nD Cert.RSelIdeal.τ).loc Cert.RSelIdeal.main_arg1))).2 = (fun _ => 1#1)

def quiescent_Kernel [hKernel : Cert.Kernel.Facts] [hPre_tables_in_range : Cert.Pre_tables_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_attend_inputs [hKernelIdeal : Cert.KernelIdeal.Facts] [hPre_attend_inputs : Cert.Pre_attend_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attend_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_attend_inputs [hReferenceIdeal : Cert.ReferenceIdeal.Facts] [hPre_attend_inputs : Cert.Pre_attend_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attend_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_KUp [hKUp : Cert.KUp.Facts] : Prop :=
  ∀ (m : (ℓ : Loc Cert.KUp.nD Cert.KUp.τ Cert.KUp.sig) → Buf (Elt Bits) ℓ) (g : Dev Cert.KUp.nD → PrngReg), Pre_KUp m →
    θ_run (Cert.KUp.defs (F := Bits)) (onTc (τ := Cert.KUp.τ) (Cert.KUp.main (F := Bits))) ⟨m, fun _ => 0, g⟩ (fun r => (∀ c : Dev Cert.KUp.nD,
      r.2.mem ((c.tc : Thread Cert.KUp.nD Cert.KUp.τ).loc Cert.KUp.main_arg0) = m ((c.tc : Thread Cert.KUp.nD Cert.KUp.τ).loc Cert.KUp.main_arg0)
      ∧ r.2.mem ((c.tc : Thread Cert.KUp.nD Cert.KUp.τ).loc Cert.KUp.main_arg1) = m ((c.tc : Thread Cert.KUp.nD Cert.KUp.τ).loc Cert.KUp.main_arg1))
      ∧ r.2.sem = fun _ => 0)

def quiescent_KUpIdeal [hKUpIdeal : Cert.KUpIdeal.Facts] : Prop :=
  ∀ (m : (ℓ : Loc Cert.KUpIdeal.nD Cert.KUpIdeal.τ Cert.KUpIdeal.sig) → Buf (Elt Ideal) ℓ) (g : Dev Cert.KUpIdeal.nD → PrngReg), Pre_KUpIdeal m →
    θ_run (Cert.KUpIdeal.defs (F := Ideal)) (onTc (τ := Cert.KUpIdeal.τ) (Cert.KUpIdeal.main (F := Ideal))) ⟨m, fun _ => 0, g⟩ (fun r => (∀ c : Dev Cert.KUpIdeal.nD,
      r.2.mem ((c.tc : Thread Cert.KUpIdeal.nD Cert.KUpIdeal.τ).loc Cert.KUpIdeal.main_arg0) = m ((c.tc : Thread Cert.KUpIdeal.nD Cert.KUpIdeal.τ).loc Cert.KUpIdeal.main_arg0)
      ∧ r.2.mem ((c.tc : Thread Cert.KUpIdeal.nD Cert.KUpIdeal.τ).loc Cert.KUpIdeal.main_arg1) = m ((c.tc : Thread Cert.KUpIdeal.nD Cert.KUpIdeal.τ).loc Cert.KUpIdeal.main_arg1))
      ∧ r.2.sem = fun _ => 0)

def quiescent_RUpIdeal [hRUpIdeal : Cert.RUpIdeal.Facts] : Prop :=
  ∀ (m : (ℓ : Loc Cert.RUpIdeal.nD Cert.RUpIdeal.τ Cert.RUpIdeal.sig) → Buf (Elt Ideal) ℓ) (g : Dev Cert.RUpIdeal.nD → PrngReg), Pre_RUpIdeal m →
    θ_run (Cert.RUpIdeal.defs (F := Ideal)) (onTc (τ := Cert.RUpIdeal.τ) (Cert.RUpIdeal.main (F := Ideal))) ⟨m, fun _ => 0, g⟩ (fun r => (∀ c : Dev Cert.RUpIdeal.nD,
      r.2.mem ((c.tc : Thread Cert.RUpIdeal.nD Cert.RUpIdeal.τ).loc Cert.RUpIdeal.main_arg0) = m ((c.tc : Thread Cert.RUpIdeal.nD Cert.RUpIdeal.τ).loc Cert.RUpIdeal.main_arg0)
      ∧ r.2.mem ((c.tc : Thread Cert.RUpIdeal.nD Cert.RUpIdeal.τ).loc Cert.RUpIdeal.main_arg1) = m ((c.tc : Thread Cert.RUpIdeal.nD Cert.RUpIdeal.τ).loc Cert.RUpIdeal.main_arg1))
      ∧ r.2.sem = fun _ => 0)

def quiescent_KDown [hKDown : Cert.KDown.Facts] : Prop :=
  ∀ (m : (ℓ : Loc Cert.KDown.nD Cert.KDown.τ Cert.KDown.sig) → Buf (Elt Bits) ℓ) (g : Dev Cert.KDown.nD → PrngReg), Pre_KDown m →
    θ_run (Cert.KDown.defs (F := Bits)) (onTc (τ := Cert.KDown.τ) (Cert.KDown.main (F := Bits))) ⟨m, fun _ => 0, g⟩ (fun r => (∀ c : Dev Cert.KDown.nD,
      r.2.mem ((c.tc : Thread Cert.KDown.nD Cert.KDown.τ).loc Cert.KDown.main_arg0) = m ((c.tc : Thread Cert.KDown.nD Cert.KDown.τ).loc Cert.KDown.main_arg0)
      ∧ r.2.mem ((c.tc : Thread Cert.KDown.nD Cert.KDown.τ).loc Cert.KDown.main_arg1) = m ((c.tc : Thread Cert.KDown.nD Cert.KDown.τ).loc Cert.KDown.main_arg1)
      ∧ r.2.mem ((c.tc : Thread Cert.KDown.nD Cert.KDown.τ).loc Cert.KDown.main_arg2) = m ((c.tc : Thread Cert.KDown.nD Cert.KDown.τ).loc Cert.KDown.main_arg2)
      ∧ r.2.mem ((c.tc : Thread Cert.KDown.nD Cert.KDown.τ).loc Cert.KDown.main_arg3) = m ((c.tc : Thread Cert.KDown.nD Cert.KDown.τ).loc Cert.KDown.main_arg3))
      ∧ r.2.sem = fun _ => 0)

def quiescent_KDownIdeal [hKDownIdeal : Cert.KDownIdeal.Facts] : Prop :=
  ∀ (m : (ℓ : Loc Cert.KDownIdeal.nD Cert.KDownIdeal.τ Cert.KDownIdeal.sig) → Buf (Elt Ideal) ℓ) (g : Dev Cert.KDownIdeal.nD → PrngReg), Pre_KDownIdeal m →
    θ_run (Cert.KDownIdeal.defs (F := Ideal)) (onTc (τ := Cert.KDownIdeal.τ) (Cert.KDownIdeal.main (F := Ideal))) ⟨m, fun _ => 0, g⟩ (fun r => (∀ c : Dev Cert.KDownIdeal.nD,
      r.2.mem ((c.tc : Thread Cert.KDownIdeal.nD Cert.KDownIdeal.τ).loc Cert.KDownIdeal.main_arg0) = m ((c.tc : Thread Cert.KDownIdeal.nD Cert.KDownIdeal.τ).loc Cert.KDownIdeal.main_arg0)
      ∧ r.2.mem ((c.tc : Thread Cert.KDownIdeal.nD Cert.KDownIdeal.τ).loc Cert.KDownIdeal.main_arg1) = m ((c.tc : Thread Cert.KDownIdeal.nD Cert.KDownIdeal.τ).loc Cert.KDownIdeal.main_arg1)
      ∧ r.2.mem ((c.tc : Thread Cert.KDownIdeal.nD Cert.KDownIdeal.τ).loc Cert.KDownIdeal.main_arg2) = m ((c.tc : Thread Cert.KDownIdeal.nD Cert.KDownIdeal.τ).loc Cert.KDownIdeal.main_arg2)
      ∧ r.2.mem ((c.tc : Thread Cert.KDownIdeal.nD Cert.KDownIdeal.τ).loc Cert.KDownIdeal.main_arg3) = m ((c.tc : Thread Cert.KDownIdeal.nD Cert.KDownIdeal.τ).loc Cert.KDownIdeal.main_arg3))
      ∧ r.2.sem = fun _ => 0)

def quiescent_RDownIdeal [hRDownIdeal : Cert.RDownIdeal.Facts] : Prop :=
  ∀ (m : (ℓ : Loc Cert.RDownIdeal.nD Cert.RDownIdeal.τ Cert.RDownIdeal.sig) → Buf (Elt Ideal) ℓ) (g : Dev Cert.RDownIdeal.nD → PrngReg), Pre_RDownIdeal m →
    θ_run (Cert.RDownIdeal.defs (F := Ideal)) (onTc (τ := Cert.RDownIdeal.τ) (Cert.RDownIdeal.main (F := Ideal))) ⟨m, fun _ => 0, g⟩ (fun r => (∀ c : Dev Cert.RDownIdeal.nD,
      r.2.mem ((c.tc : Thread Cert.RDownIdeal.nD Cert.RDownIdeal.τ).loc Cert.RDownIdeal.main_arg0) = m ((c.tc : Thread Cert.RDownIdeal.nD Cert.RDownIdeal.τ).loc Cert.RDownIdeal.main_arg0)
      ∧ r.2.mem ((c.tc : Thread Cert.RDownIdeal.nD Cert.RDownIdeal.τ).loc Cert.RDownIdeal.main_arg1) = m ((c.tc : Thread Cert.RDownIdeal.nD Cert.RDownIdeal.τ).loc Cert.RDownIdeal.main_arg1)
      ∧ r.2.mem ((c.tc : Thread Cert.RDownIdeal.nD Cert.RDownIdeal.τ).loc Cert.RDownIdeal.main_arg2) = m ((c.tc : Thread Cert.RDownIdeal.nD Cert.RDownIdeal.τ).loc Cert.RDownIdeal.main_arg2)
      ∧ r.2.mem ((c.tc : Thread Cert.RDownIdeal.nD Cert.RDownIdeal.τ).loc Cert.RDownIdeal.main_arg3) = m ((c.tc : Thread Cert.RDownIdeal.nD Cert.RDownIdeal.τ).loc Cert.RDownIdeal.main_arg3))
      ∧ r.2.sem = fun _ => 0)

def quiescent_KProj [hKProj : Cert.KProj.Facts] : Prop :=
  ∀ (m : (ℓ : Loc Cert.KProj.nD Cert.KProj.τ Cert.KProj.sig) → Buf (Elt Bits) ℓ) (g : Dev Cert.KProj.nD → PrngReg), Pre_KProj m →
    θ_run (Cert.KProj.defs (F := Bits)) (onTc (τ := Cert.KProj.τ) (Cert.KProj.main (F := Bits))) ⟨m, fun _ => 0, g⟩ (fun r => (∀ c : Dev Cert.KProj.nD,
      r.2.mem ((c.tc : Thread Cert.KProj.nD Cert.KProj.τ).loc Cert.KProj.main_arg0) = m ((c.tc : Thread Cert.KProj.nD Cert.KProj.τ).loc Cert.KProj.main_arg0)
      ∧ r.2.mem ((c.tc : Thread Cert.KProj.nD Cert.KProj.τ).loc Cert.KProj.main_arg1) = m ((c.tc : Thread Cert.KProj.nD Cert.KProj.τ).loc Cert.KProj.main_arg1)
      ∧ r.2.mem ((c.tc : Thread Cert.KProj.nD Cert.KProj.τ).loc Cert.KProj.main_arg2) = m ((c.tc : Thread Cert.KProj.nD Cert.KProj.τ).loc Cert.KProj.main_arg2))
      ∧ r.2.sem = fun _ => 0)

def quiescent_KProjIdeal [hKProjIdeal : Cert.KProjIdeal.Facts] : Prop :=
  ∀ (m : (ℓ : Loc Cert.KProjIdeal.nD Cert.KProjIdeal.τ Cert.KProjIdeal.sig) → Buf (Elt Ideal) ℓ) (g : Dev Cert.KProjIdeal.nD → PrngReg), Pre_KProjIdeal m →
    θ_run (Cert.KProjIdeal.defs (F := Ideal)) (onTc (τ := Cert.KProjIdeal.τ) (Cert.KProjIdeal.main (F := Ideal))) ⟨m, fun _ => 0, g⟩ (fun r => (∀ c : Dev Cert.KProjIdeal.nD,
      r.2.mem ((c.tc : Thread Cert.KProjIdeal.nD Cert.KProjIdeal.τ).loc Cert.KProjIdeal.main_arg0) = m ((c.tc : Thread Cert.KProjIdeal.nD Cert.KProjIdeal.τ).loc Cert.KProjIdeal.main_arg0)
      ∧ r.2.mem ((c.tc : Thread Cert.KProjIdeal.nD Cert.KProjIdeal.τ).loc Cert.KProjIdeal.main_arg1) = m ((c.tc : Thread Cert.KProjIdeal.nD Cert.KProjIdeal.τ).loc Cert.KProjIdeal.main_arg1)
      ∧ r.2.mem ((c.tc : Thread Cert.KProjIdeal.nD Cert.KProjIdeal.τ).loc Cert.KProjIdeal.main_arg2) = m ((c.tc : Thread Cert.KProjIdeal.nD Cert.KProjIdeal.τ).loc Cert.KProjIdeal.main_arg2))
      ∧ r.2.sem = fun _ => 0)

def quiescent_RProjIdeal [hRProjIdeal : Cert.RProjIdeal.Facts] : Prop :=
  ∀ (m : (ℓ : Loc Cert.RProjIdeal.nD Cert.RProjIdeal.τ Cert.RProjIdeal.sig) → Buf (Elt Ideal) ℓ) (g : Dev Cert.RProjIdeal.nD → PrngReg), Pre_RProjIdeal m →
    θ_run (Cert.RProjIdeal.defs (F := Ideal)) (onTc (τ := Cert.RProjIdeal.τ) (Cert.RProjIdeal.main (F := Ideal))) ⟨m, fun _ => 0, g⟩ (fun r => (∀ c : Dev Cert.RProjIdeal.nD,
      r.2.mem ((c.tc : Thread Cert.RProjIdeal.nD Cert.RProjIdeal.τ).loc Cert.RProjIdeal.main_arg0) = m ((c.tc : Thread Cert.RProjIdeal.nD Cert.RProjIdeal.τ).loc Cert.RProjIdeal.main_arg0)
      ∧ r.2.mem ((c.tc : Thread Cert.RProjIdeal.nD Cert.RProjIdeal.τ).loc Cert.RProjIdeal.main_arg1) = m ((c.tc : Thread Cert.RProjIdeal.nD Cert.RProjIdeal.τ).loc Cert.RProjIdeal.main_arg1)
      ∧ r.2.mem ((c.tc : Thread Cert.RProjIdeal.nD Cert.RProjIdeal.τ).loc Cert.RProjIdeal.main_arg2) = m ((c.tc : Thread Cert.RProjIdeal.nD Cert.RProjIdeal.τ).loc Cert.RProjIdeal.main_arg2))
      ∧ r.2.sem = fun _ => 0)

def quiescent_KZm [hKZm : Cert.KZm.Facts] : Prop :=
  ∀ (m : (ℓ : Loc Cert.KZm.nD Cert.KZm.τ Cert.KZm.sig) → Buf (Elt Bits) ℓ) (g : Dev Cert.KZm.nD → PrngReg), Pre_KZm m →
    θ_run (Cert.KZm.defs (F := Bits)) (onTc (τ := Cert.KZm.τ) (Cert.KZm.main (F := Bits))) ⟨m, fun _ => 0, g⟩ (fun r => (∀ c : Dev Cert.KZm.nD,
      r.2.mem ((c.tc : Thread Cert.KZm.nD Cert.KZm.τ).loc Cert.KZm.main_arg0) = m ((c.tc : Thread Cert.KZm.nD Cert.KZm.τ).loc Cert.KZm.main_arg0)
      ∧ r.2.mem ((c.tc : Thread Cert.KZm.nD Cert.KZm.τ).loc Cert.KZm.main_arg1) = m ((c.tc : Thread Cert.KZm.nD Cert.KZm.τ).loc Cert.KZm.main_arg1)
      ∧ r.2.mem ((c.tc : Thread Cert.KZm.nD Cert.KZm.τ).loc Cert.KZm.main_arg2) = m ((c.tc : Thread Cert.KZm.nD Cert.KZm.τ).loc Cert.KZm.main_arg2))
      ∧ r.2.sem = fun _ => 0)

def quiescent_KZmIdeal [hKZmIdeal : Cert.KZmIdeal.Facts] : Prop :=
  ∀ (m : (ℓ : Loc Cert.KZmIdeal.nD Cert.KZmIdeal.τ Cert.KZmIdeal.sig) → Buf (Elt Ideal) ℓ) (g : Dev Cert.KZmIdeal.nD → PrngReg), Pre_KZmIdeal m →
    θ_run (Cert.KZmIdeal.defs (F := Ideal)) (onTc (τ := Cert.KZmIdeal.τ) (Cert.KZmIdeal.main (F := Ideal))) ⟨m, fun _ => 0, g⟩ (fun r => (∀ c : Dev Cert.KZmIdeal.nD,
      r.2.mem ((c.tc : Thread Cert.KZmIdeal.nD Cert.KZmIdeal.τ).loc Cert.KZmIdeal.main_arg0) = m ((c.tc : Thread Cert.KZmIdeal.nD Cert.KZmIdeal.τ).loc Cert.KZmIdeal.main_arg0)
      ∧ r.2.mem ((c.tc : Thread Cert.KZmIdeal.nD Cert.KZmIdeal.τ).loc Cert.KZmIdeal.main_arg1) = m ((c.tc : Thread Cert.KZmIdeal.nD Cert.KZmIdeal.τ).loc Cert.KZmIdeal.main_arg1)
      ∧ r.2.mem ((c.tc : Thread Cert.KZmIdeal.nD Cert.KZmIdeal.τ).loc Cert.KZmIdeal.main_arg2) = m ((c.tc : Thread Cert.KZmIdeal.nD Cert.KZmIdeal.τ).loc Cert.KZmIdeal.main_arg2))
      ∧ r.2.sem = fun _ => 0)

def quiescent_RZmIdeal [hRZmIdeal : Cert.RZmIdeal.Facts] : Prop :=
  ∀ (m : (ℓ : Loc Cert.RZmIdeal.nD Cert.RZmIdeal.τ Cert.RZmIdeal.sig) → Buf (Elt Ideal) ℓ) (g : Dev Cert.RZmIdeal.nD → PrngReg), Pre_RZmIdeal m →
    θ_run (Cert.RZmIdeal.defs (F := Ideal)) (onTc (τ := Cert.RZmIdeal.τ) (Cert.RZmIdeal.main (F := Ideal))) ⟨m, fun _ => 0, g⟩ (fun r => (∀ c : Dev Cert.RZmIdeal.nD,
      r.2.mem ((c.tc : Thread Cert.RZmIdeal.nD Cert.RZmIdeal.τ).loc Cert.RZmIdeal.main_arg0) = m ((c.tc : Thread Cert.RZmIdeal.nD Cert.RZmIdeal.τ).loc Cert.RZmIdeal.main_arg0)
      ∧ r.2.mem ((c.tc : Thread Cert.RZmIdeal.nD Cert.RZmIdeal.τ).loc Cert.RZmIdeal.main_arg1) = m ((c.tc : Thread Cert.RZmIdeal.nD Cert.RZmIdeal.τ).loc Cert.RZmIdeal.main_arg1)
      ∧ r.2.mem ((c.tc : Thread Cert.RZmIdeal.nD Cert.RZmIdeal.τ).loc Cert.RZmIdeal.main_arg2) = m ((c.tc : Thread Cert.RZmIdeal.nD Cert.RZmIdeal.τ).loc Cert.RZmIdeal.main_arg2))
      ∧ r.2.sem = fun _ => 0)

def quiescent_KZs [hKZs : Cert.KZs.Facts] : Prop :=
  ∀ (m : (ℓ : Loc Cert.KZs.nD Cert.KZs.τ Cert.KZs.sig) → Buf (Elt Bits) ℓ) (g : Dev Cert.KZs.nD → PrngReg), Pre_KZs m →
    θ_run (Cert.KZs.defs (F := Bits)) (onTc (τ := Cert.KZs.τ) (Cert.KZs.main (F := Bits))) ⟨m, fun _ => 0, g⟩ (fun r => (∀ c : Dev Cert.KZs.nD,
      r.2.mem ((c.tc : Thread Cert.KZs.nD Cert.KZs.τ).loc Cert.KZs.main_arg0) = m ((c.tc : Thread Cert.KZs.nD Cert.KZs.τ).loc Cert.KZs.main_arg0)
      ∧ r.2.mem ((c.tc : Thread Cert.KZs.nD Cert.KZs.τ).loc Cert.KZs.main_arg1) = m ((c.tc : Thread Cert.KZs.nD Cert.KZs.τ).loc Cert.KZs.main_arg1)
      ∧ r.2.mem ((c.tc : Thread Cert.KZs.nD Cert.KZs.τ).loc Cert.KZs.main_arg2) = m ((c.tc : Thread Cert.KZs.nD Cert.KZs.τ).loc Cert.KZs.main_arg2))
      ∧ r.2.sem = fun _ => 0)

def quiescent_KZsIdeal [hKZsIdeal : Cert.KZsIdeal.Facts] : Prop :=
  ∀ (m : (ℓ : Loc Cert.KZsIdeal.nD Cert.KZsIdeal.τ Cert.KZsIdeal.sig) → Buf (Elt Ideal) ℓ) (g : Dev Cert.KZsIdeal.nD → PrngReg), Pre_KZsIdeal m →
    θ_run (Cert.KZsIdeal.defs (F := Ideal)) (onTc (τ := Cert.KZsIdeal.τ) (Cert.KZsIdeal.main (F := Ideal))) ⟨m, fun _ => 0, g⟩ (fun r => (∀ c : Dev Cert.KZsIdeal.nD,
      r.2.mem ((c.tc : Thread Cert.KZsIdeal.nD Cert.KZsIdeal.τ).loc Cert.KZsIdeal.main_arg0) = m ((c.tc : Thread Cert.KZsIdeal.nD Cert.KZsIdeal.τ).loc Cert.KZsIdeal.main_arg0)
      ∧ r.2.mem ((c.tc : Thread Cert.KZsIdeal.nD Cert.KZsIdeal.τ).loc Cert.KZsIdeal.main_arg1) = m ((c.tc : Thread Cert.KZsIdeal.nD Cert.KZsIdeal.τ).loc Cert.KZsIdeal.main_arg1)
      ∧ r.2.mem ((c.tc : Thread Cert.KZsIdeal.nD Cert.KZsIdeal.τ).loc Cert.KZsIdeal.main_arg2) = m ((c.tc : Thread Cert.KZsIdeal.nD Cert.KZsIdeal.τ).loc Cert.KZsIdeal.main_arg2))
      ∧ r.2.sem = fun _ => 0)

def quiescent_RZsIdeal [hRZsIdeal : Cert.RZsIdeal.Facts] : Prop :=
  ∀ (m : (ℓ : Loc Cert.RZsIdeal.nD Cert.RZsIdeal.τ Cert.RZsIdeal.sig) → Buf (Elt Ideal) ℓ) (g : Dev Cert.RZsIdeal.nD → PrngReg), Pre_RZsIdeal m →
    θ_run (Cert.RZsIdeal.defs (F := Ideal)) (onTc (τ := Cert.RZsIdeal.τ) (Cert.RZsIdeal.main (F := Ideal))) ⟨m, fun _ => 0, g⟩ (fun r => (∀ c : Dev Cert.RZsIdeal.nD,
      r.2.mem ((c.tc : Thread Cert.RZsIdeal.nD Cert.RZsIdeal.τ).loc Cert.RZsIdeal.main_arg0) = m ((c.tc : Thread Cert.RZsIdeal.nD Cert.RZsIdeal.τ).loc Cert.RZsIdeal.main_arg0)
      ∧ r.2.mem ((c.tc : Thread Cert.RZsIdeal.nD Cert.RZsIdeal.τ).loc Cert.RZsIdeal.main_arg1) = m ((c.tc : Thread Cert.RZsIdeal.nD Cert.RZsIdeal.τ).loc Cert.RZsIdeal.main_arg1)
      ∧ r.2.mem ((c.tc : Thread Cert.RZsIdeal.nD Cert.RZsIdeal.τ).loc Cert.RZsIdeal.main_arg2) = m ((c.tc : Thread Cert.RZsIdeal.nD Cert.RZsIdeal.τ).loc Cert.RZsIdeal.main_arg2))
      ∧ r.2.sem = fun _ => 0)

def quiescent_KZp [hKZp : Cert.KZp.Facts] : Prop :=
  ∀ (m : (ℓ : Loc Cert.KZp.nD Cert.KZp.τ Cert.KZp.sig) → Buf (Elt Bits) ℓ) (g : Dev Cert.KZp.nD → PrngReg), Pre_KZp m →
    θ_run (Cert.KZp.defs (F := Bits)) (onTc (τ := Cert.KZp.τ) (Cert.KZp.main (F := Bits))) ⟨m, fun _ => 0, g⟩ (fun r => (∀ c : Dev Cert.KZp.nD,
      r.2.mem ((c.tc : Thread Cert.KZp.nD Cert.KZp.τ).loc Cert.KZp.main_arg0) = m ((c.tc : Thread Cert.KZp.nD Cert.KZp.τ).loc Cert.KZp.main_arg0)
      ∧ r.2.mem ((c.tc : Thread Cert.KZp.nD Cert.KZp.τ).loc Cert.KZp.main_arg1) = m ((c.tc : Thread Cert.KZp.nD Cert.KZp.τ).loc Cert.KZp.main_arg1)
      ∧ r.2.mem ((c.tc : Thread Cert.KZp.nD Cert.KZp.τ).loc Cert.KZp.main_arg2) = m ((c.tc : Thread Cert.KZp.nD Cert.KZp.τ).loc Cert.KZp.main_arg2))
      ∧ r.2.sem = fun _ => 0)

def quiescent_KZpIdeal [hKZpIdeal : Cert.KZpIdeal.Facts] : Prop :=
  ∀ (m : (ℓ : Loc Cert.KZpIdeal.nD Cert.KZpIdeal.τ Cert.KZpIdeal.sig) → Buf (Elt Ideal) ℓ) (g : Dev Cert.KZpIdeal.nD → PrngReg), Pre_KZpIdeal m →
    θ_run (Cert.KZpIdeal.defs (F := Ideal)) (onTc (τ := Cert.KZpIdeal.τ) (Cert.KZpIdeal.main (F := Ideal))) ⟨m, fun _ => 0, g⟩ (fun r => (∀ c : Dev Cert.KZpIdeal.nD,
      r.2.mem ((c.tc : Thread Cert.KZpIdeal.nD Cert.KZpIdeal.τ).loc Cert.KZpIdeal.main_arg0) = m ((c.tc : Thread Cert.KZpIdeal.nD Cert.KZpIdeal.τ).loc Cert.KZpIdeal.main_arg0)
      ∧ r.2.mem ((c.tc : Thread Cert.KZpIdeal.nD Cert.KZpIdeal.τ).loc Cert.KZpIdeal.main_arg1) = m ((c.tc : Thread Cert.KZpIdeal.nD Cert.KZpIdeal.τ).loc Cert.KZpIdeal.main_arg1)
      ∧ r.2.mem ((c.tc : Thread Cert.KZpIdeal.nD Cert.KZpIdeal.τ).loc Cert.KZpIdeal.main_arg2) = m ((c.tc : Thread Cert.KZpIdeal.nD Cert.KZpIdeal.τ).loc Cert.KZpIdeal.main_arg2))
      ∧ r.2.sem = fun _ => 0)

def quiescent_RZpIdeal [hRZpIdeal : Cert.RZpIdeal.Facts] : Prop :=
  ∀ (m : (ℓ : Loc Cert.RZpIdeal.nD Cert.RZpIdeal.τ Cert.RZpIdeal.sig) → Buf (Elt Ideal) ℓ) (g : Dev Cert.RZpIdeal.nD → PrngReg), Pre_RZpIdeal m →
    θ_run (Cert.RZpIdeal.defs (F := Ideal)) (onTc (τ := Cert.RZpIdeal.τ) (Cert.RZpIdeal.main (F := Ideal))) ⟨m, fun _ => 0, g⟩ (fun r => (∀ c : Dev Cert.RZpIdeal.nD,
      r.2.mem ((c.tc : Thread Cert.RZpIdeal.nD Cert.RZpIdeal.τ).loc Cert.RZpIdeal.main_arg0) = m ((c.tc : Thread Cert.RZpIdeal.nD Cert.RZpIdeal.τ).loc Cert.RZpIdeal.main_arg0)
      ∧ r.2.mem ((c.tc : Thread Cert.RZpIdeal.nD Cert.RZpIdeal.τ).loc Cert.RZpIdeal.main_arg1) = m ((c.tc : Thread Cert.RZpIdeal.nD Cert.RZpIdeal.τ).loc Cert.RZpIdeal.main_arg1)
      ∧ r.2.mem ((c.tc : Thread Cert.RZpIdeal.nD Cert.RZpIdeal.τ).loc Cert.RZpIdeal.main_arg2) = m ((c.tc : Thread Cert.RZpIdeal.nD Cert.RZpIdeal.τ).loc Cert.RZpIdeal.main_arg2))
      ∧ r.2.sem = fun _ => 0)

def quiescent_KOut [hKOut : Cert.KOut.Facts] : Prop :=
  ∀ (m : (ℓ : Loc Cert.KOut.nD Cert.KOut.τ Cert.KOut.sig) → Buf (Elt Bits) ℓ) (g : Dev Cert.KOut.nD → PrngReg), Pre_KOut m →
    θ_run (Cert.KOut.defs (F := Bits)) (onTc (τ := Cert.KOut.τ) (Cert.KOut.main (F := Bits))) ⟨m, fun _ => 0, g⟩ (fun r => (∀ c : Dev Cert.KOut.nD,
      r.2.mem ((c.tc : Thread Cert.KOut.nD Cert.KOut.τ).loc Cert.KOut.main_arg0) = m ((c.tc : Thread Cert.KOut.nD Cert.KOut.τ).loc Cert.KOut.main_arg0)
      ∧ r.2.mem ((c.tc : Thread Cert.KOut.nD Cert.KOut.τ).loc Cert.KOut.main_arg1) = m ((c.tc : Thread Cert.KOut.nD Cert.KOut.τ).loc Cert.KOut.main_arg1)
      ∧ r.2.mem ((c.tc : Thread Cert.KOut.nD Cert.KOut.τ).loc Cert.KOut.main_arg2) = m ((c.tc : Thread Cert.KOut.nD Cert.KOut.τ).loc Cert.KOut.main_arg2)
      ∧ r.2.mem ((c.tc : Thread Cert.KOut.nD Cert.KOut.τ).loc Cert.KOut.main_arg3) = m ((c.tc : Thread Cert.KOut.nD Cert.KOut.τ).loc Cert.KOut.main_arg3)
      ∧ r.2.mem ((c.tc : Thread Cert.KOut.nD Cert.KOut.τ).loc Cert.KOut.main_arg4) = m ((c.tc : Thread Cert.KOut.nD Cert.KOut.τ).loc Cert.KOut.main_arg4)
      ∧ r.2.mem ((c.tc : Thread Cert.KOut.nD Cert.KOut.τ).loc Cert.KOut.main_arg5) = m ((c.tc : Thread Cert.KOut.nD Cert.KOut.τ).loc Cert.KOut.main_arg5))
      ∧ r.2.sem = fun _ => 0)

def quiescent_KOutIdeal [hKOutIdeal : Cert.KOutIdeal.Facts] : Prop :=
  ∀ (m : (ℓ : Loc Cert.KOutIdeal.nD Cert.KOutIdeal.τ Cert.KOutIdeal.sig) → Buf (Elt Ideal) ℓ) (g : Dev Cert.KOutIdeal.nD → PrngReg), Pre_KOutIdeal m →
    θ_run (Cert.KOutIdeal.defs (F := Ideal)) (onTc (τ := Cert.KOutIdeal.τ) (Cert.KOutIdeal.main (F := Ideal))) ⟨m, fun _ => 0, g⟩ (fun r => (∀ c : Dev Cert.KOutIdeal.nD,
      r.2.mem ((c.tc : Thread Cert.KOutIdeal.nD Cert.KOutIdeal.τ).loc Cert.KOutIdeal.main_arg0) = m ((c.tc : Thread Cert.KOutIdeal.nD Cert.KOutIdeal.τ).loc Cert.KOutIdeal.main_arg0)
      ∧ r.2.mem ((c.tc : Thread Cert.KOutIdeal.nD Cert.KOutIdeal.τ).loc Cert.KOutIdeal.main_arg1) = m ((c.tc : Thread Cert.KOutIdeal.nD Cert.KOutIdeal.τ).loc Cert.KOutIdeal.main_arg1)
      ∧ r.2.mem ((c.tc : Thread Cert.KOutIdeal.nD Cert.KOutIdeal.τ).loc Cert.KOutIdeal.main_arg2) = m ((c.tc : Thread Cert.KOutIdeal.nD Cert.KOutIdeal.τ).loc Cert.KOutIdeal.main_arg2)
      ∧ r.2.mem ((c.tc : Thread Cert.KOutIdeal.nD Cert.KOutIdeal.τ).loc Cert.KOutIdeal.main_arg3) = m ((c.tc : Thread Cert.KOutIdeal.nD Cert.KOutIdeal.τ).loc Cert.KOutIdeal.main_arg3)
      ∧ r.2.mem ((c.tc : Thread Cert.KOutIdeal.nD Cert.KOutIdeal.τ).loc Cert.KOutIdeal.main_arg4) = m ((c.tc : Thread Cert.KOutIdeal.nD Cert.KOutIdeal.τ).loc Cert.KOutIdeal.main_arg4)
      ∧ r.2.mem ((c.tc : Thread Cert.KOutIdeal.nD Cert.KOutIdeal.τ).loc Cert.KOutIdeal.main_arg5) = m ((c.tc : Thread Cert.KOutIdeal.nD Cert.KOutIdeal.τ).loc Cert.KOutIdeal.main_arg5))
      ∧ r.2.sem = fun _ => 0)

def quiescent_ROutIdeal [hROutIdeal : Cert.ROutIdeal.Facts] : Prop :=
  ∀ (m : (ℓ : Loc Cert.ROutIdeal.nD Cert.ROutIdeal.τ Cert.ROutIdeal.sig) → Buf (Elt Ideal) ℓ) (g : Dev Cert.ROutIdeal.nD → PrngReg), Pre_ROutIdeal m →
    θ_run (Cert.ROutIdeal.defs (F := Ideal)) (onTc (τ := Cert.ROutIdeal.τ) (Cert.ROutIdeal.main (F := Ideal))) ⟨m, fun _ => 0, g⟩ (fun r => (∀ c : Dev Cert.ROutIdeal.nD,
      r.2.mem ((c.tc : Thread Cert.ROutIdeal.nD Cert.ROutIdeal.τ).loc Cert.ROutIdeal.main_arg0) = m ((c.tc : Thread Cert.ROutIdeal.nD Cert.ROutIdeal.τ).loc Cert.ROutIdeal.main_arg0)
      ∧ r.2.mem ((c.tc : Thread Cert.ROutIdeal.nD Cert.ROutIdeal.τ).loc Cert.ROutIdeal.main_arg1) = m ((c.tc : Thread Cert.ROutIdeal.nD Cert.ROutIdeal.τ).loc Cert.ROutIdeal.main_arg1)
      ∧ r.2.mem ((c.tc : Thread Cert.ROutIdeal.nD Cert.ROutIdeal.τ).loc Cert.ROutIdeal.main_arg2) = m ((c.tc : Thread Cert.ROutIdeal.nD Cert.ROutIdeal.τ).loc Cert.ROutIdeal.main_arg2)
      ∧ r.2.mem ((c.tc : Thread Cert.ROutIdeal.nD Cert.ROutIdeal.τ).loc Cert.ROutIdeal.main_arg3) = m ((c.tc : Thread Cert.ROutIdeal.nD Cert.ROutIdeal.τ).loc Cert.ROutIdeal.main_arg3)
      ∧ r.2.mem ((c.tc : Thread Cert.ROutIdeal.nD Cert.ROutIdeal.τ).loc Cert.ROutIdeal.main_arg4) = m ((c.tc : Thread Cert.ROutIdeal.nD Cert.ROutIdeal.τ).loc Cert.ROutIdeal.main_arg4)
      ∧ r.2.mem ((c.tc : Thread Cert.ROutIdeal.nD Cert.ROutIdeal.τ).loc Cert.ROutIdeal.main_arg5) = m ((c.tc : Thread Cert.ROutIdeal.nD Cert.ROutIdeal.τ).loc Cert.ROutIdeal.main_arg5))
      ∧ r.2.sem = fun _ => 0)

def quiescent_KUpS [hKUpS : Cert.KUpS.Facts] : Prop :=
  ∀ (m : (ℓ : Loc Cert.KUpS.nD Cert.KUpS.τ Cert.KUpS.sig) → Buf (Elt Bits) ℓ) (g : Dev Cert.KUpS.nD → PrngReg), Pre_KUpS m →
    θ_run (Cert.KUpS.defs (F := Bits)) (onTc (τ := Cert.KUpS.τ) (Cert.KUpS.main (F := Bits))) ⟨m, fun _ => 0, g⟩ (fun r => (∀ c : Dev Cert.KUpS.nD,
      r.2.mem ((c.tc : Thread Cert.KUpS.nD Cert.KUpS.τ).loc Cert.KUpS.main_arg0) = m ((c.tc : Thread Cert.KUpS.nD Cert.KUpS.τ).loc Cert.KUpS.main_arg0)
      ∧ r.2.mem ((c.tc : Thread Cert.KUpS.nD Cert.KUpS.τ).loc Cert.KUpS.main_arg1) = m ((c.tc : Thread Cert.KUpS.nD Cert.KUpS.τ).loc Cert.KUpS.main_arg1))
      ∧ r.2.sem = fun _ => 0)

def quiescent_KUpSIdeal [hKUpSIdeal : Cert.KUpSIdeal.Facts] : Prop :=
  ∀ (m : (ℓ : Loc Cert.KUpSIdeal.nD Cert.KUpSIdeal.τ Cert.KUpSIdeal.sig) → Buf (Elt Ideal) ℓ) (g : Dev Cert.KUpSIdeal.nD → PrngReg), Pre_KUpSIdeal m →
    θ_run (Cert.KUpSIdeal.defs (F := Ideal)) (onTc (τ := Cert.KUpSIdeal.τ) (Cert.KUpSIdeal.main (F := Ideal))) ⟨m, fun _ => 0, g⟩ (fun r => (∀ c : Dev Cert.KUpSIdeal.nD,
      r.2.mem ((c.tc : Thread Cert.KUpSIdeal.nD Cert.KUpSIdeal.τ).loc Cert.KUpSIdeal.main_arg0) = m ((c.tc : Thread Cert.KUpSIdeal.nD Cert.KUpSIdeal.τ).loc Cert.KUpSIdeal.main_arg0)
      ∧ r.2.mem ((c.tc : Thread Cert.KUpSIdeal.nD Cert.KUpSIdeal.τ).loc Cert.KUpSIdeal.main_arg1) = m ((c.tc : Thread Cert.KUpSIdeal.nD Cert.KUpSIdeal.τ).loc Cert.KUpSIdeal.main_arg1))
      ∧ r.2.sem = fun _ => 0)

def quiescent_RUpSIdeal [hRUpSIdeal : Cert.RUpSIdeal.Facts] : Prop :=
  ∀ (m : (ℓ : Loc Cert.RUpSIdeal.nD Cert.RUpSIdeal.τ Cert.RUpSIdeal.sig) → Buf (Elt Ideal) ℓ) (g : Dev Cert.RUpSIdeal.nD → PrngReg), Pre_RUpSIdeal m →
    θ_run (Cert.RUpSIdeal.defs (F := Ideal)) (onTc (τ := Cert.RUpSIdeal.τ) (Cert.RUpSIdeal.main (F := Ideal))) ⟨m, fun _ => 0, g⟩ (fun r => (∀ c : Dev Cert.RUpSIdeal.nD,
      r.2.mem ((c.tc : Thread Cert.RUpSIdeal.nD Cert.RUpSIdeal.τ).loc Cert.RUpSIdeal.main_arg0) = m ((c.tc : Thread Cert.RUpSIdeal.nD Cert.RUpSIdeal.τ).loc Cert.RUpSIdeal.main_arg0)
      ∧ r.2.mem ((c.tc : Thread Cert.RUpSIdeal.nD Cert.RUpSIdeal.τ).loc Cert.RUpSIdeal.main_arg1) = m ((c.tc : Thread Cert.RUpSIdeal.nD Cert.RUpSIdeal.τ).loc Cert.RUpSIdeal.main_arg1))
      ∧ r.2.sem = fun _ => 0)

def quiescent_KDownS [hKDownS : Cert.KDownS.Facts] : Prop :=
  ∀ (m : (ℓ : Loc Cert.KDownS.nD Cert.KDownS.τ Cert.KDownS.sig) → Buf (Elt Bits) ℓ) (g : Dev Cert.KDownS.nD → PrngReg), Pre_KDownS m →
    θ_run (Cert.KDownS.defs (F := Bits)) (onTc (τ := Cert.KDownS.τ) (Cert.KDownS.main (F := Bits))) ⟨m, fun _ => 0, g⟩ (fun r => (∀ c : Dev Cert.KDownS.nD,
      r.2.mem ((c.tc : Thread Cert.KDownS.nD Cert.KDownS.τ).loc Cert.KDownS.main_arg0) = m ((c.tc : Thread Cert.KDownS.nD Cert.KDownS.τ).loc Cert.KDownS.main_arg0)
      ∧ r.2.mem ((c.tc : Thread Cert.KDownS.nD Cert.KDownS.τ).loc Cert.KDownS.main_arg1) = m ((c.tc : Thread Cert.KDownS.nD Cert.KDownS.τ).loc Cert.KDownS.main_arg1)
      ∧ r.2.mem ((c.tc : Thread Cert.KDownS.nD Cert.KDownS.τ).loc Cert.KDownS.main_arg2) = m ((c.tc : Thread Cert.KDownS.nD Cert.KDownS.τ).loc Cert.KDownS.main_arg2)
      ∧ r.2.mem ((c.tc : Thread Cert.KDownS.nD Cert.KDownS.τ).loc Cert.KDownS.main_arg3) = m ((c.tc : Thread Cert.KDownS.nD Cert.KDownS.τ).loc Cert.KDownS.main_arg3))
      ∧ r.2.sem = fun _ => 0)

def quiescent_KDownSIdeal [hKDownSIdeal : Cert.KDownSIdeal.Facts] : Prop :=
  ∀ (m : (ℓ : Loc Cert.KDownSIdeal.nD Cert.KDownSIdeal.τ Cert.KDownSIdeal.sig) → Buf (Elt Ideal) ℓ) (g : Dev Cert.KDownSIdeal.nD → PrngReg), Pre_KDownSIdeal m →
    θ_run (Cert.KDownSIdeal.defs (F := Ideal)) (onTc (τ := Cert.KDownSIdeal.τ) (Cert.KDownSIdeal.main (F := Ideal))) ⟨m, fun _ => 0, g⟩ (fun r => (∀ c : Dev Cert.KDownSIdeal.nD,
      r.2.mem ((c.tc : Thread Cert.KDownSIdeal.nD Cert.KDownSIdeal.τ).loc Cert.KDownSIdeal.main_arg0) = m ((c.tc : Thread Cert.KDownSIdeal.nD Cert.KDownSIdeal.τ).loc Cert.KDownSIdeal.main_arg0)
      ∧ r.2.mem ((c.tc : Thread Cert.KDownSIdeal.nD Cert.KDownSIdeal.τ).loc Cert.KDownSIdeal.main_arg1) = m ((c.tc : Thread Cert.KDownSIdeal.nD Cert.KDownSIdeal.τ).loc Cert.KDownSIdeal.main_arg1)
      ∧ r.2.mem ((c.tc : Thread Cert.KDownSIdeal.nD Cert.KDownSIdeal.τ).loc Cert.KDownSIdeal.main_arg2) = m ((c.tc : Thread Cert.KDownSIdeal.nD Cert.KDownSIdeal.τ).loc Cert.KDownSIdeal.main_arg2)
      ∧ r.2.mem ((c.tc : Thread Cert.KDownSIdeal.nD Cert.KDownSIdeal.τ).loc Cert.KDownSIdeal.main_arg3) = m ((c.tc : Thread Cert.KDownSIdeal.nD Cert.KDownSIdeal.τ).loc Cert.KDownSIdeal.main_arg3))
      ∧ r.2.sem = fun _ => 0)

def quiescent_RDownSIdeal [hRDownSIdeal : Cert.RDownSIdeal.Facts] : Prop :=
  ∀ (m : (ℓ : Loc Cert.RDownSIdeal.nD Cert.RDownSIdeal.τ Cert.RDownSIdeal.sig) → Buf (Elt Ideal) ℓ) (g : Dev Cert.RDownSIdeal.nD → PrngReg), Pre_RDownSIdeal m →
    θ_run (Cert.RDownSIdeal.defs (F := Ideal)) (onTc (τ := Cert.RDownSIdeal.τ) (Cert.RDownSIdeal.main (F := Ideal))) ⟨m, fun _ => 0, g⟩ (fun r => (∀ c : Dev Cert.RDownSIdeal.nD,
      r.2.mem ((c.tc : Thread Cert.RDownSIdeal.nD Cert.RDownSIdeal.τ).loc Cert.RDownSIdeal.main_arg0) = m ((c.tc : Thread Cert.RDownSIdeal.nD Cert.RDownSIdeal.τ).loc Cert.RDownSIdeal.main_arg0)
      ∧ r.2.mem ((c.tc : Thread Cert.RDownSIdeal.nD Cert.RDownSIdeal.τ).loc Cert.RDownSIdeal.main_arg1) = m ((c.tc : Thread Cert.RDownSIdeal.nD Cert.RDownSIdeal.τ).loc Cert.RDownSIdeal.main_arg1)
      ∧ r.2.mem ((c.tc : Thread Cert.RDownSIdeal.nD Cert.RDownSIdeal.τ).loc Cert.RDownSIdeal.main_arg2) = m ((c.tc : Thread Cert.RDownSIdeal.nD Cert.RDownSIdeal.τ).loc Cert.RDownSIdeal.main_arg2)
      ∧ r.2.mem ((c.tc : Thread Cert.RDownSIdeal.nD Cert.RDownSIdeal.τ).loc Cert.RDownSIdeal.main_arg3) = m ((c.tc : Thread Cert.RDownSIdeal.nD Cert.RDownSIdeal.τ).loc Cert.RDownSIdeal.main_arg3))
      ∧ r.2.sem = fun _ => 0)

def quiescent_KOutS [hKOutS : Cert.KOutS.Facts] : Prop :=
  ∀ (m : (ℓ : Loc Cert.KOutS.nD Cert.KOutS.τ Cert.KOutS.sig) → Buf (Elt Bits) ℓ) (g : Dev Cert.KOutS.nD → PrngReg), Pre_KOutS m →
    θ_run (Cert.KOutS.defs (F := Bits)) (onTc (τ := Cert.KOutS.τ) (Cert.KOutS.main (F := Bits))) ⟨m, fun _ => 0, g⟩ (fun r => (∀ c : Dev Cert.KOutS.nD,
      r.2.mem ((c.tc : Thread Cert.KOutS.nD Cert.KOutS.τ).loc Cert.KOutS.main_arg0) = m ((c.tc : Thread Cert.KOutS.nD Cert.KOutS.τ).loc Cert.KOutS.main_arg0)
      ∧ r.2.mem ((c.tc : Thread Cert.KOutS.nD Cert.KOutS.τ).loc Cert.KOutS.main_arg1) = m ((c.tc : Thread Cert.KOutS.nD Cert.KOutS.τ).loc Cert.KOutS.main_arg1)
      ∧ r.2.mem ((c.tc : Thread Cert.KOutS.nD Cert.KOutS.τ).loc Cert.KOutS.main_arg2) = m ((c.tc : Thread Cert.KOutS.nD Cert.KOutS.τ).loc Cert.KOutS.main_arg2)
      ∧ r.2.mem ((c.tc : Thread Cert.KOutS.nD Cert.KOutS.τ).loc Cert.KOutS.main_arg3) = m ((c.tc : Thread Cert.KOutS.nD Cert.KOutS.τ).loc Cert.KOutS.main_arg3)
      ∧ r.2.mem ((c.tc : Thread Cert.KOutS.nD Cert.KOutS.τ).loc Cert.KOutS.main_arg4) = m ((c.tc : Thread Cert.KOutS.nD Cert.KOutS.τ).loc Cert.KOutS.main_arg4)
      ∧ r.2.mem ((c.tc : Thread Cert.KOutS.nD Cert.KOutS.τ).loc Cert.KOutS.main_arg5) = m ((c.tc : Thread Cert.KOutS.nD Cert.KOutS.τ).loc Cert.KOutS.main_arg5))
      ∧ r.2.sem = fun _ => 0)

def quiescent_KOutSIdeal [hKOutSIdeal : Cert.KOutSIdeal.Facts] : Prop :=
  ∀ (m : (ℓ : Loc Cert.KOutSIdeal.nD Cert.KOutSIdeal.τ Cert.KOutSIdeal.sig) → Buf (Elt Ideal) ℓ) (g : Dev Cert.KOutSIdeal.nD → PrngReg), Pre_KOutSIdeal m →
    θ_run (Cert.KOutSIdeal.defs (F := Ideal)) (onTc (τ := Cert.KOutSIdeal.τ) (Cert.KOutSIdeal.main (F := Ideal))) ⟨m, fun _ => 0, g⟩ (fun r => (∀ c : Dev Cert.KOutSIdeal.nD,
      r.2.mem ((c.tc : Thread Cert.KOutSIdeal.nD Cert.KOutSIdeal.τ).loc Cert.KOutSIdeal.main_arg0) = m ((c.tc : Thread Cert.KOutSIdeal.nD Cert.KOutSIdeal.τ).loc Cert.KOutSIdeal.main_arg0)
      ∧ r.2.mem ((c.tc : Thread Cert.KOutSIdeal.nD Cert.KOutSIdeal.τ).loc Cert.KOutSIdeal.main_arg1) = m ((c.tc : Thread Cert.KOutSIdeal.nD Cert.KOutSIdeal.τ).loc Cert.KOutSIdeal.main_arg1)
      ∧ r.2.mem ((c.tc : Thread Cert.KOutSIdeal.nD Cert.KOutSIdeal.τ).loc Cert.KOutSIdeal.main_arg2) = m ((c.tc : Thread Cert.KOutSIdeal.nD Cert.KOutSIdeal.τ).loc Cert.KOutSIdeal.main_arg2)
      ∧ r.2.mem ((c.tc : Thread Cert.KOutSIdeal.nD Cert.KOutSIdeal.τ).loc Cert.KOutSIdeal.main_arg3) = m ((c.tc : Thread Cert.KOutSIdeal.nD Cert.KOutSIdeal.τ).loc Cert.KOutSIdeal.main_arg3)
      ∧ r.2.mem ((c.tc : Thread Cert.KOutSIdeal.nD Cert.KOutSIdeal.τ).loc Cert.KOutSIdeal.main_arg4) = m ((c.tc : Thread Cert.KOutSIdeal.nD Cert.KOutSIdeal.τ).loc Cert.KOutSIdeal.main_arg4)
      ∧ r.2.mem ((c.tc : Thread Cert.KOutSIdeal.nD Cert.KOutSIdeal.τ).loc Cert.KOutSIdeal.main_arg5) = m ((c.tc : Thread Cert.KOutSIdeal.nD Cert.KOutSIdeal.τ).loc Cert.KOutSIdeal.main_arg5))
      ∧ r.2.sem = fun _ => 0)

def quiescent_ROutSIdeal [hROutSIdeal : Cert.ROutSIdeal.Facts] : Prop :=
  ∀ (m : (ℓ : Loc Cert.ROutSIdeal.nD Cert.ROutSIdeal.τ Cert.ROutSIdeal.sig) → Buf (Elt Ideal) ℓ) (g : Dev Cert.ROutSIdeal.nD → PrngReg), Pre_ROutSIdeal m →
    θ_run (Cert.ROutSIdeal.defs (F := Ideal)) (onTc (τ := Cert.ROutSIdeal.τ) (Cert.ROutSIdeal.main (F := Ideal))) ⟨m, fun _ => 0, g⟩ (fun r => (∀ c : Dev Cert.ROutSIdeal.nD,
      r.2.mem ((c.tc : Thread Cert.ROutSIdeal.nD Cert.ROutSIdeal.τ).loc Cert.ROutSIdeal.main_arg0) = m ((c.tc : Thread Cert.ROutSIdeal.nD Cert.ROutSIdeal.τ).loc Cert.ROutSIdeal.main_arg0)
      ∧ r.2.mem ((c.tc : Thread Cert.ROutSIdeal.nD Cert.ROutSIdeal.τ).loc Cert.ROutSIdeal.main_arg1) = m ((c.tc : Thread Cert.ROutSIdeal.nD Cert.ROutSIdeal.τ).loc Cert.ROutSIdeal.main_arg1)
      ∧ r.2.mem ((c.tc : Thread Cert.ROutSIdeal.nD Cert.ROutSIdeal.τ).loc Cert.ROutSIdeal.main_arg2) = m ((c.tc : Thread Cert.ROutSIdeal.nD Cert.ROutSIdeal.τ).loc Cert.ROutSIdeal.main_arg2)
      ∧ r.2.mem ((c.tc : Thread Cert.ROutSIdeal.nD Cert.ROutSIdeal.τ).loc Cert.ROutSIdeal.main_arg3) = m ((c.tc : Thread Cert.ROutSIdeal.nD Cert.ROutSIdeal.τ).loc Cert.ROutSIdeal.main_arg3)
      ∧ r.2.mem ((c.tc : Thread Cert.ROutSIdeal.nD Cert.ROutSIdeal.τ).loc Cert.ROutSIdeal.main_arg4) = m ((c.tc : Thread Cert.ROutSIdeal.nD Cert.ROutSIdeal.τ).loc Cert.ROutSIdeal.main_arg4)
      ∧ r.2.mem ((c.tc : Thread Cert.ROutSIdeal.nD Cert.ROutSIdeal.τ).loc Cert.ROutSIdeal.main_arg5) = m ((c.tc : Thread Cert.ROutSIdeal.nD Cert.ROutSIdeal.τ).loc Cert.ROutSIdeal.main_arg5))
      ∧ r.2.sem = fun _ => 0)

def quiescent_KSel [hKSel : Cert.KSel.Facts] : Prop :=
  ∀ (m : (ℓ : Loc Cert.KSel.nD Cert.KSel.τ Cert.KSel.sig) → Buf (Elt Bits) ℓ) (g : Dev Cert.KSel.nD → PrngReg), Pre_KSel m →
    θ_run (Cert.KSel.defs (F := Bits)) (onTc (τ := Cert.KSel.τ) (Cert.KSel.main (F := Bits))) ⟨m, fun _ => 0, g⟩ (fun r => (∀ c : Dev Cert.KSel.nD,
      r.2.mem ((c.tc : Thread Cert.KSel.nD Cert.KSel.τ).loc Cert.KSel.main_arg0) = m ((c.tc : Thread Cert.KSel.nD Cert.KSel.τ).loc Cert.KSel.main_arg0)
      ∧ r.2.mem ((c.tc : Thread Cert.KSel.nD Cert.KSel.τ).loc Cert.KSel.main_arg1) = m ((c.tc : Thread Cert.KSel.nD Cert.KSel.τ).loc Cert.KSel.main_arg1))
      ∧ r.2.sem = fun _ => 0)

def quiescent_KSelIdeal [hKSelIdeal : Cert.KSelIdeal.Facts] : Prop :=
  ∀ (m : (ℓ : Loc Cert.KSelIdeal.nD Cert.KSelIdeal.τ Cert.KSelIdeal.sig) → Buf (Elt Ideal) ℓ) (g : Dev Cert.KSelIdeal.nD → PrngReg), Pre_KSelIdeal m →
    θ_run (Cert.KSelIdeal.defs (F := Ideal)) (onTc (τ := Cert.KSelIdeal.τ) (Cert.KSelIdeal.main (F := Ideal))) ⟨m, fun _ => 0, g⟩ (fun r => (∀ c : Dev Cert.KSelIdeal.nD,
      r.2.mem ((c.tc : Thread Cert.KSelIdeal.nD Cert.KSelIdeal.τ).loc Cert.KSelIdeal.main_arg0) = m ((c.tc : Thread Cert.KSelIdeal.nD Cert.KSelIdeal.τ).loc Cert.KSelIdeal.main_arg0)
      ∧ r.2.mem ((c.tc : Thread Cert.KSelIdeal.nD Cert.KSelIdeal.τ).loc Cert.KSelIdeal.main_arg1) = m ((c.tc : Thread Cert.KSelIdeal.nD Cert.KSelIdeal.τ).loc Cert.KSelIdeal.main_arg1))
      ∧ r.2.sem = fun _ => 0)

def quiescent_KSelIdeal_pre_select_inputs [hKSelIdeal : Cert.KSelIdeal.Facts] [hPre_select_inputs : Cert.Pre_select_inputs.Facts] : Prop :=
  ∀ (m : (ℓ : Loc Cert.KSelIdeal.nD Cert.KSelIdeal.τ Cert.KSelIdeal.sig) → Buf (Elt Ideal) ℓ) (g : Dev Cert.KSelIdeal.nD → PrngReg), Pre_KSelIdeal_select_inputs m →
    θ_run (Cert.KSelIdeal.defs (F := Ideal)) (onTc (τ := Cert.KSelIdeal.τ) (Cert.KSelIdeal.main (F := Ideal))) ⟨m, fun _ => 0, g⟩ (fun r => (∀ c : Dev Cert.KSelIdeal.nD,
      r.2.mem ((c.tc : Thread Cert.KSelIdeal.nD Cert.KSelIdeal.τ).loc Cert.KSelIdeal.main_arg0) = m ((c.tc : Thread Cert.KSelIdeal.nD Cert.KSelIdeal.τ).loc Cert.KSelIdeal.main_arg0)
      ∧ r.2.mem ((c.tc : Thread Cert.KSelIdeal.nD Cert.KSelIdeal.τ).loc Cert.KSelIdeal.main_arg1) = m ((c.tc : Thread Cert.KSelIdeal.nD Cert.KSelIdeal.τ).loc Cert.KSelIdeal.main_arg1))
      ∧ r.2.sem = fun _ => 0)

def quiescent_RSelIdeal [hRSelIdeal : Cert.RSelIdeal.Facts] : Prop :=
  ∀ (m : (ℓ : Loc Cert.RSelIdeal.nD Cert.RSelIdeal.τ Cert.RSelIdeal.sig) → Buf (Elt Ideal) ℓ) (g : Dev Cert.RSelIdeal.nD → PrngReg), Pre_RSelIdeal m →
    θ_run (Cert.RSelIdeal.defs (F := Ideal)) (onTc (τ := Cert.RSelIdeal.τ) (Cert.RSelIdeal.main (F := Ideal))) ⟨m, fun _ => 0, g⟩ (fun r => (∀ c : Dev Cert.RSelIdeal.nD,
      r.2.mem ((c.tc : Thread Cert.RSelIdeal.nD Cert.RSelIdeal.τ).loc Cert.RSelIdeal.main_arg0) = m ((c.tc : Thread Cert.RSelIdeal.nD Cert.RSelIdeal.τ).loc Cert.RSelIdeal.main_arg0)
      ∧ r.2.mem ((c.tc : Thread Cert.RSelIdeal.nD Cert.RSelIdeal.τ).loc Cert.RSelIdeal.main_arg1) = m ((c.tc : Thread Cert.RSelIdeal.nD Cert.RSelIdeal.τ).loc Cert.RSelIdeal.main_arg1))
      ∧ r.2.sem = fun _ => 0)

def quiescent_RSelIdeal_pre_select_inputs [hRSelIdeal : Cert.RSelIdeal.Facts] [hPre_select_inputs : Cert.Pre_select_inputs.Facts] : Prop :=
  ∀ (m : (ℓ : Loc Cert.RSelIdeal.nD Cert.RSelIdeal.τ Cert.RSelIdeal.sig) → Buf (Elt Ideal) ℓ) (g : Dev Cert.RSelIdeal.nD → PrngReg), Pre_RSelIdeal_select_inputs m →
    θ_run (Cert.RSelIdeal.defs (F := Ideal)) (onTc (τ := Cert.RSelIdeal.τ) (Cert.RSelIdeal.main (F := Ideal))) ⟨m, fun _ => 0, g⟩ (fun r => (∀ c : Dev Cert.RSelIdeal.nD,
      r.2.mem ((c.tc : Thread Cert.RSelIdeal.nD Cert.RSelIdeal.τ).loc Cert.RSelIdeal.main_arg0) = m ((c.tc : Thread Cert.RSelIdeal.nD Cert.RSelIdeal.τ).loc Cert.RSelIdeal.main_arg0)
      ∧ r.2.mem ((c.tc : Thread Cert.RSelIdeal.nD Cert.RSelIdeal.τ).loc Cert.RSelIdeal.main_arg1) = m ((c.tc : Thread Cert.RSelIdeal.nD Cert.RSelIdeal.τ).loc Cert.RSelIdeal.main_arg1))
      ∧ r.2.sem = fun _ => 0)

def preserves_Kernel_KernelIdeal : Prop :=
  True

def algebraic_KernelIdeal_ReferenceIdeal_pre_attend_inputs [hKernelIdeal : Cert.KernelIdeal.Facts] [hReferenceIdeal : Cert.ReferenceIdeal.Facts] [hPre_attend_inputs : Cert.Pre_attend_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attend_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_KUp_KUpIdeal : Prop :=
  True

def algebraic_KUpIdeal_RUpIdeal [hKUpIdeal : Cert.KUpIdeal.Facts] [hRUpIdeal : Cert.RUpIdeal.Facts] : Prop :=
  ∀ (m : (ℓ : Loc Cert.KUpIdeal.nD Cert.KUpIdeal.τ Cert.KUpIdeal.sig) → Buf (Elt Ideal) ℓ) (g : Dev Cert.KUpIdeal.nD → PrngReg)
    (m' : (ℓ : Loc Cert.RUpIdeal.nD Cert.RUpIdeal.τ Cert.RUpIdeal.sig) → Buf (Elt Ideal) ℓ) (g' : Dev Cert.RUpIdeal.nD → PrngReg), Pre_KUpIdeal m →
    (∀ c : Dev Cert.KUpIdeal.nD,
      m' ((c.tc : Thread Cert.RUpIdeal.nD Cert.RUpIdeal.τ).loc Cert.RUpIdeal.main_arg0) = m ((c.tc : Thread Cert.KUpIdeal.nD Cert.KUpIdeal.τ).loc Cert.KUpIdeal.main_arg0)
      ∧ m' ((c.tc : Thread Cert.RUpIdeal.nD Cert.RUpIdeal.τ).loc Cert.RUpIdeal.main_arg1) = m ((c.tc : Thread Cert.KUpIdeal.nD Cert.KUpIdeal.τ).loc Cert.KUpIdeal.main_arg1)) →
    ∃ (v0 : (c : Dev Cert.KUpIdeal.nD) → Buf (Elt Ideal) ((c.tc : Thread Cert.KUpIdeal.nD Cert.KUpIdeal.τ).loc Cert.KUpIdeal.main_v2)),
      θ_run (Cert.KUpIdeal.defs (F := Ideal)) (onTc (τ := Cert.KUpIdeal.τ) (Cert.KUpIdeal.main (F := Ideal))) ⟨m, fun _ => 0, g⟩ (fun r => ∀ c : Dev Cert.KUpIdeal.nD,
          r.2.mem ((c.tc : Thread Cert.KUpIdeal.nD Cert.KUpIdeal.τ).loc Cert.KUpIdeal.main_v2) = v0 c
          ∧ r.2.mem ((c.tc : Thread Cert.KUpIdeal.nD Cert.KUpIdeal.τ).loc Cert.KUpIdeal.main_arg0) = m ((c.tc : Thread Cert.KUpIdeal.nD Cert.KUpIdeal.τ).loc Cert.KUpIdeal.main_arg0)
          ∧ r.2.mem ((c.tc : Thread Cert.KUpIdeal.nD Cert.KUpIdeal.τ).loc Cert.KUpIdeal.main_arg1) = m ((c.tc : Thread Cert.KUpIdeal.nD Cert.KUpIdeal.τ).loc Cert.KUpIdeal.main_arg1))
      ∧ θ_run (Cert.RUpIdeal.defs (F := Ideal)) (onTc (τ := Cert.RUpIdeal.τ) (Cert.RUpIdeal.main (F := Ideal))) ⟨m', fun _ => 0, g'⟩ (fun r => ∀ c : Dev Cert.RUpIdeal.nD,
          r.2.mem ((c.tc : Thread Cert.RUpIdeal.nD Cert.RUpIdeal.τ).loc Cert.RUpIdeal.main_v5) = v0 c
          ∧ r.2.mem ((c.tc : Thread Cert.RUpIdeal.nD Cert.RUpIdeal.τ).loc Cert.RUpIdeal.main_arg0) = m' ((c.tc : Thread Cert.RUpIdeal.nD Cert.RUpIdeal.τ).loc Cert.RUpIdeal.main_arg0)
          ∧ r.2.mem ((c.tc : Thread Cert.RUpIdeal.nD Cert.RUpIdeal.τ).loc Cert.RUpIdeal.main_arg1) = m' ((c.tc : Thread Cert.RUpIdeal.nD Cert.RUpIdeal.τ).loc Cert.RUpIdeal.main_arg1))

def preserves_KDown_KDownIdeal : Prop :=
  True

def algebraic_KDownIdeal_RDownIdeal [hKDownIdeal : Cert.KDownIdeal.Facts] [hRDownIdeal : Cert.RDownIdeal.Facts] : Prop :=
  ∀ (m : (ℓ : Loc Cert.KDownIdeal.nD Cert.KDownIdeal.τ Cert.KDownIdeal.sig) → Buf (Elt Ideal) ℓ) (g : Dev Cert.KDownIdeal.nD → PrngReg)
    (m' : (ℓ : Loc Cert.RDownIdeal.nD Cert.RDownIdeal.τ Cert.RDownIdeal.sig) → Buf (Elt Ideal) ℓ) (g' : Dev Cert.RDownIdeal.nD → PrngReg), Pre_KDownIdeal m →
    (∀ c : Dev Cert.KDownIdeal.nD,
      m' ((c.tc : Thread Cert.RDownIdeal.nD Cert.RDownIdeal.τ).loc Cert.RDownIdeal.main_arg0) = m ((c.tc : Thread Cert.KDownIdeal.nD Cert.KDownIdeal.τ).loc Cert.KDownIdeal.main_arg0)
      ∧ m' ((c.tc : Thread Cert.RDownIdeal.nD Cert.RDownIdeal.τ).loc Cert.RDownIdeal.main_arg1) = m ((c.tc : Thread Cert.KDownIdeal.nD Cert.KDownIdeal.τ).loc Cert.KDownIdeal.main_arg1)
      ∧ m' ((c.tc : Thread Cert.RDownIdeal.nD Cert.RDownIdeal.τ).loc Cert.RDownIdeal.main_arg2) = m ((c.tc : Thread Cert.KDownIdeal.nD Cert.KDownIdeal.τ).loc Cert.KDownIdeal.main_arg2)
      ∧ m' ((c.tc : Thread Cert.RDownIdeal.nD Cert.RDownIdeal.τ).loc Cert.RDownIdeal.main_arg3) = m ((c.tc : Thread Cert.KDownIdeal.nD Cert.KDownIdeal.τ).loc Cert.KDownIdeal.main_arg3)) →
    ∃ (v0 : (c : Dev Cert.KDownIdeal.nD) → Buf (Elt Ideal) ((c.tc : Thread Cert.KDownIdeal.nD Cert.KDownIdeal.τ).loc Cert.KDownIdeal.main_v4)),
      θ_run (Cert.KDownIdeal.defs (F := Ideal)) (onTc (τ := Cert.KDownIdeal.τ) (Cert.KDownIdeal.main (F := Ideal))) ⟨m, fun _ => 0, g⟩ (fun r => ∀ c : Dev Cert.KDownIdeal.nD,
          r.2.mem ((c.tc : Thread Cert.KDownIdeal.nD Cert.KDownIdeal.τ).loc Cert.KDownIdeal.main_v4) = v0 c
          ∧ r.2.mem ((c.tc : Thread Cert.KDownIdeal.nD Cert.KDownIdeal.τ).loc Cert.KDownIdeal.main_arg0) = m ((c.tc : Thread Cert.KDownIdeal.nD Cert.KDownIdeal.τ).loc Cert.KDownIdeal.main_arg0)
          ∧ r.2.mem ((c.tc : Thread Cert.KDownIdeal.nD Cert.KDownIdeal.τ).loc Cert.KDownIdeal.main_arg1) = m ((c.tc : Thread Cert.KDownIdeal.nD Cert.KDownIdeal.τ).loc Cert.KDownIdeal.main_arg1)
          ∧ r.2.mem ((c.tc : Thread Cert.KDownIdeal.nD Cert.KDownIdeal.τ).loc Cert.KDownIdeal.main_arg2) = m ((c.tc : Thread Cert.KDownIdeal.nD Cert.KDownIdeal.τ).loc Cert.KDownIdeal.main_arg2)
          ∧ r.2.mem ((c.tc : Thread Cert.KDownIdeal.nD Cert.KDownIdeal.τ).loc Cert.KDownIdeal.main_arg3) = m ((c.tc : Thread Cert.KDownIdeal.nD Cert.KDownIdeal.τ).loc Cert.KDownIdeal.main_arg3))
      ∧ θ_run (Cert.RDownIdeal.defs (F := Ideal)) (onTc (τ := Cert.RDownIdeal.τ) (Cert.RDownIdeal.main (F := Ideal))) ⟨m', fun _ => 0, g'⟩ (fun r => ∀ c : Dev Cert.RDownIdeal.nD,
          r.2.mem ((c.tc : Thread Cert.RDownIdeal.nD Cert.RDownIdeal.τ).loc Cert.RDownIdeal.main_v17) = v0 c
          ∧ r.2.mem ((c.tc : Thread Cert.RDownIdeal.nD Cert.RDownIdeal.τ).loc Cert.RDownIdeal.main_arg0) = m' ((c.tc : Thread Cert.RDownIdeal.nD Cert.RDownIdeal.τ).loc Cert.RDownIdeal.main_arg0)
          ∧ r.2.mem ((c.tc : Thread Cert.RDownIdeal.nD Cert.RDownIdeal.τ).loc Cert.RDownIdeal.main_arg1) = m' ((c.tc : Thread Cert.RDownIdeal.nD Cert.RDownIdeal.τ).loc Cert.RDownIdeal.main_arg1)
          ∧ r.2.mem ((c.tc : Thread Cert.RDownIdeal.nD Cert.RDownIdeal.τ).loc Cert.RDownIdeal.main_arg2) = m' ((c.tc : Thread Cert.RDownIdeal.nD Cert.RDownIdeal.τ).loc Cert.RDownIdeal.main_arg2)
          ∧ r.2.mem ((c.tc : Thread Cert.RDownIdeal.nD Cert.RDownIdeal.τ).loc Cert.RDownIdeal.main_arg3) = m' ((c.tc : Thread Cert.RDownIdeal.nD Cert.RDownIdeal.τ).loc Cert.RDownIdeal.main_arg3))

def preserves_KProj_KProjIdeal : Prop :=
  True

def algebraic_KProjIdeal_RProjIdeal [hKProjIdeal : Cert.KProjIdeal.Facts] [hRProjIdeal : Cert.RProjIdeal.Facts] : Prop :=
  ∀ (m : (ℓ : Loc Cert.KProjIdeal.nD Cert.KProjIdeal.τ Cert.KProjIdeal.sig) → Buf (Elt Ideal) ℓ) (g : Dev Cert.KProjIdeal.nD → PrngReg)
    (m' : (ℓ : Loc Cert.RProjIdeal.nD Cert.RProjIdeal.τ Cert.RProjIdeal.sig) → Buf (Elt Ideal) ℓ) (g' : Dev Cert.RProjIdeal.nD → PrngReg), Pre_KProjIdeal m →
    (∀ c : Dev Cert.KProjIdeal.nD,
      m' ((c.tc : Thread Cert.RProjIdeal.nD Cert.RProjIdeal.τ).loc Cert.RProjIdeal.main_arg0) = m ((c.tc : Thread Cert.KProjIdeal.nD Cert.KProjIdeal.τ).loc Cert.KProjIdeal.main_arg0)
      ∧ m' ((c.tc : Thread Cert.RProjIdeal.nD Cert.RProjIdeal.τ).loc Cert.RProjIdeal.main_arg1) = m ((c.tc : Thread Cert.KProjIdeal.nD Cert.KProjIdeal.τ).loc Cert.KProjIdeal.main_arg1)
      ∧ m' ((c.tc : Thread Cert.RProjIdeal.nD Cert.RProjIdeal.τ).loc Cert.RProjIdeal.main_arg2) = m ((c.tc : Thread Cert.KProjIdeal.nD Cert.KProjIdeal.τ).loc Cert.KProjIdeal.main_arg2)) →
    ∃ (v0 : (c : Dev Cert.KProjIdeal.nD) → Buf (Elt Ideal) ((c.tc : Thread Cert.KProjIdeal.nD Cert.KProjIdeal.τ).loc Cert.KProjIdeal.main_v6_0)) (v1 : (c : Dev Cert.KProjIdeal.nD) → Buf (Elt Ideal) ((c.tc : Thread Cert.KProjIdeal.nD Cert.KProjIdeal.τ).loc Cert.KProjIdeal.main_v6_1)) (v2 : (c : Dev Cert.KProjIdeal.nD) → Buf (Elt Ideal) ((c.tc : Thread Cert.KProjIdeal.nD Cert.KProjIdeal.τ).loc Cert.KProjIdeal.main_v6_2)) (v3 : (c : Dev Cert.KProjIdeal.nD) → Buf (Elt Ideal) ((c.tc : Thread Cert.KProjIdeal.nD Cert.KProjIdeal.τ).loc Cert.KProjIdeal.main_v6_3)) (v4 : (c : Dev Cert.KProjIdeal.nD) → Buf (Elt Ideal) ((c.tc : Thread Cert.KProjIdeal.nD Cert.KProjIdeal.τ).loc Cert.KProjIdeal.main_v6_4)),
      θ_run (Cert.KProjIdeal.defs (F := Ideal)) (onTc (τ := Cert.KProjIdeal.τ) (Cert.KProjIdeal.main (F := Ideal))) ⟨m, fun _ => 0, g⟩ (fun r => ∀ c : Dev Cert.KProjIdeal.nD,
          r.2.mem ((c.tc : Thread Cert.KProjIdeal.nD Cert.KProjIdeal.τ).loc Cert.KProjIdeal.main_v6_0) = v0 c
          ∧ r.2.mem ((c.tc : Thread Cert.KProjIdeal.nD Cert.KProjIdeal.τ).loc Cert.KProjIdeal.main_v6_1) = v1 c
          ∧ r.2.mem ((c.tc : Thread Cert.KProjIdeal.nD Cert.KProjIdeal.τ).loc Cert.KProjIdeal.main_v6_2) = v2 c
          ∧ r.2.mem ((c.tc : Thread Cert.KProjIdeal.nD Cert.KProjIdeal.τ).loc Cert.KProjIdeal.main_v6_3) = v3 c
          ∧ r.2.mem ((c.tc : Thread Cert.KProjIdeal.nD Cert.KProjIdeal.τ).loc Cert.KProjIdeal.main_v6_4) = v4 c
          ∧ r.2.mem ((c.tc : Thread Cert.KProjIdeal.nD Cert.KProjIdeal.τ).loc Cert.KProjIdeal.main_arg0) = m ((c.tc : Thread Cert.KProjIdeal.nD Cert.KProjIdeal.τ).loc Cert.KProjIdeal.main_arg0)
          ∧ r.2.mem ((c.tc : Thread Cert.KProjIdeal.nD Cert.KProjIdeal.τ).loc Cert.KProjIdeal.main_arg1) = m ((c.tc : Thread Cert.KProjIdeal.nD Cert.KProjIdeal.τ).loc Cert.KProjIdeal.main_arg1)
          ∧ r.2.mem ((c.tc : Thread Cert.KProjIdeal.nD Cert.KProjIdeal.τ).loc Cert.KProjIdeal.main_arg2) = m ((c.tc : Thread Cert.KProjIdeal.nD Cert.KProjIdeal.τ).loc Cert.KProjIdeal.main_arg2))
      ∧ θ_run (Cert.RProjIdeal.defs (F := Ideal)) (onTc (τ := Cert.RProjIdeal.τ) (Cert.RProjIdeal.main (F := Ideal))) ⟨m', fun _ => 0, g'⟩ (fun r => ∀ c : Dev Cert.RProjIdeal.nD,
          r.2.mem ((c.tc : Thread Cert.RProjIdeal.nD Cert.RProjIdeal.τ).loc Cert.RProjIdeal.main_v18) = v0 c
          ∧ r.2.mem ((c.tc : Thread Cert.RProjIdeal.nD Cert.RProjIdeal.τ).loc Cert.RProjIdeal.main_v29) = v1 c
          ∧ r.2.mem ((c.tc : Thread Cert.RProjIdeal.nD Cert.RProjIdeal.τ).loc Cert.RProjIdeal.main_v31) = v2 c
          ∧ r.2.mem ((c.tc : Thread Cert.RProjIdeal.nD Cert.RProjIdeal.τ).loc Cert.RProjIdeal.main_v32) = v3 c
          ∧ r.2.mem ((c.tc : Thread Cert.RProjIdeal.nD Cert.RProjIdeal.τ).loc Cert.RProjIdeal.main_v35) = v4 c
          ∧ r.2.mem ((c.tc : Thread Cert.RProjIdeal.nD Cert.RProjIdeal.τ).loc Cert.RProjIdeal.main_arg0) = m' ((c.tc : Thread Cert.RProjIdeal.nD Cert.RProjIdeal.τ).loc Cert.RProjIdeal.main_arg0)
          ∧ r.2.mem ((c.tc : Thread Cert.RProjIdeal.nD Cert.RProjIdeal.τ).loc Cert.RProjIdeal.main_arg1) = m' ((c.tc : Thread Cert.RProjIdeal.nD Cert.RProjIdeal.τ).loc Cert.RProjIdeal.main_arg1)
          ∧ r.2.mem ((c.tc : Thread Cert.RProjIdeal.nD Cert.RProjIdeal.τ).loc Cert.RProjIdeal.main_arg2) = m' ((c.tc : Thread Cert.RProjIdeal.nD Cert.RProjIdeal.τ).loc Cert.RProjIdeal.main_arg2))

def preserves_KZm_KZmIdeal : Prop :=
  True

def algebraic_KZmIdeal_RZmIdeal [hKZmIdeal : Cert.KZmIdeal.Facts] [hRZmIdeal : Cert.RZmIdeal.Facts] : Prop :=
  ∀ (m : (ℓ : Loc Cert.KZmIdeal.nD Cert.KZmIdeal.τ Cert.KZmIdeal.sig) → Buf (Elt Ideal) ℓ) (g : Dev Cert.KZmIdeal.nD → PrngReg)
    (m' : (ℓ : Loc Cert.RZmIdeal.nD Cert.RZmIdeal.τ Cert.RZmIdeal.sig) → Buf (Elt Ideal) ℓ) (g' : Dev Cert.RZmIdeal.nD → PrngReg), Pre_KZmIdeal m →
    (∀ c : Dev Cert.KZmIdeal.nD,
      m' ((c.tc : Thread Cert.RZmIdeal.nD Cert.RZmIdeal.τ).loc Cert.RZmIdeal.main_arg0) = m ((c.tc : Thread Cert.KZmIdeal.nD Cert.KZmIdeal.τ).loc Cert.KZmIdeal.main_arg0)
      ∧ m' ((c.tc : Thread Cert.RZmIdeal.nD Cert.RZmIdeal.τ).loc Cert.RZmIdeal.main_arg1) = m ((c.tc : Thread Cert.KZmIdeal.nD Cert.KZmIdeal.τ).loc Cert.KZmIdeal.main_arg1)
      ∧ m' ((c.tc : Thread Cert.RZmIdeal.nD Cert.RZmIdeal.τ).loc Cert.RZmIdeal.main_arg2) = m ((c.tc : Thread Cert.KZmIdeal.nD Cert.KZmIdeal.τ).loc Cert.KZmIdeal.main_arg2)) →
    ∃ (v0 : (c : Dev Cert.KZmIdeal.nD) → Buf (Elt Ideal) ((c.tc : Thread Cert.KZmIdeal.nD Cert.KZmIdeal.τ).loc Cert.KZmIdeal.main_v6)),
      θ_run (Cert.KZmIdeal.defs (F := Ideal)) (onTc (τ := Cert.KZmIdeal.τ) (Cert.KZmIdeal.main (F := Ideal))) ⟨m, fun _ => 0, g⟩ (fun r => ∀ c : Dev Cert.KZmIdeal.nD,
          r.2.mem ((c.tc : Thread Cert.KZmIdeal.nD Cert.KZmIdeal.τ).loc Cert.KZmIdeal.main_v6) = v0 c
          ∧ r.2.mem ((c.tc : Thread Cert.KZmIdeal.nD Cert.KZmIdeal.τ).loc Cert.KZmIdeal.main_arg0) = m ((c.tc : Thread Cert.KZmIdeal.nD Cert.KZmIdeal.τ).loc Cert.KZmIdeal.main_arg0)
          ∧ r.2.mem ((c.tc : Thread Cert.KZmIdeal.nD Cert.KZmIdeal.τ).loc Cert.KZmIdeal.main_arg1) = m ((c.tc : Thread Cert.KZmIdeal.nD Cert.KZmIdeal.τ).loc Cert.KZmIdeal.main_arg1)
          ∧ r.2.mem ((c.tc : Thread Cert.KZmIdeal.nD Cert.KZmIdeal.τ).loc Cert.KZmIdeal.main_arg2) = m ((c.tc : Thread Cert.KZmIdeal.nD Cert.KZmIdeal.τ).loc Cert.KZmIdeal.main_arg2))
      ∧ θ_run (Cert.RZmIdeal.defs (F := Ideal)) (onTc (τ := Cert.RZmIdeal.τ) (Cert.RZmIdeal.main (F := Ideal))) ⟨m', fun _ => 0, g'⟩ (fun r => ∀ c : Dev Cert.RZmIdeal.nD,
          r.2.mem ((c.tc : Thread Cert.RZmIdeal.nD Cert.RZmIdeal.τ).loc Cert.RZmIdeal.main_v17) = v0 c
          ∧ r.2.mem ((c.tc : Thread Cert.RZmIdeal.nD Cert.RZmIdeal.τ).loc Cert.RZmIdeal.main_arg0) = m' ((c.tc : Thread Cert.RZmIdeal.nD Cert.RZmIdeal.τ).loc Cert.RZmIdeal.main_arg0)
          ∧ r.2.mem ((c.tc : Thread Cert.RZmIdeal.nD Cert.RZmIdeal.τ).loc Cert.RZmIdeal.main_arg1) = m' ((c.tc : Thread Cert.RZmIdeal.nD Cert.RZmIdeal.τ).loc Cert.RZmIdeal.main_arg1)
          ∧ r.2.mem ((c.tc : Thread Cert.RZmIdeal.nD Cert.RZmIdeal.τ).loc Cert.RZmIdeal.main_arg2) = m' ((c.tc : Thread Cert.RZmIdeal.nD Cert.RZmIdeal.τ).loc Cert.RZmIdeal.main_arg2))

def preserves_KZs_KZsIdeal : Prop :=
  True

def algebraic_KZsIdeal_RZsIdeal [hKZsIdeal : Cert.KZsIdeal.Facts] [hRZsIdeal : Cert.RZsIdeal.Facts] : Prop :=
  ∀ (m : (ℓ : Loc Cert.KZsIdeal.nD Cert.KZsIdeal.τ Cert.KZsIdeal.sig) → Buf (Elt Ideal) ℓ) (g : Dev Cert.KZsIdeal.nD → PrngReg)
    (m' : (ℓ : Loc Cert.RZsIdeal.nD Cert.RZsIdeal.τ Cert.RZsIdeal.sig) → Buf (Elt Ideal) ℓ) (g' : Dev Cert.RZsIdeal.nD → PrngReg), Pre_KZsIdeal m →
    (∀ c : Dev Cert.KZsIdeal.nD,
      m' ((c.tc : Thread Cert.RZsIdeal.nD Cert.RZsIdeal.τ).loc Cert.RZsIdeal.main_arg0) = m ((c.tc : Thread Cert.KZsIdeal.nD Cert.KZsIdeal.τ).loc Cert.KZsIdeal.main_arg0)
      ∧ m' ((c.tc : Thread Cert.RZsIdeal.nD Cert.RZsIdeal.τ).loc Cert.RZsIdeal.main_arg1) = m ((c.tc : Thread Cert.KZsIdeal.nD Cert.KZsIdeal.τ).loc Cert.KZsIdeal.main_arg1)
      ∧ m' ((c.tc : Thread Cert.RZsIdeal.nD Cert.RZsIdeal.τ).loc Cert.RZsIdeal.main_arg2) = m ((c.tc : Thread Cert.KZsIdeal.nD Cert.KZsIdeal.τ).loc Cert.KZsIdeal.main_arg2)) →
    ∃ (v0 : (c : Dev Cert.KZsIdeal.nD) → Buf (Elt Ideal) ((c.tc : Thread Cert.KZsIdeal.nD Cert.KZsIdeal.τ).loc Cert.KZsIdeal.main_v14)),
      θ_run (Cert.KZsIdeal.defs (F := Ideal)) (onTc (τ := Cert.KZsIdeal.τ) (Cert.KZsIdeal.main (F := Ideal))) ⟨m, fun _ => 0, g⟩ (fun r => ∀ c : Dev Cert.KZsIdeal.nD,
          r.2.mem ((c.tc : Thread Cert.KZsIdeal.nD Cert.KZsIdeal.τ).loc Cert.KZsIdeal.main_v14) = v0 c
          ∧ r.2.mem ((c.tc : Thread Cert.KZsIdeal.nD Cert.KZsIdeal.τ).loc Cert.KZsIdeal.main_arg0) = m ((c.tc : Thread Cert.KZsIdeal.nD Cert.KZsIdeal.τ).loc Cert.KZsIdeal.main_arg0)
          ∧ r.2.mem ((c.tc : Thread Cert.KZsIdeal.nD Cert.KZsIdeal.τ).loc Cert.KZsIdeal.main_arg1) = m ((c.tc : Thread Cert.KZsIdeal.nD Cert.KZsIdeal.τ).loc Cert.KZsIdeal.main_arg1)
          ∧ r.2.mem ((c.tc : Thread Cert.KZsIdeal.nD Cert.KZsIdeal.τ).loc Cert.KZsIdeal.main_arg2) = m ((c.tc : Thread Cert.KZsIdeal.nD Cert.KZsIdeal.τ).loc Cert.KZsIdeal.main_arg2))
      ∧ θ_run (Cert.RZsIdeal.defs (F := Ideal)) (onTc (τ := Cert.RZsIdeal.τ) (Cert.RZsIdeal.main (F := Ideal))) ⟨m', fun _ => 0, g'⟩ (fun r => ∀ c : Dev Cert.RZsIdeal.nD,
          r.2.mem ((c.tc : Thread Cert.RZsIdeal.nD Cert.RZsIdeal.τ).loc Cert.RZsIdeal.main_v24) = v0 c
          ∧ r.2.mem ((c.tc : Thread Cert.RZsIdeal.nD Cert.RZsIdeal.τ).loc Cert.RZsIdeal.main_arg0) = m' ((c.tc : Thread Cert.RZsIdeal.nD Cert.RZsIdeal.τ).loc Cert.RZsIdeal.main_arg0)
          ∧ r.2.mem ((c.tc : Thread Cert.RZsIdeal.nD Cert.RZsIdeal.τ).loc Cert.RZsIdeal.main_arg1) = m' ((c.tc : Thread Cert.RZsIdeal.nD Cert.RZsIdeal.τ).loc Cert.RZsIdeal.main_arg1)
          ∧ r.2.mem ((c.tc : Thread Cert.RZsIdeal.nD Cert.RZsIdeal.τ).loc Cert.RZsIdeal.main_arg2) = m' ((c.tc : Thread Cert.RZsIdeal.nD Cert.RZsIdeal.τ).loc Cert.RZsIdeal.main_arg2))

def preserves_KZp_KZpIdeal : Prop :=
  True

def algebraic_KZpIdeal_RZpIdeal [hKZpIdeal : Cert.KZpIdeal.Facts] [hRZpIdeal : Cert.RZpIdeal.Facts] : Prop :=
  ∀ (m : (ℓ : Loc Cert.KZpIdeal.nD Cert.KZpIdeal.τ Cert.KZpIdeal.sig) → Buf (Elt Ideal) ℓ) (g : Dev Cert.KZpIdeal.nD → PrngReg)
    (m' : (ℓ : Loc Cert.RZpIdeal.nD Cert.RZpIdeal.τ Cert.RZpIdeal.sig) → Buf (Elt Ideal) ℓ) (g' : Dev Cert.RZpIdeal.nD → PrngReg), Pre_KZpIdeal m →
    (∀ c : Dev Cert.KZpIdeal.nD,
      m' ((c.tc : Thread Cert.RZpIdeal.nD Cert.RZpIdeal.τ).loc Cert.RZpIdeal.main_arg0) = m ((c.tc : Thread Cert.KZpIdeal.nD Cert.KZpIdeal.τ).loc Cert.KZpIdeal.main_arg0)
      ∧ m' ((c.tc : Thread Cert.RZpIdeal.nD Cert.RZpIdeal.τ).loc Cert.RZpIdeal.main_arg1) = m ((c.tc : Thread Cert.KZpIdeal.nD Cert.KZpIdeal.τ).loc Cert.KZpIdeal.main_arg1)
      ∧ m' ((c.tc : Thread Cert.RZpIdeal.nD Cert.RZpIdeal.τ).loc Cert.RZpIdeal.main_arg2) = m ((c.tc : Thread Cert.KZpIdeal.nD Cert.KZpIdeal.τ).loc Cert.KZpIdeal.main_arg2)) →
    ∃ (v0 : (c : Dev Cert.KZpIdeal.nD) → Buf (Elt Ideal) ((c.tc : Thread Cert.KZpIdeal.nD Cert.KZpIdeal.τ).loc Cert.KZpIdeal.main_v14)),
      θ_run (Cert.KZpIdeal.defs (F := Ideal)) (onTc (τ := Cert.KZpIdeal.τ) (Cert.KZpIdeal.main (F := Ideal))) ⟨m, fun _ => 0, g⟩ (fun r => ∀ c : Dev Cert.KZpIdeal.nD,
          r.2.mem ((c.tc : Thread Cert.KZpIdeal.nD Cert.KZpIdeal.τ).loc Cert.KZpIdeal.main_v14) = v0 c
          ∧ r.2.mem ((c.tc : Thread Cert.KZpIdeal.nD Cert.KZpIdeal.τ).loc Cert.KZpIdeal.main_arg0) = m ((c.tc : Thread Cert.KZpIdeal.nD Cert.KZpIdeal.τ).loc Cert.KZpIdeal.main_arg0)
          ∧ r.2.mem ((c.tc : Thread Cert.KZpIdeal.nD Cert.KZpIdeal.τ).loc Cert.KZpIdeal.main_arg1) = m ((c.tc : Thread Cert.KZpIdeal.nD Cert.KZpIdeal.τ).loc Cert.KZpIdeal.main_arg1)
          ∧ r.2.mem ((c.tc : Thread Cert.KZpIdeal.nD Cert.KZpIdeal.τ).loc Cert.KZpIdeal.main_arg2) = m ((c.tc : Thread Cert.KZpIdeal.nD Cert.KZpIdeal.τ).loc Cert.KZpIdeal.main_arg2))
      ∧ θ_run (Cert.RZpIdeal.defs (F := Ideal)) (onTc (τ := Cert.RZpIdeal.τ) (Cert.RZpIdeal.main (F := Ideal))) ⟨m', fun _ => 0, g'⟩ (fun r => ∀ c : Dev Cert.RZpIdeal.nD,
          r.2.mem ((c.tc : Thread Cert.RZpIdeal.nD Cert.RZpIdeal.τ).loc Cert.RZpIdeal.main_v24) = v0 c
          ∧ r.2.mem ((c.tc : Thread Cert.RZpIdeal.nD Cert.RZpIdeal.τ).loc Cert.RZpIdeal.main_arg0) = m' ((c.tc : Thread Cert.RZpIdeal.nD Cert.RZpIdeal.τ).loc Cert.RZpIdeal.main_arg0)
          ∧ r.2.mem ((c.tc : Thread Cert.RZpIdeal.nD Cert.RZpIdeal.τ).loc Cert.RZpIdeal.main_arg1) = m' ((c.tc : Thread Cert.RZpIdeal.nD Cert.RZpIdeal.τ).loc Cert.RZpIdeal.main_arg1)
          ∧ r.2.mem ((c.tc : Thread Cert.RZpIdeal.nD Cert.RZpIdeal.τ).loc Cert.RZpIdeal.main_arg2) = m' ((c.tc : Thread Cert.RZpIdeal.nD Cert.RZpIdeal.τ).loc Cert.RZpIdeal.main_arg2))

def preserves_KOut_KOutIdeal : Prop :=
  True

def algebraic_KOutIdeal_ROutIdeal [hKOutIdeal : Cert.KOutIdeal.Facts] [hROutIdeal : Cert.ROutIdeal.Facts] : Prop :=
  ∀ (m : (ℓ : Loc Cert.KOutIdeal.nD Cert.KOutIdeal.τ Cert.KOutIdeal.sig) → Buf (Elt Ideal) ℓ) (g : Dev Cert.KOutIdeal.nD → PrngReg)
    (m' : (ℓ : Loc Cert.ROutIdeal.nD Cert.ROutIdeal.τ Cert.ROutIdeal.sig) → Buf (Elt Ideal) ℓ) (g' : Dev Cert.ROutIdeal.nD → PrngReg), Pre_KOutIdeal m →
    (∀ c : Dev Cert.KOutIdeal.nD,
      m' ((c.tc : Thread Cert.ROutIdeal.nD Cert.ROutIdeal.τ).loc Cert.ROutIdeal.main_arg0) = m ((c.tc : Thread Cert.KOutIdeal.nD Cert.KOutIdeal.τ).loc Cert.KOutIdeal.main_arg0)
      ∧ m' ((c.tc : Thread Cert.ROutIdeal.nD Cert.ROutIdeal.τ).loc Cert.ROutIdeal.main_arg1) = m ((c.tc : Thread Cert.KOutIdeal.nD Cert.KOutIdeal.τ).loc Cert.KOutIdeal.main_arg1)
      ∧ m' ((c.tc : Thread Cert.ROutIdeal.nD Cert.ROutIdeal.τ).loc Cert.ROutIdeal.main_arg2) = m ((c.tc : Thread Cert.KOutIdeal.nD Cert.KOutIdeal.τ).loc Cert.KOutIdeal.main_arg2)
      ∧ m' ((c.tc : Thread Cert.ROutIdeal.nD Cert.ROutIdeal.τ).loc Cert.ROutIdeal.main_arg3) = m ((c.tc : Thread Cert.KOutIdeal.nD Cert.KOutIdeal.τ).loc Cert.KOutIdeal.main_arg3)
      ∧ m' ((c.tc : Thread Cert.ROutIdeal.nD Cert.ROutIdeal.τ).loc Cert.ROutIdeal.main_arg4) = m ((c.tc : Thread Cert.KOutIdeal.nD Cert.KOutIdeal.τ).loc Cert.KOutIdeal.main_arg4)
      ∧ m' ((c.tc : Thread Cert.ROutIdeal.nD Cert.ROutIdeal.τ).loc Cert.ROutIdeal.main_arg5) = m ((c.tc : Thread Cert.KOutIdeal.nD Cert.KOutIdeal.τ).loc Cert.KOutIdeal.main_arg5)) →
    ∃ (v0 : (c : Dev Cert.KOutIdeal.nD) → Buf (Elt Ideal) ((c.tc : Thread Cert.KOutIdeal.nD Cert.KOutIdeal.τ).loc Cert.KOutIdeal.main_v6_0)) (v1 : (c : Dev Cert.KOutIdeal.nD) → Buf (Elt Ideal) ((c.tc : Thread Cert.KOutIdeal.nD Cert.KOutIdeal.τ).loc Cert.KOutIdeal.main_v6_1)),
      θ_run (Cert.KOutIdeal.defs (F := Ideal)) (onTc (τ := Cert.KOutIdeal.τ) (Cert.KOutIdeal.main (F := Ideal))) ⟨m, fun _ => 0, g⟩ (fun r => ∀ c : Dev Cert.KOutIdeal.nD,
          r.2.mem ((c.tc : Thread Cert.KOutIdeal.nD Cert.KOutIdeal.τ).loc Cert.KOutIdeal.main_v6_0) = v0 c
          ∧ r.2.mem ((c.tc : Thread Cert.KOutIdeal.nD Cert.KOutIdeal.τ).loc Cert.KOutIdeal.main_v6_1) = v1 c
          ∧ r.2.mem ((c.tc : Thread Cert.KOutIdeal.nD Cert.KOutIdeal.τ).loc Cert.KOutIdeal.main_arg0) = m ((c.tc : Thread Cert.KOutIdeal.nD Cert.KOutIdeal.τ).loc Cert.KOutIdeal.main_arg0)
          ∧ r.2.mem ((c.tc : Thread Cert.KOutIdeal.nD Cert.KOutIdeal.τ).loc Cert.KOutIdeal.main_arg1) = m ((c.tc : Thread Cert.KOutIdeal.nD Cert.KOutIdeal.τ).loc Cert.KOutIdeal.main_arg1)
          ∧ r.2.mem ((c.tc : Thread Cert.KOutIdeal.nD Cert.KOutIdeal.τ).loc Cert.KOutIdeal.main_arg2) = m ((c.tc : Thread Cert.KOutIdeal.nD Cert.KOutIdeal.τ).loc Cert.KOutIdeal.main_arg2)
          ∧ r.2.mem ((c.tc : Thread Cert.KOutIdeal.nD Cert.KOutIdeal.τ).loc Cert.KOutIdeal.main_arg3) = m ((c.tc : Thread Cert.KOutIdeal.nD Cert.KOutIdeal.τ).loc Cert.KOutIdeal.main_arg3)
          ∧ r.2.mem ((c.tc : Thread Cert.KOutIdeal.nD Cert.KOutIdeal.τ).loc Cert.KOutIdeal.main_arg4) = m ((c.tc : Thread Cert.KOutIdeal.nD Cert.KOutIdeal.τ).loc Cert.KOutIdeal.main_arg4)
          ∧ r.2.mem ((c.tc : Thread Cert.KOutIdeal.nD Cert.KOutIdeal.τ).loc Cert.KOutIdeal.main_arg5) = m ((c.tc : Thread Cert.KOutIdeal.nD Cert.KOutIdeal.τ).loc Cert.KOutIdeal.main_arg5))
      ∧ θ_run (Cert.ROutIdeal.defs (F := Ideal)) (onTc (τ := Cert.ROutIdeal.τ) (Cert.ROutIdeal.main (F := Ideal))) ⟨m', fun _ => 0, g'⟩ (fun r => ∀ c : Dev Cert.ROutIdeal.nD,
          r.2.mem ((c.tc : Thread Cert.ROutIdeal.nD Cert.ROutIdeal.τ).loc Cert.ROutIdeal.main_v19) = v0 c
          ∧ r.2.mem ((c.tc : Thread Cert.ROutIdeal.nD Cert.ROutIdeal.τ).loc Cert.ROutIdeal.main_v34) = v1 c
          ∧ r.2.mem ((c.tc : Thread Cert.ROutIdeal.nD Cert.ROutIdeal.τ).loc Cert.ROutIdeal.main_arg0) = m' ((c.tc : Thread Cert.ROutIdeal.nD Cert.ROutIdeal.τ).loc Cert.ROutIdeal.main_arg0)
          ∧ r.2.mem ((c.tc : Thread Cert.ROutIdeal.nD Cert.ROutIdeal.τ).loc Cert.ROutIdeal.main_arg1) = m' ((c.tc : Thread Cert.ROutIdeal.nD Cert.ROutIdeal.τ).loc Cert.ROutIdeal.main_arg1)
          ∧ r.2.mem ((c.tc : Thread Cert.ROutIdeal.nD Cert.ROutIdeal.τ).loc Cert.ROutIdeal.main_arg2) = m' ((c.tc : Thread Cert.ROutIdeal.nD Cert.ROutIdeal.τ).loc Cert.ROutIdeal.main_arg2)
          ∧ r.2.mem ((c.tc : Thread Cert.ROutIdeal.nD Cert.ROutIdeal.τ).loc Cert.ROutIdeal.main_arg3) = m' ((c.tc : Thread Cert.ROutIdeal.nD Cert.ROutIdeal.τ).loc Cert.ROutIdeal.main_arg3)
          ∧ r.2.mem ((c.tc : Thread Cert.ROutIdeal.nD Cert.ROutIdeal.τ).loc Cert.ROutIdeal.main_arg4) = m' ((c.tc : Thread Cert.ROutIdeal.nD Cert.ROutIdeal.τ).loc Cert.ROutIdeal.main_arg4)
          ∧ r.2.mem ((c.tc : Thread Cert.ROutIdeal.nD Cert.ROutIdeal.τ).loc Cert.ROutIdeal.main_arg5) = m' ((c.tc : Thread Cert.ROutIdeal.nD Cert.ROutIdeal.τ).loc Cert.ROutIdeal.main_arg5))

def preserves_KUpS_KUpSIdeal : Prop :=
  True

def algebraic_KUpSIdeal_RUpSIdeal [hKUpSIdeal : Cert.KUpSIdeal.Facts] [hRUpSIdeal : Cert.RUpSIdeal.Facts] : Prop :=
  ∀ (m : (ℓ : Loc Cert.KUpSIdeal.nD Cert.KUpSIdeal.τ Cert.KUpSIdeal.sig) → Buf (Elt Ideal) ℓ) (g : Dev Cert.KUpSIdeal.nD → PrngReg)
    (m' : (ℓ : Loc Cert.RUpSIdeal.nD Cert.RUpSIdeal.τ Cert.RUpSIdeal.sig) → Buf (Elt Ideal) ℓ) (g' : Dev Cert.RUpSIdeal.nD → PrngReg), Pre_KUpSIdeal m →
    (∀ c : Dev Cert.KUpSIdeal.nD,
      m' ((c.tc : Thread Cert.RUpSIdeal.nD Cert.RUpSIdeal.τ).loc Cert.RUpSIdeal.main_arg0) = m ((c.tc : Thread Cert.KUpSIdeal.nD Cert.KUpSIdeal.τ).loc Cert.KUpSIdeal.main_arg0)
      ∧ m' ((c.tc : Thread Cert.RUpSIdeal.nD Cert.RUpSIdeal.τ).loc Cert.RUpSIdeal.main_arg1) = m ((c.tc : Thread Cert.KUpSIdeal.nD Cert.KUpSIdeal.τ).loc Cert.KUpSIdeal.main_arg1)) →
    ∃ (v0 : (c : Dev Cert.KUpSIdeal.nD) → Buf (Elt Ideal) ((c.tc : Thread Cert.KUpSIdeal.nD Cert.KUpSIdeal.τ).loc Cert.KUpSIdeal.main_v2)),
      θ_run (Cert.KUpSIdeal.defs (F := Ideal)) (onTc (τ := Cert.KUpSIdeal.τ) (Cert.KUpSIdeal.main (F := Ideal))) ⟨m, fun _ => 0, g⟩ (fun r => ∀ c : Dev Cert.KUpSIdeal.nD,
          r.2.mem ((c.tc : Thread Cert.KUpSIdeal.nD Cert.KUpSIdeal.τ).loc Cert.KUpSIdeal.main_v2) = v0 c
          ∧ r.2.mem ((c.tc : Thread Cert.KUpSIdeal.nD Cert.KUpSIdeal.τ).loc Cert.KUpSIdeal.main_arg0) = m ((c.tc : Thread Cert.KUpSIdeal.nD Cert.KUpSIdeal.τ).loc Cert.KUpSIdeal.main_arg0)
          ∧ r.2.mem ((c.tc : Thread Cert.KUpSIdeal.nD Cert.KUpSIdeal.τ).loc Cert.KUpSIdeal.main_arg1) = m ((c.tc : Thread Cert.KUpSIdeal.nD Cert.KUpSIdeal.τ).loc Cert.KUpSIdeal.main_arg1))
      ∧ θ_run (Cert.RUpSIdeal.defs (F := Ideal)) (onTc (τ := Cert.RUpSIdeal.τ) (Cert.RUpSIdeal.main (F := Ideal))) ⟨m', fun _ => 0, g'⟩ (fun r => ∀ c : Dev Cert.RUpSIdeal.nD,
          r.2.mem ((c.tc : Thread Cert.RUpSIdeal.nD Cert.RUpSIdeal.τ).loc Cert.RUpSIdeal.main_v5) = v0 c
          ∧ r.2.mem ((c.tc : Thread Cert.RUpSIdeal.nD Cert.RUpSIdeal.τ).loc Cert.RUpSIdeal.main_arg0) = m' ((c.tc : Thread Cert.RUpSIdeal.nD Cert.RUpSIdeal.τ).loc Cert.RUpSIdeal.main_arg0)
          ∧ r.2.mem ((c.tc : Thread Cert.RUpSIdeal.nD Cert.RUpSIdeal.τ).loc Cert.RUpSIdeal.main_arg1) = m' ((c.tc : Thread Cert.RUpSIdeal.nD Cert.RUpSIdeal.τ).loc Cert.RUpSIdeal.main_arg1))

def preserves_KDownS_KDownSIdeal : Prop :=
  True

def algebraic_KDownSIdeal_RDownSIdeal [hKDownSIdeal : Cert.KDownSIdeal.Facts] [hRDownSIdeal : Cert.RDownSIdeal.Facts] : Prop :=
  ∀ (m : (ℓ : Loc Cert.KDownSIdeal.nD Cert.KDownSIdeal.τ Cert.KDownSIdeal.sig) → Buf (Elt Ideal) ℓ) (g : Dev Cert.KDownSIdeal.nD → PrngReg)
    (m' : (ℓ : Loc Cert.RDownSIdeal.nD Cert.RDownSIdeal.τ Cert.RDownSIdeal.sig) → Buf (Elt Ideal) ℓ) (g' : Dev Cert.RDownSIdeal.nD → PrngReg), Pre_KDownSIdeal m →
    (∀ c : Dev Cert.KDownSIdeal.nD,
      m' ((c.tc : Thread Cert.RDownSIdeal.nD Cert.RDownSIdeal.τ).loc Cert.RDownSIdeal.main_arg0) = m ((c.tc : Thread Cert.KDownSIdeal.nD Cert.KDownSIdeal.τ).loc Cert.KDownSIdeal.main_arg0)
      ∧ m' ((c.tc : Thread Cert.RDownSIdeal.nD Cert.RDownSIdeal.τ).loc Cert.RDownSIdeal.main_arg1) = m ((c.tc : Thread Cert.KDownSIdeal.nD Cert.KDownSIdeal.τ).loc Cert.KDownSIdeal.main_arg1)
      ∧ m' ((c.tc : Thread Cert.RDownSIdeal.nD Cert.RDownSIdeal.τ).loc Cert.RDownSIdeal.main_arg2) = m ((c.tc : Thread Cert.KDownSIdeal.nD Cert.KDownSIdeal.τ).loc Cert.KDownSIdeal.main_arg2)
      ∧ m' ((c.tc : Thread Cert.RDownSIdeal.nD Cert.RDownSIdeal.τ).loc Cert.RDownSIdeal.main_arg3) = m ((c.tc : Thread Cert.KDownSIdeal.nD Cert.KDownSIdeal.τ).loc Cert.KDownSIdeal.main_arg3)) →
    ∃ (v0 : (c : Dev Cert.KDownSIdeal.nD) → Buf (Elt Ideal) ((c.tc : Thread Cert.KDownSIdeal.nD Cert.KDownSIdeal.τ).loc Cert.KDownSIdeal.main_v4)),
      θ_run (Cert.KDownSIdeal.defs (F := Ideal)) (onTc (τ := Cert.KDownSIdeal.τ) (Cert.KDownSIdeal.main (F := Ideal))) ⟨m, fun _ => 0, g⟩ (fun r => ∀ c : Dev Cert.KDownSIdeal.nD,
          r.2.mem ((c.tc : Thread Cert.KDownSIdeal.nD Cert.KDownSIdeal.τ).loc Cert.KDownSIdeal.main_v4) = v0 c
          ∧ r.2.mem ((c.tc : Thread Cert.KDownSIdeal.nD Cert.KDownSIdeal.τ).loc Cert.KDownSIdeal.main_arg0) = m ((c.tc : Thread Cert.KDownSIdeal.nD Cert.KDownSIdeal.τ).loc Cert.KDownSIdeal.main_arg0)
          ∧ r.2.mem ((c.tc : Thread Cert.KDownSIdeal.nD Cert.KDownSIdeal.τ).loc Cert.KDownSIdeal.main_arg1) = m ((c.tc : Thread Cert.KDownSIdeal.nD Cert.KDownSIdeal.τ).loc Cert.KDownSIdeal.main_arg1)
          ∧ r.2.mem ((c.tc : Thread Cert.KDownSIdeal.nD Cert.KDownSIdeal.τ).loc Cert.KDownSIdeal.main_arg2) = m ((c.tc : Thread Cert.KDownSIdeal.nD Cert.KDownSIdeal.τ).loc Cert.KDownSIdeal.main_arg2)
          ∧ r.2.mem ((c.tc : Thread Cert.KDownSIdeal.nD Cert.KDownSIdeal.τ).loc Cert.KDownSIdeal.main_arg3) = m ((c.tc : Thread Cert.KDownSIdeal.nD Cert.KDownSIdeal.τ).loc Cert.KDownSIdeal.main_arg3))
      ∧ θ_run (Cert.RDownSIdeal.defs (F := Ideal)) (onTc (τ := Cert.RDownSIdeal.τ) (Cert.RDownSIdeal.main (F := Ideal))) ⟨m', fun _ => 0, g'⟩ (fun r => ∀ c : Dev Cert.RDownSIdeal.nD,
          r.2.mem ((c.tc : Thread Cert.RDownSIdeal.nD Cert.RDownSIdeal.τ).loc Cert.RDownSIdeal.main_v17) = v0 c
          ∧ r.2.mem ((c.tc : Thread Cert.RDownSIdeal.nD Cert.RDownSIdeal.τ).loc Cert.RDownSIdeal.main_arg0) = m' ((c.tc : Thread Cert.RDownSIdeal.nD Cert.RDownSIdeal.τ).loc Cert.RDownSIdeal.main_arg0)
          ∧ r.2.mem ((c.tc : Thread Cert.RDownSIdeal.nD Cert.RDownSIdeal.τ).loc Cert.RDownSIdeal.main_arg1) = m' ((c.tc : Thread Cert.RDownSIdeal.nD Cert.RDownSIdeal.τ).loc Cert.RDownSIdeal.main_arg1)
          ∧ r.2.mem ((c.tc : Thread Cert.RDownSIdeal.nD Cert.RDownSIdeal.τ).loc Cert.RDownSIdeal.main_arg2) = m' ((c.tc : Thread Cert.RDownSIdeal.nD Cert.RDownSIdeal.τ).loc Cert.RDownSIdeal.main_arg2)
          ∧ r.2.mem ((c.tc : Thread Cert.RDownSIdeal.nD Cert.RDownSIdeal.τ).loc Cert.RDownSIdeal.main_arg3) = m' ((c.tc : Thread Cert.RDownSIdeal.nD Cert.RDownSIdeal.τ).loc Cert.RDownSIdeal.main_arg3))

def preserves_KOutS_KOutSIdeal : Prop :=
  True

def algebraic_KOutSIdeal_ROutSIdeal [hKOutSIdeal : Cert.KOutSIdeal.Facts] [hROutSIdeal : Cert.ROutSIdeal.Facts] : Prop :=
  ∀ (m : (ℓ : Loc Cert.KOutSIdeal.nD Cert.KOutSIdeal.τ Cert.KOutSIdeal.sig) → Buf (Elt Ideal) ℓ) (g : Dev Cert.KOutSIdeal.nD → PrngReg)
    (m' : (ℓ : Loc Cert.ROutSIdeal.nD Cert.ROutSIdeal.τ Cert.ROutSIdeal.sig) → Buf (Elt Ideal) ℓ) (g' : Dev Cert.ROutSIdeal.nD → PrngReg), Pre_KOutSIdeal m →
    (∀ c : Dev Cert.KOutSIdeal.nD,
      m' ((c.tc : Thread Cert.ROutSIdeal.nD Cert.ROutSIdeal.τ).loc Cert.ROutSIdeal.main_arg0) = m ((c.tc : Thread Cert.KOutSIdeal.nD Cert.KOutSIdeal.τ).loc Cert.KOutSIdeal.main_arg0)
      ∧ m' ((c.tc : Thread Cert.ROutSIdeal.nD Cert.ROutSIdeal.τ).loc Cert.ROutSIdeal.main_arg1) = m ((c.tc : Thread Cert.KOutSIdeal.nD Cert.KOutSIdeal.τ).loc Cert.KOutSIdeal.main_arg1)
      ∧ m' ((c.tc : Thread Cert.ROutSIdeal.nD Cert.ROutSIdeal.τ).loc Cert.ROutSIdeal.main_arg2) = m ((c.tc : Thread Cert.KOutSIdeal.nD Cert.KOutSIdeal.τ).loc Cert.KOutSIdeal.main_arg2)
      ∧ m' ((c.tc : Thread Cert.ROutSIdeal.nD Cert.ROutSIdeal.τ).loc Cert.ROutSIdeal.main_arg3) = m ((c.tc : Thread Cert.KOutSIdeal.nD Cert.KOutSIdeal.τ).loc Cert.KOutSIdeal.main_arg3)
      ∧ m' ((c.tc : Thread Cert.ROutSIdeal.nD Cert.ROutSIdeal.τ).loc Cert.ROutSIdeal.main_arg4) = m ((c.tc : Thread Cert.KOutSIdeal.nD Cert.KOutSIdeal.τ).loc Cert.KOutSIdeal.main_arg4)
      ∧ m' ((c.tc : Thread Cert.ROutSIdeal.nD Cert.ROutSIdeal.τ).loc Cert.ROutSIdeal.main_arg5) = m ((c.tc : Thread Cert.KOutSIdeal.nD Cert.KOutSIdeal.τ).loc Cert.KOutSIdeal.main_arg5)) →
    ∃ (v0 : (c : Dev Cert.KOutSIdeal.nD) → Buf (Elt Ideal) ((c.tc : Thread Cert.KOutSIdeal.nD Cert.KOutSIdeal.τ).loc Cert.KOutSIdeal.main_v6_0)) (v1 : (c : Dev Cert.KOutSIdeal.nD) → Buf (Elt Ideal) ((c.tc : Thread Cert.KOutSIdeal.nD Cert.KOutSIdeal.τ).loc Cert.KOutSIdeal.main_v6_1)),
      θ_run (Cert.KOutSIdeal.defs (F := Ideal)) (onTc (τ := Cert.KOutSIdeal.τ) (Cert.KOutSIdeal.main (F := Ideal))) ⟨m, fun _ => 0, g⟩ (fun r => ∀ c : Dev Cert.KOutSIdeal.nD,
          r.2.mem ((c.tc : Thread Cert.KOutSIdeal.nD Cert.KOutSIdeal.τ).loc Cert.KOutSIdeal.main_v6_0) = v0 c
          ∧ r.2.mem ((c.tc : Thread Cert.KOutSIdeal.nD Cert.KOutSIdeal.τ).loc Cert.KOutSIdeal.main_v6_1) = v1 c
          ∧ r.2.mem ((c.tc : Thread Cert.KOutSIdeal.nD Cert.KOutSIdeal.τ).loc Cert.KOutSIdeal.main_arg0) = m ((c.tc : Thread Cert.KOutSIdeal.nD Cert.KOutSIdeal.τ).loc Cert.KOutSIdeal.main_arg0)
          ∧ r.2.mem ((c.tc : Thread Cert.KOutSIdeal.nD Cert.KOutSIdeal.τ).loc Cert.KOutSIdeal.main_arg1) = m ((c.tc : Thread Cert.KOutSIdeal.nD Cert.KOutSIdeal.τ).loc Cert.KOutSIdeal.main_arg1)
          ∧ r.2.mem ((c.tc : Thread Cert.KOutSIdeal.nD Cert.KOutSIdeal.τ).loc Cert.KOutSIdeal.main_arg2) = m ((c.tc : Thread Cert.KOutSIdeal.nD Cert.KOutSIdeal.τ).loc Cert.KOutSIdeal.main_arg2)
          ∧ r.2.mem ((c.tc : Thread Cert.KOutSIdeal.nD Cert.KOutSIdeal.τ).loc Cert.KOutSIdeal.main_arg3) = m ((c.tc : Thread Cert.KOutSIdeal.nD Cert.KOutSIdeal.τ).loc Cert.KOutSIdeal.main_arg3)
          ∧ r.2.mem ((c.tc : Thread Cert.KOutSIdeal.nD Cert.KOutSIdeal.τ).loc Cert.KOutSIdeal.main_arg4) = m ((c.tc : Thread Cert.KOutSIdeal.nD Cert.KOutSIdeal.τ).loc Cert.KOutSIdeal.main_arg4)
          ∧ r.2.mem ((c.tc : Thread Cert.KOutSIdeal.nD Cert.KOutSIdeal.τ).loc Cert.KOutSIdeal.main_arg5) = m ((c.tc : Thread Cert.KOutSIdeal.nD Cert.KOutSIdeal.τ).loc Cert.KOutSIdeal.main_arg5))
      ∧ θ_run (Cert.ROutSIdeal.defs (F := Ideal)) (onTc (τ := Cert.ROutSIdeal.τ) (Cert.ROutSIdeal.main (F := Ideal))) ⟨m', fun _ => 0, g'⟩ (fun r => ∀ c : Dev Cert.ROutSIdeal.nD,
          r.2.mem ((c.tc : Thread Cert.ROutSIdeal.nD Cert.ROutSIdeal.τ).loc Cert.ROutSIdeal.main_v19) = v0 c
          ∧ r.2.mem ((c.tc : Thread Cert.ROutSIdeal.nD Cert.ROutSIdeal.τ).loc Cert.ROutSIdeal.main_v34) = v1 c
          ∧ r.2.mem ((c.tc : Thread Cert.ROutSIdeal.nD Cert.ROutSIdeal.τ).loc Cert.ROutSIdeal.main_arg0) = m' ((c.tc : Thread Cert.ROutSIdeal.nD Cert.ROutSIdeal.τ).loc Cert.ROutSIdeal.main_arg0)
          ∧ r.2.mem ((c.tc : Thread Cert.ROutSIdeal.nD Cert.ROutSIdeal.τ).loc Cert.ROutSIdeal.main_arg1) = m' ((c.tc : Thread Cert.ROutSIdeal.nD Cert.ROutSIdeal.τ).loc Cert.ROutSIdeal.main_arg1)
          ∧ r.2.mem ((c.tc : Thread Cert.ROutSIdeal.nD Cert.ROutSIdeal.τ).loc Cert.ROutSIdeal.main_arg2) = m' ((c.tc : Thread Cert.ROutSIdeal.nD Cert.ROutSIdeal.τ).loc Cert.ROutSIdeal.main_arg2)
          ∧ r.2.mem ((c.tc : Thread Cert.ROutSIdeal.nD Cert.ROutSIdeal.τ).loc Cert.ROutSIdeal.main_arg3) = m' ((c.tc : Thread Cert.ROutSIdeal.nD Cert.ROutSIdeal.τ).loc Cert.ROutSIdeal.main_arg3)
          ∧ r.2.mem ((c.tc : Thread Cert.ROutSIdeal.nD Cert.ROutSIdeal.τ).loc Cert.ROutSIdeal.main_arg4) = m' ((c.tc : Thread Cert.ROutSIdeal.nD Cert.ROutSIdeal.τ).loc Cert.ROutSIdeal.main_arg4)
          ∧ r.2.mem ((c.tc : Thread Cert.ROutSIdeal.nD Cert.ROutSIdeal.τ).loc Cert.ROutSIdeal.main_arg5) = m' ((c.tc : Thread Cert.ROutSIdeal.nD Cert.ROutSIdeal.τ).loc Cert.ROutSIdeal.main_arg5))

def preserves_KSel_KSelIdeal : Prop :=
  True

def algebraic_KSelIdeal_RSelIdeal_pre_select_inputs [hKSelIdeal : Cert.KSelIdeal.Facts] [hRSelIdeal : Cert.RSelIdeal.Facts] [hPre_select_inputs : Cert.Pre_select_inputs.Facts] : Prop :=
  ∀ (m : (ℓ : Loc Cert.KSelIdeal.nD Cert.KSelIdeal.τ Cert.KSelIdeal.sig) → Buf (Elt Ideal) ℓ) (g : Dev Cert.KSelIdeal.nD → PrngReg)
    (m' : (ℓ : Loc Cert.RSelIdeal.nD Cert.RSelIdeal.τ Cert.RSelIdeal.sig) → Buf (Elt Ideal) ℓ) (g' : Dev Cert.RSelIdeal.nD → PrngReg), Pre_KSelIdeal_select_inputs m →
    (∀ c : Dev Cert.KSelIdeal.nD,
      m' ((c.tc : Thread Cert.RSelIdeal.nD Cert.RSelIdeal.τ).loc Cert.RSelIdeal.main_arg0) = m ((c.tc : Thread Cert.KSelIdeal.nD Cert.KSelIdeal.τ).loc Cert.KSelIdeal.main_arg0)
      ∧ m' ((c.tc : Thread Cert.RSelIdeal.nD Cert.RSelIdeal.τ).loc Cert.RSelIdeal.main_arg1) = m ((c.tc : Thread Cert.KSelIdeal.nD Cert.KSelIdeal.τ).loc Cert.KSelIdeal.main_arg1)) →
    ∃ (v0 : (c : Dev Cert.KSelIdeal.nD) → Buf (Elt Ideal) ((c.tc : Thread Cert.KSelIdeal.nD Cert.KSelIdeal.τ).loc Cert.KSelIdeal.main_v0)),
      θ_run (Cert.KSelIdeal.defs (F := Ideal)) (onTc (τ := Cert.KSelIdeal.τ) (Cert.KSelIdeal.main (F := Ideal))) ⟨m, fun _ => 0, g⟩ (fun r => ∀ c : Dev Cert.KSelIdeal.nD,
          r.2.mem ((c.tc : Thread Cert.KSelIdeal.nD Cert.KSelIdeal.τ).loc Cert.KSelIdeal.main_v0) = v0 c
          ∧ r.2.mem ((c.tc : Thread Cert.KSelIdeal.nD Cert.KSelIdeal.τ).loc Cert.KSelIdeal.main_arg0) = m ((c.tc : Thread Cert.KSelIdeal.nD Cert.KSelIdeal.τ).loc Cert.KSelIdeal.main_arg0)
          ∧ r.2.mem ((c.tc : Thread Cert.KSelIdeal.nD Cert.KSelIdeal.τ).loc Cert.KSelIdeal.main_arg1) = m ((c.tc : Thread Cert.KSelIdeal.nD Cert.KSelIdeal.τ).loc Cert.KSelIdeal.main_arg1))
      ∧ θ_run (Cert.RSelIdeal.defs (F := Ideal)) (onTc (τ := Cert.RSelIdeal.τ) (Cert.RSelIdeal.main (F := Ideal))) ⟨m', fun _ => 0, g'⟩ (fun r => ∀ c : Dev Cert.RSelIdeal.nD,
          r.2.mem ((c.tc : Thread Cert.RSelIdeal.nD Cert.RSelIdeal.τ).loc Cert.RSelIdeal.main_v6) = v0 c
          ∧ r.2.mem ((c.tc : Thread Cert.RSelIdeal.nD Cert.RSelIdeal.τ).loc Cert.RSelIdeal.main_arg0) = m' ((c.tc : Thread Cert.RSelIdeal.nD Cert.RSelIdeal.τ).loc Cert.RSelIdeal.main_arg0)
          ∧ r.2.mem ((c.tc : Thread Cert.RSelIdeal.nD Cert.RSelIdeal.τ).loc Cert.RSelIdeal.main_arg1) = m' ((c.tc : Thread Cert.RSelIdeal.nD Cert.RSelIdeal.τ).loc Cert.RSelIdeal.main_arg1))

def Claim : Prop :=
  ∃ (hKernel : Cert.Kernel.Facts) (hKernelIdeal : Cert.KernelIdeal.Facts) (hReferenceIdeal : Cert.ReferenceIdeal.Facts) (hKUp : Cert.KUp.Facts) (hKUpIdeal : Cert.KUpIdeal.Facts) (hRUpIdeal : Cert.RUpIdeal.Facts) (hKDown : Cert.KDown.Facts) (hKDownIdeal : Cert.KDownIdeal.Facts) (hRDownIdeal : Cert.RDownIdeal.Facts) (hKProj : Cert.KProj.Facts) (hKProjIdeal : Cert.KProjIdeal.Facts) (hRProjIdeal : Cert.RProjIdeal.Facts) (hKZm : Cert.KZm.Facts) (hKZmIdeal : Cert.KZmIdeal.Facts) (hRZmIdeal : Cert.RZmIdeal.Facts) (hKZs : Cert.KZs.Facts) (hKZsIdeal : Cert.KZsIdeal.Facts) (hRZsIdeal : Cert.RZsIdeal.Facts) (hKZp : Cert.KZp.Facts) (hKZpIdeal : Cert.KZpIdeal.Facts) (hRZpIdeal : Cert.RZpIdeal.Facts) (hKOut : Cert.KOut.Facts) (hKOutIdeal : Cert.KOutIdeal.Facts) (hROutIdeal : Cert.ROutIdeal.Facts) (hKUpS : Cert.KUpS.Facts) (hKUpSIdeal : Cert.KUpSIdeal.Facts) (hRUpSIdeal : Cert.RUpSIdeal.Facts) (hKDownS : Cert.KDownS.Facts) (hKDownSIdeal : Cert.KDownSIdeal.Facts) (hRDownSIdeal : Cert.RDownSIdeal.Facts) (hKOutS : Cert.KOutS.Facts) (hKOutSIdeal : Cert.KOutSIdeal.Facts) (hROutSIdeal : Cert.ROutSIdeal.Facts) (hKSel : Cert.KSel.Facts) (hKSelIdeal : Cert.KSelIdeal.Facts) (hRSelIdeal : Cert.RSelIdeal.Facts) (hPre_tables_in_range : Cert.Pre_tables_in_range.Facts) (hPre_attend_inputs : Cert.Pre_attend_inputs.Facts) (hPre_select_inputs : Cert.Pre_select_inputs.Facts),
    quiescent_Kernel (hKernel := hKernel) (hPre_tables_in_range := hPre_tables_in_range)
    ∧ quiescent_KernelIdeal (hKernelIdeal := hKernelIdeal) (hPre_tables_in_range := hPre_tables_in_range)
    ∧ quiescent_KernelIdeal_pre_attend_inputs (hKernelIdeal := hKernelIdeal) (hPre_attend_inputs := hPre_attend_inputs)
    ∧ quiescent_ReferenceIdeal (hReferenceIdeal := hReferenceIdeal)
    ∧ quiescent_ReferenceIdeal_pre_attend_inputs (hReferenceIdeal := hReferenceIdeal) (hPre_attend_inputs := hPre_attend_inputs)
    ∧ quiescent_KUp (hKUp := hKUp)
    ∧ quiescent_KUpIdeal (hKUpIdeal := hKUpIdeal)
    ∧ quiescent_RUpIdeal (hRUpIdeal := hRUpIdeal)
    ∧ quiescent_KDown (hKDown := hKDown)
    ∧ quiescent_KDownIdeal (hKDownIdeal := hKDownIdeal)
    ∧ quiescent_RDownIdeal (hRDownIdeal := hRDownIdeal)
    ∧ quiescent_KProj (hKProj := hKProj)
    ∧ quiescent_KProjIdeal (hKProjIdeal := hKProjIdeal)
    ∧ quiescent_RProjIdeal (hRProjIdeal := hRProjIdeal)
    ∧ quiescent_KZm (hKZm := hKZm)
    ∧ quiescent_KZmIdeal (hKZmIdeal := hKZmIdeal)
    ∧ quiescent_RZmIdeal (hRZmIdeal := hRZmIdeal)
    ∧ quiescent_KZs (hKZs := hKZs)
    ∧ quiescent_KZsIdeal (hKZsIdeal := hKZsIdeal)
    ∧ quiescent_RZsIdeal (hRZsIdeal := hRZsIdeal)
    ∧ quiescent_KZp (hKZp := hKZp)
    ∧ quiescent_KZpIdeal (hKZpIdeal := hKZpIdeal)
    ∧ quiescent_RZpIdeal (hRZpIdeal := hRZpIdeal)
    ∧ quiescent_KOut (hKOut := hKOut)
    ∧ quiescent_KOutIdeal (hKOutIdeal := hKOutIdeal)
    ∧ quiescent_ROutIdeal (hROutIdeal := hROutIdeal)
    ∧ quiescent_KUpS (hKUpS := hKUpS)
    ∧ quiescent_KUpSIdeal (hKUpSIdeal := hKUpSIdeal)
    ∧ quiescent_RUpSIdeal (hRUpSIdeal := hRUpSIdeal)
    ∧ quiescent_KDownS (hKDownS := hKDownS)
    ∧ quiescent_KDownSIdeal (hKDownSIdeal := hKDownSIdeal)
    ∧ quiescent_RDownSIdeal (hRDownSIdeal := hRDownSIdeal)
    ∧ quiescent_KOutS (hKOutS := hKOutS)
    ∧ quiescent_KOutSIdeal (hKOutSIdeal := hKOutSIdeal)
    ∧ quiescent_ROutSIdeal (hROutSIdeal := hROutSIdeal)
    ∧ quiescent_KSel (hKSel := hKSel)
    ∧ quiescent_KSelIdeal (hKSelIdeal := hKSelIdeal)
    ∧ quiescent_KSelIdeal_pre_select_inputs (hKSelIdeal := hKSelIdeal) (hPre_select_inputs := hPre_select_inputs)
    ∧ quiescent_RSelIdeal (hRSelIdeal := hRSelIdeal)
    ∧ quiescent_RSelIdeal_pre_select_inputs (hRSelIdeal := hRSelIdeal) (hPre_select_inputs := hPre_select_inputs)
    ∧ preserves_Kernel_KernelIdeal
    ∧ algebraic_KernelIdeal_ReferenceIdeal_pre_attend_inputs (hKernelIdeal := hKernelIdeal) (hReferenceIdeal := hReferenceIdeal) (hPre_attend_inputs := hPre_attend_inputs)
    ∧ preserves_KUp_KUpIdeal
    ∧ algebraic_KUpIdeal_RUpIdeal (hKUpIdeal := hKUpIdeal) (hRUpIdeal := hRUpIdeal)
    ∧ preserves_KDown_KDownIdeal
    ∧ algebraic_KDownIdeal_RDownIdeal (hKDownIdeal := hKDownIdeal) (hRDownIdeal := hRDownIdeal)
    ∧ preserves_KProj_KProjIdeal
    ∧ algebraic_KProjIdeal_RProjIdeal (hKProjIdeal := hKProjIdeal) (hRProjIdeal := hRProjIdeal)
    ∧ preserves_KZm_KZmIdeal
    ∧ algebraic_KZmIdeal_RZmIdeal (hKZmIdeal := hKZmIdeal) (hRZmIdeal := hRZmIdeal)
    ∧ preserves_KZs_KZsIdeal
    ∧ algebraic_KZsIdeal_RZsIdeal (hKZsIdeal := hKZsIdeal) (hRZsIdeal := hRZsIdeal)
    ∧ preserves_KZp_KZpIdeal
    ∧ algebraic_KZpIdeal_RZpIdeal (hKZpIdeal := hKZpIdeal) (hRZpIdeal := hRZpIdeal)
    ∧ preserves_KOut_KOutIdeal
    ∧ algebraic_KOutIdeal_ROutIdeal (hKOutIdeal := hKOutIdeal) (hROutIdeal := hROutIdeal)
    ∧ preserves_KUpS_KUpSIdeal
    ∧ algebraic_KUpSIdeal_RUpSIdeal (hKUpSIdeal := hKUpSIdeal) (hRUpSIdeal := hRUpSIdeal)
    ∧ preserves_KDownS_KDownSIdeal
    ∧ algebraic_KDownSIdeal_RDownSIdeal (hKDownSIdeal := hKDownSIdeal) (hRDownSIdeal := hRDownSIdeal)
    ∧ preserves_KOutS_KOutSIdeal
    ∧ algebraic_KOutSIdeal_ROutSIdeal (hKOutSIdeal := hKOutSIdeal) (hROutSIdeal := hROutSIdeal)
    ∧ preserves_KSel_KSelIdeal
    ∧ algebraic_KSelIdeal_RSelIdeal_pre_select_inputs (hKSelIdeal := hKSelIdeal) (hRSelIdeal := hRSelIdeal) (hPre_select_inputs := hPre_select_inputs)
-- ==== Pre_attend_inputs.lean ====
abbrev S32x3x8 : Shape := ⟨3, ![32, 3, 8]⟩
abbrev S32x128 : Shape := ⟨2, ![32, 128]⟩
abbrev S32x8x1x128 : Shape := ⟨4, ![32, 8, 1, 128]⟩
abbrev S5120x1x8x128x128 : Shape := ⟨5, ![5120, 1, 8, 128, 128]⟩
abbrev S_ : Shape := ⟨0, ![]⟩

class Facts : Prop where
  bcast_S_S32x3x8 : S_.BroadcastsInDim S32x3x8 (![] : Fin 0 → Fin S32x3x8.rank)
  bcast_S_S32x128 : S_.BroadcastsInDim S32x128 (![] : Fin 0 → Fin S32x128.rank)
  bcast_S_S32x8x1x128 : S_.BroadcastsInDim S32x8x1x128 (![] : Fin 0 → Fin S32x8x1x128.rank)
  bcast_S_S5120x1x8x128x128 : S_.BroadcastsInDim S5120x1x8x128x128 (![] : Fin 0 → Fin S5120x1x8x128x128.rank)

variable [Facts]

def fn_part1 {F : FTy → Type} [FloatOps F] (main_arg3 : FVec F S32x8x1x128 .f32) (main_arg5 : FVec F S5120x1x8x128x128 .f32) (main_v4 : IVec S32x3x8 1) (main_v9 : IVec S32x128 1) (main_v14 : IVec S32x8x1x128 1) (main_v16 : IVec S32x8x1x128 1) : IVec S32x3x8 1 × IVec S32x128 1 × IVec S32x8x1x128 1 × IVec S32x8x1x128 1 × IVec S5120x1x8x128x128 1 :=
  let main_cst_5 : FVec F S_ .f32 := constant S_ .f32 0x7F800000#32
  let main_v17 : FVec F S32x8x1x128 .f32 := broadcastInDim S32x8x1x128 ![] bcast_S_S32x8x1x128 main_cst_5
  let main_v18 : IVec S32x8x1x128 1 := cmpf .olt main_arg3 main_v17
  let main_v19 : IVec S32x8x1x128 1 := andi main_v16 main_v18
  let main_cst_6 : FVec F S_ .f32 := constant S_ .f32 0xFF800000#32
  let main_v20 : FVec F S5120x1x8x128x128 .f32 := broadcastInDim S5120x1x8x128x128 ![] bcast_S_S5120x1x8x128x128 main_cst_6
  let main_v21 : IVec S5120x1x8x128x128 1 := cmpf .ogt main_arg5 main_v20
  let main_cst_7 : FVec F S_ .f32 := constant S_ .f32 0x7F800000#32
  let main_v22 : FVec F S5120x1x8x128x128 .f32 := broadcastInDim S5120x1x8x128x128 ![] bcast_S_S5120x1x8x128x128 main_cst_7
  let main_v23 : IVec S5120x1x8x128x128 1 := cmpf .olt main_arg5 main_v22
  let main_v24 : IVec S5120x1x8x128x128 1 := andi main_v21 main_v23
  (main_v4, main_v9, main_v14, main_v19, main_v24)

def fn {F : FTy → Type} [FloatOps F] (main_arg0 : IVec S32x3x8 32) (main_arg1 : IVec S32x128 32) (main_arg2 : FVec F S32x8x1x128 .f32) (main_arg3 : FVec F S32x8x1x128 .f32) (main_arg4 : FVec F S32x8x1x128 .f32) (main_arg5 : FVec F S5120x1x8x128x128 .f32) (main_arg6 : FVec F S5120x1x8x128x128 .f32) : IVec S32x3x8 1 × IVec S32x128 1 × IVec S32x8x1x128 1 × IVec S32x8x1x128 1 × IVec S5120x1x8x128x128 1 :=
  let main_c : IVec S_ 32 := constantI S_ 32 0#32
  let main_v0 : IVec S32x3x8 32 := broadcastInDim S32x3x8 ![] bcast_S_S32x3x8 main_c
  let main_v1 : IVec S32x3x8 1 := cmpi .sge main_arg0 main_v0
  let main_c_0 : IVec S_ 32 := constantI S_ 32 64#32
  let main_v2 : IVec S32x3x8 32 := broadcastInDim S32x3x8 ![] bcast_S_S32x3x8 main_c_0
  let main_v3 : IVec S32x3x8 1 := cmpi .slt main_arg0 main_v2
  let main_v4 : IVec S32x3x8 1 := andi main_v1 main_v3
  let main_c_1 : IVec S_ 32 := constantI S_ 32 0#32
  let main_v5 : IVec S32x128 32 := broadcastInDim S32x128 ![] bcast_S_S32x128 main_c_1
  let main_v6 : IVec S32x128 1 := cmpi .sge main_arg1 main_v5
  let main_c_2 : IVec S_ 32 := constantI S_ 32 5120#32
  let main_v7 : IVec S32x128 32 := broadcastInDim S32x128 ![] bcast_S_S32x128 main_c_2
  let main_v8 : IVec S32x128 1 := cmpi .slt main_arg1 main_v7
  let main_v9 : IVec S32x128 1 := andi main_v6 main_v8
  let main_cst : FVec F S_ .f32 := constant S_ .f32 0xFF800000#32
  let main_v10 : FVec F S32x8x1x128 .f32 := broadcastInDim S32x8x1x128 ![] bcast_S_S32x8x1x128 main_cst
  let main_v11 : IVec S32x8x1x128 1 := cmpf .ogt main_arg2 main_v10
  let main_cst_3 : FVec F S_ .f32 := constant S_ .f32 0x7F800000#32
  let main_v12 : FVec F S32x8x1x128 .f32 := broadcastInDim S32x8x1x128 ![] bcast_S_S32x8x1x128 main_cst_3
  let main_v13 : IVec S32x8x1x128 1 := cmpf .olt main_arg2 main_v12
  let main_v14 : IVec S32x8x1x128 1 := andi main_v11 main_v13
  let main_cst_4 : FVec F S_ .f32 := constant S_ .f32 0xFF800000#32
  let main_v15 : FVec F S32x8x1x128 .f32 := broadcastInDim S32x8x1x128 ![] bcast_S_S32x8x1x128 main_cst_4
  let main_v16 : IVec S32x8x1x128 1 := cmpf .ogt main_arg3 main_v15
  fn_part1 (F := F) main_arg3 main_arg5 main_v4 main_v9 main_v14 main_v16
-- ==== Pre_select_inputs.lean ====
abbrev S32x128x8x128 : Shape := ⟨4, ![32, 128, 8, 128]⟩
abbrev S32x8x128 : Shape := ⟨3, ![32, 8, 128]⟩
abbrev S_ : Shape := ⟨0, ![]⟩

class Facts : Prop where
  bcast_S_S32x128x8x128 : S_.BroadcastsInDim S32x128x8x128 (![] : Fin 0 → Fin S32x128x8x128.rank)
  bcast_S_S32x8x128 : S_.BroadcastsInDim S32x8x128 (![] : Fin 0 → Fin S32x8x128.rank)

variable [Facts]

def fn {F : FTy → Type} [FloatOps F] (main_arg0 : FVec F S32x128x8x128 .f32) (main_arg1 : FVec F S32x8x128 .f32) : IVec S32x128x8x128 1 × IVec S32x8x128 1 :=
  let main_cst : FVec F S_ .f32 := constant S_ .f32 0xFF800000#32
  let main_v0 : FVec F S32x128x8x128 .f32 := broadcastInDim S32x128x8x128 ![] bcast_S_S32x128x8x128 main_cst
  let main_v1 : IVec S32x128x8x128 1 := cmpf .ogt main_arg0 main_v0
  let main_cst_0 : FVec F S_ .f32 := constant S_ .f32 0x7F800000#32
  let main_v2 : FVec F S32x128x8x128 .f32 := broadcastInDim S32x128x8x128 ![] bcast_S_S32x128x8x128 main_cst_0
  let main_v3 : IVec S32x128x8x128 1 := cmpf .olt main_arg0 main_v2
  let main_v4 : IVec S32x128x8x128 1 := andi main_v1 main_v3
  let main_cst_1 : FVec F S_ .f32 := constant S_ .f32 0xFF800000#32
  let main_v5 : FVec F S32x8x128 .f32 := broadcastInDim S32x8x128 ![] bcast_S_S32x8x128 main_cst_1
  let main_v6 : IVec S32x8x128 1 := cmpf .ogt main_arg1 main_v5
  let main_cst_2 : FVec F S_ .f32 := constant S_ .f32 0x7F800000#32
  let main_v7 : FVec F S32x8x128 .f32 := broadcastInDim S32x8x128 ![] bcast_S_S32x8x128 main_cst_2
  let main_v8 : IVec S32x8x128 1 := cmpf .olt main_arg1 main_v7
  let main_v9 : IVec S32x8x128 1 := andi main_v6 main_v8
  (main_v4, main_v9)
-- ==== Pre_tables_in_range.lean ====
abbrev S32x3x8 : Shape := ⟨3, ![32, 3, 8]⟩
abbrev S32x128 : Shape := ⟨2, ![32, 128]⟩
abbrev S32x8x1x128 : Shape := ⟨4, ![32, 8, 1, 128]⟩
abbrev S5120x1x8x128x128 : Shape := ⟨5, ![5120, 1, 8, 128, 128]⟩
abbrev S_ : Shape := ⟨0, ![]⟩

class Facts : Prop where
  bcast_S_S32x3x8 : S_.BroadcastsInDim S32x3x8 (![] : Fin 0 → Fin S32x3x8.rank)
  bcast_S_S32x128 : S_.BroadcastsInDim S32x128 (![] : Fin 0 → Fin S32x128.rank)

variable [Facts]

def fn {F : FTy → Type} [FloatOps F] (main_arg0 : IVec S32x3x8 32) (main_arg1 : IVec S32x128 32) (main_arg2 : FVec F S32x8x1x128 .f32) (main_arg3 : FVec F S32x8x1x128 .f32) (main_arg4 : FVec F S32x8x1x128 .f32) (main_arg5 : FVec F S5120x1x8x128x128 .f32) (main_arg6 : FVec F S5120x1x8x128x128 .f32) : IVec S32x3x8 1 × IVec S32x128 1 :=
  let main_c : IVec S_ 32 := constantI S_ 32 0#32
  let main_v0 : IVec S32x3x8 32 := broadcastInDim S32x3x8 ![] bcast_S_S32x3x8 main_c
  let main_v1 : IVec S32x3x8 1 := cmpi .sge main_arg0 main_v0
  let main_c_0 : IVec S_ 32 := constantI S_ 32 64#32
  let main_v2 : IVec S32x3x8 32 := broadcastInDim S32x3x8 ![] bcast_S_S32x3x8 main_c_0
  let main_v3 : IVec S32x3x8 1 := cmpi .slt main_arg0 main_v2
  let main_v4 : IVec S32x3x8 1 := andi main_v1 main_v3
  let main_c_1 : IVec S_ 32 := constantI S_ 32 0#32
  let main_v5 : IVec S32x128 32 := broadcastInDim S32x128 ![] bcast_S_S32x128 main_c_1
  let main_v6 : IVec S32x128 1 := cmpi .sge main_arg1 main_v5
  let main_c_2 : IVec S_ 32 := constantI S_ 32 5120#32
  let main_v7 : IVec S32x128 32 := broadcastInDim S32x128 ![] bcast_S_S32x128 main_c_2
  let main_v8 : IVec S32x128 1 := cmpi .slt main_arg1 main_v7
  let main_v9 : IVec S32x128 1 := andi main_v6 main_v8
  (main_v4, main_v9)
-- ==== Kernel.lean ====
abbrev S32x3x8 : Shape := ⟨3, ![32, 3, 8]⟩
abbrev S32x128 : Shape := ⟨2, ![32, 128]⟩
abbrev S32x8x1x128 : Shape := ⟨4, ![32, 8, 1, 128]⟩
abbrev S5120x1x8x128x128 : Shape := ⟨5, ![5120, 1, 8, 128, 128]⟩
abbrev S32x3x1x8 : Shape := ⟨4, ![32, 3, 1, 8]⟩
abbrev S_ : Shape := ⟨0, ![]⟩
abbrev S2 : Shape := ⟨1, ![2]⟩
abbrev S2x1 : Shape := ⟨2, ![2, 1]⟩
abbrev S1x1x2x1 : Shape := ⟨4, ![1, 1, 2, 1]⟩
abbrev S32x3x2x8 : Shape := ⟨4, ![32, 3, 2, 8]⟩
abbrev S32 : Shape := ⟨1, ![32]⟩
abbrev S32x1x1x1 : Shape := ⟨4, ![32, 1, 1, 1]⟩
abbrev S32x3x2x8x1 : Shape := ⟨5, ![32, 3, 2, 8, 1]⟩
abbrev S32x3x2x8x2 : Shape := ⟨5, ![32, 3, 2, 8, 2]⟩
abbrev S1536 : Shape := ⟨1, ![1536]⟩
abbrev S1x1x1x128 : Shape := ⟨4, ![1, 1, 1, 128]⟩
abbrev S1x1x1x128x128 : Shape := ⟨5, ![1, 1, 1, 128, 128]⟩
abbrev S1 : Shape := ⟨1, ![1]⟩
abbrev S1x128 : Shape := ⟨2, ![1, 128]⟩
abbrev S128x128 : Shape := ⟨2, ![128, 128]⟩
abbrev S768x128 : Shape := ⟨2, ![768, 128]⟩
abbrev S8x128 : Shape := ⟨2, ![8, 128]⟩
abbrev S8x768 : Shape := ⟨2, ![8, 768]⟩
abbrev S1x1 : Shape := ⟨2, ![1, 1]⟩
abbrev S8 : Shape := ⟨1, ![8]⟩
abbrev S8x1 : Shape := ⟨2, ![8, 1]⟩

abbrev nBuf : Space → Nat
  | .hbm => 39
  | .vmem => 32
  | .smem => 1
  | _ => 0

abbrev bufTy : (tb : Table) → Fin (tcTables nBuf tb) → BufTy
  | .hbm, ⟨0, _⟩ => ⟨S32x3x8, .i32⟩
  | .hbm, ⟨1, _⟩ => ⟨S32x128, .i32⟩
  | .hbm, ⟨2, _⟩ => ⟨S32x8x1x128, .f32⟩
  | .hbm, ⟨3, _⟩ => ⟨S32x8x1x128, .f32⟩
  | .hbm, ⟨4, _⟩ => ⟨S32x8x1x128, .f32⟩
  | .hbm, ⟨5, _⟩ => ⟨S5120x1x8x128x128, .f32⟩
  | .hbm, ⟨6, _⟩ => ⟨S5120x1x8x128x128, .f32⟩
  | .hbm, ⟨7, _⟩ => ⟨S32x3x1x8, .i32⟩
  | .hbm, ⟨8, _⟩ => ⟨S_, .i32⟩
  | .hbm, ⟨9, _⟩ => ⟨S32x3x1x8, .i32⟩
  | .hbm, ⟨10, _⟩ => ⟨S32x3x1x8, .i32⟩
  | .hbm, ⟨11, _⟩ => ⟨S2, .i32⟩
  | .hbm, ⟨12, _⟩ => ⟨S2x1, .i32⟩
  | .hbm, ⟨13, _⟩ => ⟨S1x1x2x1, .i32⟩
  | .hbm, ⟨14, _⟩ => ⟨S32x3x2x8, .i32⟩
  | .hbm, ⟨15, _⟩ => ⟨S32x3x2x8, .i32⟩
  | .hbm, ⟨16, _⟩ => ⟨S32x3x2x8, .i32⟩
  | .hbm, ⟨17, _⟩ => ⟨S32, .i32⟩
  | .hbm, ⟨18, _⟩ => ⟨S32x1x1x1, .i32⟩
  | .hbm, ⟨19, _⟩ => ⟨S_, .i32⟩
  | .hbm, ⟨20, _⟩ => ⟨S32x1x1x1, .i32⟩
  | .hbm, ⟨21, _⟩ => ⟨S32x1x1x1, .i1⟩
  | .hbm, ⟨22, _⟩ => ⟨S_, .i32⟩
  | .hbm, ⟨23, _⟩ => ⟨S32x1x1x1, .i32⟩
  | .hbm, ⟨24, _⟩ => ⟨S32x1x1x1, .i32⟩
  | .hbm, ⟨25, _⟩ => ⟨S32x1x1x1, .i32⟩
  | .hbm, ⟨26, _⟩ => ⟨S_, .i32⟩
  | .hbm, ⟨27, _⟩ => ⟨S32x3x2x8, .i32⟩
  | .hbm, ⟨28, _⟩ => ⟨S32x3x2x8, .i1⟩
  | .hbm, ⟨29, _⟩ => ⟨S_, .i32⟩
  | .hbm, ⟨30, _⟩ => ⟨S32x3x2x8, .i32⟩
  | .hbm, ⟨31, _⟩ => ⟨S32x3x2x8, .i32⟩
  | .hbm, ⟨32, _⟩ => ⟨S32x3x2x8, .i32⟩
  | .hbm, ⟨33, _⟩ => ⟨S32x3x2x8, .i32⟩
  | .hbm, ⟨34, _⟩ => ⟨S32x3x2x8x1, .i32⟩
  | .hbm, ⟨35, _⟩ => ⟨S32x3x2x8x1, .i32⟩
  | .hbm, ⟨36, _⟩ => ⟨S32x3x2x8x2, .i32⟩
  | .hbm, ⟨37, _⟩ => ⟨S32x3x2x8, .i32⟩
  | .hbm, ⟨38, _⟩ => ⟨S32x8x1x128, .f32⟩
  | .local _ .vmem, ⟨0, _⟩ => ⟨S1x1x1x128, .f32⟩
  | .local _ .vmem, ⟨1, _⟩ => ⟨S1x1x1x128, .f32⟩
  | .local _ .vmem, ⟨2, _⟩ => ⟨S1x1x1x128, .f32⟩
  | .local _ .vmem, ⟨3, _⟩ => ⟨S1x1x1x128, .f32⟩
  | .local _ .vmem, ⟨4, _⟩ => ⟨S1x1x1x128, .f32⟩
  | .local _ .vmem, ⟨5, _⟩ => ⟨S1x1x1x128, .f32⟩
  | .local _ .vmem, ⟨6, _⟩ => ⟨S1x1x1x128x128, .f32⟩
  | .local _ .vmem, ⟨7, _⟩ => ⟨S1x1x1x128x128, .f32⟩
  | .local _ .vmem, ⟨8, _⟩ => ⟨S1x1x1x128x128, .f32⟩
  | .local _ .vmem, ⟨9, _⟩ => ⟨S1x1x1x128x128, .f32⟩
  | .local _ .vmem, ⟨10, _⟩ => ⟨S1x1x1x128x128, .f32⟩
  | .local _ .vmem, ⟨11, _⟩ => ⟨S1x1x1x128x128, .f32⟩
  | .local _ .vmem, ⟨12, _⟩ => ⟨S1x1x1x128x128, .f32⟩
  | .local _ .vmem, ⟨13, _⟩ => ⟨S1x1x1x128x128, .f32⟩
  | .local _ .vmem, ⟨14, _⟩ => ⟨S1x1x1x128x128, .f32⟩
  | .local _ .vmem, ⟨15, _⟩ => ⟨S1x1x1x128x128, .f32⟩
  | .local _ .vmem, ⟨16, _⟩ => ⟨S1x1x1x128x128, .f32⟩
  | .local _ .vmem, ⟨17, _⟩ => ⟨S1x1x1x128x128, .f32⟩
  | .local _ .vmem, ⟨18, _⟩ => ⟨S1x1x1x128x128, .f32⟩
  | .local _ .vmem, ⟨19, _⟩ => ⟨S1x1x1x128x128, .f32⟩
  | .local _ .vmem, ⟨20, _⟩ => ⟨S1x1x1x128x128, .f32⟩
  | .local _ .vmem, ⟨21, _⟩ => ⟨S1x1x1x128x128, .f32⟩
  | .local _ .vmem, ⟨22, _⟩ => ⟨S1x1x1x128x128, .f32⟩
  | .local _ .vmem, ⟨23, _⟩ => ⟨S1x1x1x128x128, .f32⟩
  | .local _ .vmem, ⟨24, _⟩ => ⟨S1x1x1x128x128, .f32⟩
  | .local _ .vmem, ⟨25, _⟩ => ⟨S1x1x1x128x128, .f32⟩
  | .local _ .vmem, ⟨26, _⟩ => ⟨S1x1x1x128x128, .f32⟩
  | .local _ .vmem, ⟨27, _⟩ => ⟨S1x1x1x128x128, .f32⟩
  | .local _ .vmem, ⟨28, _⟩ => ⟨S1x1x1x128x128, .f32⟩
  | .local _ .vmem, ⟨29, _⟩ => ⟨S1x1x1x128x128, .f32⟩
  | .local _ .vmem, ⟨30, _⟩ => ⟨S1x1x1x128, .f32⟩
  | .local _ .vmem, ⟨31, _⟩ => ⟨S1x1x1x128, .f32⟩
  | .local _ .smem, ⟨0, _⟩ => ⟨S1536, .i32⟩
  | _, _ => ⟨S32x3x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v27 : Ref sig .tc := ⟨.hbm, 38, rfl⟩
abbrev main_v26 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![32, 8], ![false, false]⟩

abbrev pre0 : Pipeline.Prefetch sig := ⟨1, ![main_v26.idx], fun | 0 => main_v26.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) (c0_i32_0 : BitVec 32) : Fin 1 → Nat :=
  let arg0 : BitVec 32 := BitVec.ofNat 32 (i 0).val
  let c3_i32 : BitVec 32 := 3#32
  let v0 : BitVec 32 := Scalar.muli arg0 c3_i32
  let v1 : BitVec 32 := Scalar.addi v0 c0_i32
  let c2_i32 : BitVec 32 := 2#32
  let v2 : BitVec 32 := Scalar.muli v1 c2_i32
  let v3 : BitVec 32 := Scalar.addi v2 c0_i32_0
  let c8_i32 : BitVec 32 := 8#32
  let v4 : BitVec 32 := Scalar.muli v3 c8_i32
  let arg1 : BitVec 32 := BitVec.ofNat 32 (i 1).val
  let v5 : BitVec 32 := Scalar.addi v4 arg1
  let v6 : Index := Scalar.indexCast v5
  ![v6.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (k0_off1_inb : ∀ i : grid0.Coords, ∀ (r₁ : Fin 3) (r₂ : Fin 2), ∀ a, (k0_off1 i (BitVec.ofNat 32 r₁.val) (BitVec.ofNat 32 r₂.val)) a + S1.size a ≤ S1536.size a) (numel1_S1 : S1.numel = 1) (pf : pre0.Contents (Elt F)) (i : grid0.Coords) : Fin 5 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c0_i32 : BitVec 32 := 0#32
  let v1 : BitVec 32 := Scalar.addi v0 c0_i32
  let c2_i32 : BitVec 32 := 2#32
  let v2 : BitVec 32 := Scalar.muli v1 c2_i32
  let c0_i32_0 : BitVec 32 := 0#32
  let v3 : BitVec 32 := Scalar.addi v2 c0_i32_0
  let c8_i32 : BitVec 32 := 8#32
  let v4 : BitVec 32 := Scalar.muli v3 c8_i32
  let v5 : BitVec 32 := Scalar.addi v4 arg1
  let v6 : Index := Scalar.indexCast v5
  let v7 : BitVec 32 := pf.at 0 (Rect.unit (s := S1536) ![v6.toNat] S1.size (k0_off1_inb i 0 0)) numel1_S1
  let c0_i32_1 : BitVec 32 := 0#32
  let c0_i32_2 : BitVec 32 := 0#32
  let c0_i32_3 : BitVec 32 := 0#32
  let c0_i32_4 : BitVec 32 := 0#32
  ![v7.toNat, c0_i32_1.toNat, arg1.toNat, c0_i32_2.toNat, c0_i32_3.toNat]

def cc0_transform_4 (k0_off1_inb : ∀ i : grid0.Coords, ∀ (r₁ : Fin 3) (r₂ : Fin 2), ∀ a, (k0_off1 i (BitVec.ofNat 32 r₁.val) (BitVec.ofNat 32 r₂.val)) a + S1.size a ≤ S1536.size a) (numel1_S1 : S1.numel = 1) (pf : pre0.Contents (Elt F)) (i : grid0.Coords) : Fin 5 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c0_i32 : BitVec 32 := 0#32
  let v1 : BitVec 32 := Scalar.addi v0 c0_i32
  let c2_i32 : BitVec 32 := 2#32
  let v2 : BitVec 32 := Scalar.muli v1 c2_i32
  let c1_i32 : BitVec 32 := 1#32
  let v3 : BitVec 32 := Scalar.addi v2 c1_i32
  let c8_i32 : BitVec 32 := 8#32
  let v4 : BitVec 32 := Scalar.muli v3 c8_i32
  let v5 : BitVec 32 := Scalar.addi v4 arg1
  let v6 : Index := Scalar.indexCast v5
  let v7 : BitVec 32 := pf.at 0 (Rect.unit (s := S1536) ![v6.toNat] S1.size (k0_off1_inb i 0 1)) numel1_S1
  let c0_i32_0 : BitVec 32 := 0#32
  let c0_i32_1 : BitVec 32 := 0#32
  let c0_i32_2 : BitVec 32 := 0#32
  let c0_i32_3 : BitVec 32 := 0#32
  ![v7.toNat, c0_i32_0.toNat, arg1.toNat, c0_i32_1.toNat, c0_i32_2.toNat]

def cc0_transform_5 (k0_off1_inb : ∀ i : grid0.Coords, ∀ (r₁ : Fin 3) (r₂ : Fin 2), ∀ a, (k0_off1 i (BitVec.ofNat 32 r₁.val) (BitVec.ofNat 32 r₂.val)) a + S1.size a ≤ S1536.size a) (numel1_S1 : S1.numel = 1) (pf : pre0.Contents (Elt F)) (i : grid0.Coords) : Fin 5 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c1_i32 : BitVec 32 := 1#32
  let v1 : BitVec 32 := Scalar.addi v0 c1_i32
  let c2_i32 : BitVec 32 := 2#32
  let v2 : BitVec 32 := Scalar.muli v1 c2_i32
  let c0_i32 : BitVec 32 := 0#32
  let v3 : BitVec 32 := Scalar.addi v2 c0_i32
  let c8_i32 : BitVec 32 := 8#32
  let v4 : BitVec 32 := Scalar.muli v3 c8_i32
  let v5 : BitVec 32 := Scalar.addi v4 arg1
  let v6 : Index := Scalar.indexCast v5
  let v7 : BitVec 32 := pf.at 0 (Rect.unit (s := S1536) ![v6.toNat] S1.size (k0_off1_inb i 1 0)) numel1_S1
  let c0_i32_0 : BitVec 32 := 0#32
  let c0_i32_1 : BitVec 32 := 0#32
  let c0_i32_2 : BitVec 32 := 0#32
  let c0_i32_3 : BitVec 32 := 0#32
  ![v7.toNat, c0_i32_0.toNat, arg1.toNat, c0_i32_1.toNat, c0_i32_2.toNat]

def cc0_transform_6 (k0_off1_inb : ∀ i : grid0.Coords, ∀ (r₁ : Fin 3) (r₂ : Fin 2), ∀ a, (k0_off1 i (BitVec.ofNat 32 r₁.val) (BitVec.ofNat 32 r₂.val)) a + S1.size a ≤ S1536.size a) (numel1_S1 : S1.numel = 1) (pf : pre0.Contents (Elt F)) (i : grid0.Coords) : Fin 5 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c1_i32 : BitVec 32 := 1#32
  let v1 : BitVec 32 := Scalar.addi v0 c1_i32
  let c2_i32 : BitVec 32 := 2#32
  let v2 : BitVec 32 := Scalar.muli v1 c2_i32
  let c1_i32_0 : BitVec 32 := 1#32
  let v3 : BitVec 32 := Scalar.addi v2 c1_i32_0
  let c8_i32 : BitVec 32 := 8#32
  let v4 : BitVec 32 := Scalar.muli v3 c8_i32
  let v5 : BitVec 32 := Scalar.addi v4 arg1
  let v6 : Index := Scalar.indexCast v5
  let v7 : BitVec 32 := pf.at 0 (Rect.unit (s := S1536) ![v6.toNat] S1.size (k0_off1_inb i 1 1)) numel1_S1
  let c0_i32 : BitVec 32 := 0#32
  let c0_i32_1 : BitVec 32 := 0#32
  let c0_i32_2 : BitVec 32 := 0#32
  let c0_i32_3 : BitVec 32 := 0#32
  ![v7.toNat, c0_i32.toNat, arg1.toNat, c0_i32_1.toNat, c0_i32_2.toNat]

def cc0_transform_7 (k0_off1_inb : ∀ i : grid0.Coords, ∀ (r₁ : Fin 3) (r₂ : Fin 2), ∀ a, (k0_off1 i (BitVec.ofNat 32 r₁.val) (BitVec.ofNat 32 r₂.val)) a + S1.size a ≤ S1536.size a) (numel1_S1 : S1.numel = 1) (pf : pre0.Contents (Elt F)) (i : grid0.Coords) : Fin 5 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c2_i32 : BitVec 32 := 2#32
  let v1 : BitVec 32 := Scalar.addi v0 c2_i32
  let c2_i32_0 : BitVec 32 := 2#32
  let v2 : BitVec 32 := Scalar.muli v1 c2_i32_0
  let c0_i32 : BitVec 32 := 0#32
  let v3 : BitVec 32 := Scalar.addi v2 c0_i32
  let c8_i32 : BitVec 32 := 8#32
  let v4 : BitVec 32 := Scalar.muli v3 c8_i32
  let v5 : BitVec 32 := Scalar.addi v4 arg1
  let v6 : Index := Scalar.indexCast v5
  let v7 : BitVec 32 := pf.at 0 (Rect.unit (s := S1536) ![v6.toNat] S1.size (k0_off1_inb i 2 0)) numel1_S1
  let c0_i32_1 : BitVec 32 := 0#32
  let c0_i32_2 : BitVec 32 := 0#32
  let c0_i32_3 : BitVec 32 := 0#32
  let c0_i32_4 : BitVec 32 := 0#32
  ![v7.toNat, c0_i32_1.toNat, arg1.toNat, c0_i32_2.toNat, c0_i32_3.toNat]

def cc0_transform_8 (k0_off1_inb : ∀ i : grid0.Coords, ∀ (r₁ : Fin 3) (r₂ : Fin 2), ∀ a, (k0_off1 i (BitVec.ofNat 32 r₁.val) (BitVec.ofNat 32 r₂.val)) a + S1.size a ≤ S1536.size a) (numel1_S1 : S1.numel = 1) (pf : pre0.Contents (Elt F)) (i : grid0.Coords) : Fin 5 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c2_i32 : BitVec 32 := 2#32
  let v1 : BitVec 32 := Scalar.addi v0 c2_i32
  let c2_i32_0 : BitVec 32 := 2#32
  let v2 : BitVec 32 := Scalar.muli v1 c2_i32_0
  let c1_i32 : BitVec 32 := 1#32
  let v3 : BitVec 32 := Scalar.addi v2 c1_i32
  let c8_i32 : BitVec 32 := 8#32
  let v4 : BitVec 32 := Scalar.muli v3 c8_i32
  let v5 : BitVec 32 := Scalar.addi v4 arg1
  let v6 : Index := Scalar.indexCast v5
  let v7 : BitVec 32 := pf.at 0 (Rect.unit (s := S1536) ![v6.toNat] S1.size (k0_off1_inb i 2 1)) numel1_S1
  let c0_i32 : BitVec 32 := 0#32
  let c0_i32_1 : BitVec 32 := 0#32
  let c0_i32_2 : BitVec 32 := 0#32
  let c0_i32_3 : BitVec 32 := 0#32
  ![v7.toNat, c0_i32.toNat, arg1.toNat, c0_i32_1.toNat, c0_i32_2.toNat]

def cc0_transform_9 (k0_off1_inb : ∀ i : grid0.Coords, ∀ (r₁ : Fin 3) (r₂ : Fin 2), ∀ a, (k0_off1 i (BitVec.ofNat 32 r₁.val) (BitVec.ofNat 32 r₂.val)) a + S1.size a ≤ S1536.size a) (numel1_S1 : S1.numel = 1) (pf : pre0.Contents (Elt F)) (i : grid0.Coords) : Fin 5 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c0_i32 : BitVec 32 := 0#32
  let v1 : BitVec 32 := Scalar.addi v0 c0_i32
  let c2_i32 : BitVec 32 := 2#32
  let v2 : BitVec 32 := Scalar.muli v1 c2_i32
  let c0_i32_0 : BitVec 32 := 0#32
  let v3 : BitVec 32 := Scalar.addi v2 c0_i32_0
  let c8_i32 : BitVec 32 := 8#32
  let v4 : BitVec 32 := Scalar.muli v3 c8_i32
  let v5 : BitVec 32 := Scalar.addi v4 arg1
  let v6 : Index := Scalar.indexCast v5
  let v7 : BitVec 32 := pf.at 0 (Rect.unit (s := S1536) ![v6.toNat] S1.size (k0_off1_inb i 0 0)) numel1_S1
  let c0_i32_1 : BitVec 32 := 0#32
  let c0_i32_2 : BitVec 32 := 0#32
  let c0_i32_3 : BitVec 32 := 0#32
  let c0_i32_4 : BitVec 32 := 0#32
  ![v7.toNat, c0_i32_1.toNat, arg1.toNat, c0_i32_2.toNat, c0_i32_3.toNat]

def cc0_transform_10 (k0_off1_inb : ∀ i : grid0.Coords, ∀ (r₁ : Fin 3) (r₂ : Fin 2), ∀ a, (k0_off1 i (BitVec.ofNat 32 r₁.val) (BitVec.ofNat 32 r₂.val)) a + S1.size a ≤ S1536.size a) (numel1_S1 : S1.numel = 1) (pf : pre0.Contents (Elt F)) (i : grid0.Coords) : Fin 5 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c0_i32 : BitVec 32 := 0#32
  let v1 : BitVec 32 := Scalar.addi v0 c0_i32
  let c2_i32 : BitVec 32 := 2#32
  let v2 : BitVec 32 := Scalar.muli v1 c2_i32
  let c1_i32 : BitVec 32 := 1#32
  let v3 : BitVec 32 := Scalar.addi v2 c1_i32
  let c8_i32 : BitVec 32 := 8#32
  let v4 : BitVec 32 := Scalar.muli v3 c8_i32
  let v5 : BitVec 32 := Scalar.addi v4 arg1
  let v6 : Index := Scalar.indexCast v5
  let v7 : BitVec 32 := pf.at 0 (Rect.unit (s := S1536) ![v6.toNat] S1.size (k0_off1_inb i 0 1)) numel1_S1
  let c0_i32_0 : BitVec 32 := 0#32
  let c0_i32_1 : BitVec 32 := 0#32
  let c0_i32_2 : BitVec 32 := 0#32
  let c0_i32_3 : BitVec 32 := 0#32
  ![v7.toNat, c0_i32_0.toNat, arg1.toNat, c0_i32_1.toNat, c0_i32_2.toNat]

def cc0_transform_11 (k0_off1_inb : ∀ i : grid0.Coords, ∀ (r₁ : Fin 3) (r₂ : Fin 2), ∀ a, (k0_off1 i (BitVec.ofNat 32 r₁.val) (BitVec.ofNat 32 r₂.val)) a + S1.size a ≤ S1536.size a) (numel1_S1 : S1.numel = 1) (pf : pre0.Contents (Elt F)) (i : grid0.Coords) : Fin 5 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c1_i32 : BitVec 32 := 1#32
  let v1 : BitVec 32 := Scalar.addi v0 c1_i32
  let c2_i32 : BitVec 32 := 2#32
  let v2 : BitVec 32 := Scalar.muli v1 c2_i32
  let c0_i32 : BitVec 32 := 0#32
  let v3 : BitVec 32 := Scalar.addi v2 c0_i32
  let c8_i32 : BitVec 32 := 8#32
  let v4 : BitVec 32 := Scalar.muli v3 c8_i32
  let v5 : BitVec 32 := Scalar.addi v4 arg1
  let v6 : Index := Scalar.indexCast v5
  let v7 : BitVec 32 := pf.at 0 (Rect.unit (s := S1536) ![v6.toNat] S1.size (k0_off1_inb i 1 0)) numel1_S1
  let c0_i32_0 : BitVec 32 := 0#32
  let c0_i32_1 : BitVec 32 := 0#32
  let c0_i32_2 : BitVec 32 := 0#32
  let c0_i32_3 : BitVec 32 := 0#32
  ![v7.toNat, c0_i32_0.toNat, arg1.toNat, c0_i32_1.toNat, c0_i32_2.toNat]

def cc0_transform_12 (k0_off1_inb : ∀ i : grid0.Coords, ∀ (r₁ : Fin 3) (r₂ : Fin 2), ∀ a, (k0_off1 i (BitVec.ofNat 32 r₁.val) (BitVec.ofNat 32 r₂.val)) a + S1.size a ≤ S1536.size a) (numel1_S1 : S1.numel = 1) (pf : pre0.Contents (Elt F)) (i : grid0.Coords) : Fin 5 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c1_i32 : BitVec 32 := 1#32
  let v1 : BitVec 32 := Scalar.addi v0 c1_i32
  let c2_i32 : BitVec 32 := 2#32
  let v2 : BitVec 32 := Scalar.muli v1 c2_i32
  let c1_i32_0 : BitVec 32 := 1#32
  let v3 : BitVec 32 := Scalar.addi v2 c1_i32_0
  let c8_i32 : BitVec 32 := 8#32
  let v4 : BitVec 32 := Scalar.muli v3 c8_i32
  let v5 : BitVec 32 := Scalar.addi v4 arg1
  let v6 : Index := Scalar.indexCast v5
  let v7 : BitVec 32 := pf.at 0 (Rect.unit (s := S1536) ![v6.toNat] S1.size (k0_off1_inb i 1 1)) numel1_S1
  let c0_i32 : BitVec 32 := 0#32
  let c0_i32_1 : BitVec 32 := 0#32
  let c0_i32_2 : BitVec 32 := 0#32
  let c0_i32_3 : BitVec 32 := 0#32
  ![v7.toNat, c0_i32.toNat, arg1.toNat, c0_i32_1.toNat, c0_i32_2.toNat]

def cc0_transform_13 (k0_off1_inb : ∀ i : grid0.Coords, ∀ (r₁ : Fin 3) (r₂ : Fin 2), ∀ a, (k0_off1 i (BitVec.ofNat 32 r₁.val) (BitVec.ofNat 32 r₂.val)) a + S1.size a ≤ S1536.size a) (numel1_S1 : S1.numel = 1) (pf : pre0.Contents (Elt F)) (i : grid0.Coords) : Fin 5 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c2_i32 : BitVec 32 := 2#32
  let v1 : BitVec 32 := Scalar.addi v0 c2_i32
  let c2_i32_0 : BitVec 32 := 2#32
  let v2 : BitVec 32 := Scalar.muli v1 c2_i32_0
  let c0_i32 : BitVec 32 := 0#32
  let v3 : BitVec 32 := Scalar.addi v2 c0_i32
  let c8_i32 : BitVec 32 := 8#32
  let v4 : BitVec 32 := Scalar.muli v3 c8_i32
  let v5 : BitVec 32 := Scalar.addi v4 arg1
  let v6 : Index := Scalar.indexCast v5
  let v7 : BitVec 32 := pf.at 0 (Rect.unit (s := S1536) ![v6.toNat] S1.size (k0_off1_inb i 2 0)) numel1_S1
  let c0_i32_1 : BitVec 32 := 0#32
  let c0_i32_2 : BitVec 32 := 0#32
  let c0_i32_3 : BitVec 32 := 0#32
  let c0_i32_4 : BitVec 32 := 0#32
  ![v7.toNat, c0_i32_1.toNat, arg1.toNat, c0_i32_2.toNat, c0_i32_3.toNat]

def cc0_transform_14 (k0_off1_inb : ∀ i : grid0.Coords, ∀ (r₁ : Fin 3) (r₂ : Fin 2), ∀ a, (k0_off1 i (BitVec.ofNat 32 r₁.val) (BitVec.ofNat 32 r₂.val)) a + S1.size a ≤ S1536.size a) (numel1_S1 : S1.numel = 1) (pf : pre0.Contents (Elt F)) (i : grid0.Coords) : Fin 5 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c2_i32 : BitVec 32 := 2#32
  let v1 : BitVec 32 := Scalar.addi v0 c2_i32
  let c2_i32_0 : BitVec 32 := 2#32
  let v2 : BitVec 32 := Scalar.muli v1 c2_i32_0
  let c1_i32 : BitVec 32 := 1#32
  let v3 : BitVec 32 := Scalar.addi v2 c1_i32
  let c8_i32 : BitVec 32 := 8#32
  let v4 : BitVec 32 := Scalar.muli v3 c8_i32
  let v5 : BitVec 32 := Scalar.addi v4 arg1
  let v6 : Index := Scalar.indexCast v5
  let v7 : BitVec 32 := pf.at 0 (Rect.unit (s := S1536) ![v6.toNat] S1.size (k0_off1_inb i 2 1)) numel1_S1
  let c0_i32 : BitVec 32 := 0#32
  let c0_i32_1 : BitVec 32 := 0#32
  let c0_i32_2 : BitVec 32 := 0#32
  let c0_i32_3 : BitVec 32 := 0#32
  ![v7.toNat, c0_i32.toNat, arg1.toNat, c0_i32_1.toNat, c0_i32_2.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x1x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x1x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ReferenceIdeal.lean ====
abbrev S32x3x8 : Shape := ⟨3, ![32, 3, 8]⟩
abbrev S32x128 : Shape := ⟨2, ![32, 128]⟩
abbrev S32x8x1x128 : Shape := ⟨4, ![32, 8, 1, 128]⟩
abbrev S5120x1x8x128x128 : Shape := ⟨5, ![5120, 1, 8, 128, 128]⟩
abbrev S1 : Shape := ⟨1, ![1]⟩
abbrev S_ : Shape := ⟨0, ![]⟩
abbrev S32x8x3 : Shape := ⟨3, ![32, 8, 3]⟩
abbrev S32 : Shape := ⟨1, ![32]⟩
abbrev S32x1x1x1 : Shape := ⟨4, ![32, 1, 1, 1]⟩
abbrev S8 : Shape := ⟨1, ![8]⟩
abbrev S1x8x1x1 : Shape := ⟨4, ![1, 8, 1, 1]⟩
abbrev S32x8x3x1 : Shape := ⟨4, ![32, 8, 3, 1]⟩
abbrev S2 : Shape := ⟨1, ![2]⟩
abbrev S1x1x1x2 : Shape := ⟨4, ![1, 1, 1, 2]⟩
abbrev S32x8x3x2 : Shape := ⟨4, ![32, 8, 3, 2]⟩
abbrev S32x8x3x2x1 : Shape := ⟨5, ![32, 8, 3, 2, 1]⟩
abbrev S32x8x3x2x2 : Shape := ⟨5, ![32, 8, 3, 2, 2]⟩
abbrev S32x8x3x2x3 : Shape := ⟨5, ![32, 8, 3, 2, 3]⟩
abbrev S32x8x3x2x128x128 : Shape := ⟨6, ![32, 8, 3, 2, 128, 128]⟩
abbrev S32x8x768x128 : Shape := ⟨4, ![32, 8, 768, 128]⟩
abbrev S32x8x256x128 : Shape := ⟨4, ![32, 8, 256, 128]⟩
abbrev S32x8x1024x128 : Shape := ⟨4, ![32, 8, 1024, 128]⟩
abbrev S32x8x1 : Shape := ⟨3, ![32, 8, 1]⟩
abbrev S32x8x4 : Shape := ⟨3, ![32, 8, 4]⟩
abbrev S32x8x4x1 : Shape := ⟨4, ![32, 8, 4, 1]⟩
abbrev S256 : Shape := ⟨1, ![256]⟩
abbrev S1x1x1x256 : Shape := ⟨4, ![1, 1, 1, 256]⟩
abbrev S32x8x4x256 : Shape := ⟨4, ![32, 8, 4, 256]⟩
abbrev S32x8x1x1024 : Shape := ⟨4, ![32, 8, 1, 1024]⟩
abbrev S1x1 : Shape := ⟨2, ![1, 1]⟩
abbrev S1x1x1x1 : Shape := ⟨4, ![1, 1, 1, 1]⟩
abbrev S32x8x1x1 : Shape := ⟨4, ![32, 8, 1, 1]⟩

abbrev nBuf : Space → Nat
  | .hbm => 157
  | .vmem => 0
  | .smem => 0
  | _ => 0

abbrev hbmTy0_0 (i : Nat) : BufTy := match i % 128 with
  | 0 => ⟨S32x3x8, .i32⟩
  | 1 => ⟨S32x128, .i32⟩
  | 2 => ⟨S32x8x1x128, .f32⟩
  | 3 => ⟨S32x8x1x128, .f32⟩
  | 4 => ⟨S32x8x1x128, .f32⟩
  | 5 => ⟨S5120x1x8x128x128, .f32⟩
  | 6 => ⟨S5120x1x8x128x128, .f32⟩
  | 7 => ⟨S1, .i32⟩
  | 8 => ⟨S_, .i32⟩
  | 9 => ⟨S1, .i32⟩
  | 10 => ⟨S1, .i32⟩
  | 11 => ⟨S32x8x3, .i32⟩
  | 12 => ⟨S32, .i32⟩
  | 13 => ⟨S32x1x1x1, .i32⟩
  | 14 => ⟨S8, .i32⟩
  | 15 => ⟨S1x8x1x1, .i32⟩
  | 16 => ⟨S32x8x3x1, .i32⟩
  | 17 => ⟨S_, .i32⟩
  | 18 => ⟨S32x8x3x1, .i32⟩
  | 19 => ⟨S32x8x3x1, .i32⟩
  | 20 => ⟨S2, .i32⟩
  | 21 => ⟨S1x1x1x2, .i32⟩
  | 22 => ⟨S32x8x3x2, .i32⟩
  | 23 => ⟨S32x8x3x2, .i32⟩
  | 24 => ⟨S32x8x3x2, .i32⟩
  | 25 => ⟨S_, .i32⟩
  | 26 => ⟨S32x1x1x1, .i32⟩
  | 27 => ⟨S32x1x1x1, .i1⟩
  | 28 => ⟨S_, .i32⟩
  | 29 => ⟨S32x1x1x1, .i32⟩
  | 30 => ⟨S32x1x1x1, .i32⟩
  | 31 => ⟨S32x1x1x1, .i32⟩
  | 32 => ⟨S_, .i32⟩
  | 33 => ⟨S32x8x3x2, .i32⟩
  | 34 => ⟨S32x8x3x2, .i1⟩
  | 35 => ⟨S_, .i32⟩
  | 36 => ⟨S32x8x3x2, .i32⟩
  | 37 => ⟨S32x8x3x2, .i32⟩
  | 38 => ⟨S32x8x3x2, .i32⟩
  | 39 => ⟨S32x8x3x2, .i32⟩
  | 40 => ⟨S32x8x3x2x1, .i32⟩
  | 41 => ⟨S32x8x3x2x1, .i32⟩
  | 42 => ⟨S32x8x3x2x2, .i32⟩
  | 43 => ⟨S32x8x3x2, .i32⟩
  | 44 => ⟨S_, .i32⟩
  | 45 => ⟨S32x8x3x2, .i32⟩
  | 46 => ⟨S32x8x3x2, .i1⟩
  | 47 => ⟨S_, .i32⟩
  | 48 => ⟨S32x8x3x2, .i32⟩
  | 49 => ⟨S32x8x3x2, .i32⟩
  | 50 => ⟨S32x8x3x2, .i32⟩
  | 51 => ⟨S_, .i32⟩
  | 52 => ⟨S1x8x1x1, .i32⟩
  | 53 => ⟨S1x8x1x1, .i1⟩
  | 54 => ⟨S_, .i32⟩
  | 55 => ⟨S1x8x1x1, .i32⟩
  | 56 => ⟨S1x8x1x1, .i32⟩
  | 57 => ⟨S1x8x1x1, .i32⟩
  | 58 => ⟨S_, .i32⟩
  | 59 => ⟨S32x8x3x2, .i32⟩
  | 60 => ⟨S32x8x3x2, .i32⟩
  | 61 => ⟨S32x8x3x2, .i32⟩
  | 62 => ⟨S32x8x3x2x1, .i32⟩
  | 63 => ⟨S32x8x3x2x1, .i32⟩
  | 64 => ⟨S32x8x3x2x1, .i32⟩
  | 65 => ⟨S32x8x3x2x3, .i32⟩
  | 66 => ⟨S32x8x3x2x128x128, .f32⟩
  | 67 => ⟨S32x8x768x128, .f32⟩
  | 68 => ⟨S_, .i32⟩
  | 69 => ⟨S_, .f32⟩
  | 70 => ⟨S32x8x256x128, .f32⟩
  | 71 => ⟨S32x8x1024x128, .f32⟩
  | 72 => ⟨S_, .i32⟩
  | 73 => ⟨S32x8x3x2, .i32⟩
  | 74 => ⟨S32x8x3x2, .i1⟩
  | 75 => ⟨S_, .i32⟩
  | 76 => ⟨S32x8x3x2, .i32⟩
  | 77 => ⟨S32x8x3x2, .i32⟩
  | 78 => ⟨S32x8x3x2, .i32⟩
  | 79 => ⟨S_, .i32⟩
  | 80 => ⟨S1x8x1x1, .i32⟩
  | 81 => ⟨S1x8x1x1, .i1⟩
  | 82 => ⟨S_, .i32⟩
  | 83 => ⟨S1x8x1x1, .i32⟩
  | 84 => ⟨S1x8x1x1, .i32⟩
  | 85 => ⟨S1x8x1x1, .i32⟩
  | 86 => ⟨S_, .i32⟩
  | 87 => ⟨S32x8x3x2, .i32⟩
  | 88 => ⟨S32x8x3x2, .i32⟩
  | 89 => ⟨S32x8x3x2, .i32⟩
  | 90 => ⟨S32x8x3x2x1, .i32⟩
  | 91 => ⟨S32x8x3x2x1, .i32⟩
  | 92 => ⟨S32x8x3x2x1, .i32⟩
  | 93 => ⟨S32x8x3x2x3, .i32⟩
  | 94 => ⟨S32x8x3x2x128x128, .f32⟩
  | 95 => ⟨S32x8x768x128, .f32⟩
  | 96 => ⟨S_, .i32⟩
  | 97 => ⟨S_, .f32⟩
  | 98 => ⟨S32x8x256x128, .f32⟩
  | 99 => ⟨S32x8x1024x128, .f32⟩
  | 100 => ⟨S_, .i32⟩
  | 101 => ⟨S_, .i32⟩
  | 102 => ⟨S1, .i32⟩
  | 103 => ⟨S1, .i32⟩
  | 104 => ⟨S1, .i32⟩
  | 105 => ⟨S_, .i32⟩
  | 106 => ⟨S1, .i32⟩
  | 107 => ⟨S1, .i1⟩
  | 108 => ⟨S1, .i32⟩
  | 109 => ⟨S1, .i32⟩
  | 110 => ⟨S_, .i32⟩
  | 111 => ⟨S1, .i32⟩
  | 112 => ⟨S1, .i1⟩
  | 113 => ⟨S1, .i1⟩
  | 114 => ⟨S_, .i32⟩
  | 115 => ⟨S1, .i32⟩
  | 116 => ⟨S1, .i32⟩
  | 117 => ⟨S1, .i32⟩
  | 118 => ⟨S32x8x1, .i32⟩
  | 119 => ⟨S32x8x4, .i32⟩
  | 120 => ⟨S32x8x4x1, .i32⟩
  | 121 => ⟨S_, .i32⟩
  | 122 => ⟨S32x8x4x1, .i32⟩
  | 123 => ⟨S32x8x4x1, .i32⟩
  | 124 => ⟨S256, .i32⟩
  | 125 => ⟨S1x1x1x256, .i32⟩
  | 126 => ⟨S32x8x4x256, .i32⟩
  | 127 => ⟨S32x8x4x256, .i32⟩
  | _ => ⟨S32x3x8, .i32⟩

abbrev hbmTy0_1 (i : Nat) : BufTy := match i % 128 with
  | 0 => ⟨S32x8x4x256, .i32⟩
  | 1 => ⟨S32x8x1x1024, .i32⟩
  | 2 => ⟨S1x1, .i32⟩
  | 3 => ⟨S1x1x1x1, .i32⟩
  | 4 => ⟨S32x8x1x1024, .i32⟩
  | 5 => ⟨S32x8x1x1024, .i1⟩
  | 6 => ⟨S32x8x1x1024, .f32⟩
  | 7 => ⟨S_, .f32⟩
  | 8 => ⟨S32x8x1x1024, .f32⟩
  | 9 => ⟨S32x8x1x1024, .f32⟩
  | 10 => ⟨S_, .f32⟩
  | 11 => ⟨S_, .f32⟩
  | 12 => ⟨S32x8x1x1024, .f32⟩
  | 13 => ⟨S32x8x1x1024, .f32⟩
  | 14 => ⟨S_, .f32⟩
  | 15 => ⟨S32x8x1, .f32⟩
  | 16 => ⟨S_, .f32⟩
  | 17 => ⟨S32x8x1, .f32⟩
  | 18 => ⟨S32x8x1, .f32⟩
  | 19 => ⟨S32x8x1x1, .f32⟩
  | 20 => ⟨S32x8x1x1024, .f32⟩
  | 21 => ⟨S32x8x1x1024, .f32⟩
  | 22 => ⟨S32x8x1x1024, .f32⟩
  | 23 => ⟨S_, .f32⟩
  | 24 => ⟨S32x8x1, .f32⟩
  | 25 => ⟨S32x8x1x1, .f32⟩
  | 26 => ⟨S32x8x1x1024, .f32⟩
  | 27 => ⟨S32x8x1x1024, .f32⟩
  | 28 => ⟨S32x8x1x128, .f32⟩
  | _ => ⟨S32x3x8, .i32⟩

abbrev hbmTy (i : Nat) : BufTy := match i / 128 with
  | 0 => hbmTy0_0 i
  | 1 => hbmTy0_1 i
  | _ => ⟨S32x3x8, .i32⟩

abbrev bufTy : (tb : Table) → Fin (tcTables nBuf tb) → BufTy
  | .hbm, ⟨i, _⟩ => hbmTy i
  | _, _ => ⟨S32x3x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_c_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_10 : Ref sig .tc := ⟨.hbm, 68, rfl⟩
abbrev main_call0_v0 : Ref sig .tc := ⟨.hbm, 69, rfl⟩
abbrev main_v50 : Ref sig .tc := ⟨.hbm, 70, rfl⟩
abbrev main_v51 : Ref sig .tc := ⟨.hbm, 71, rfl⟩
abbrev main_c_11 : Ref sig .tc := ⟨.hbm, 72, rfl⟩
abbrev main_v52 : Ref sig .tc := ⟨.hbm, 73, rfl⟩
abbrev main_v53 : Ref sig .tc := ⟨.hbm, 74, rfl⟩
abbrev main_c_12 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_13 : Ref sig .tc := ⟨.hbm, 79, rfl⟩
abbrev main_v57 : Ref sig .tc := ⟨.hbm, 80, rfl⟩
abbrev main_v58 : Ref sig .tc := ⟨.hbm, 81, rfl⟩
abbrev main_c_14 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_15 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_16 : Ref sig .tc := ⟨.hbm, 96, rfl⟩
abbrev main_call1_v0 : Ref sig .tc := ⟨.hbm, 97, rfl⟩
abbrev main_v71 : Ref sig .tc := ⟨.hbm, 98, rfl⟩
abbrev main_v72 : Ref sig .tc := ⟨.hbm, 99, rfl⟩
abbrev main_c_17 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_call2_v5 : Ref sig .tc := ⟨.hbm, 106, rfl⟩
abbrev main_call2_v6 : Ref sig .tc := ⟨.hbm, 107, rfl⟩
abbrev main_call2_v7 : Ref sig .tc := ⟨.hbm, 108, rfl⟩
abbrev main_call2_v8 : Ref sig .tc := ⟨.hbm, 109, rfl⟩
abbrev main_call2_c : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_call2_c_0 : Ref sig .tc := ⟨.hbm, 114, rfl⟩
abbrev main_call2_v12 : Ref sig .tc := ⟨.hbm, 115, rfl⟩
abbrev main_call2_v13 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_c_18 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_cst : Ref sig .tc := ⟨.hbm, 135, rfl⟩
abbrev main_v90 : Ref sig .tc := ⟨.hbm, 136, rfl⟩
abbrev main_v91 : Ref sig .tc := ⟨.hbm, 137, rfl⟩
abbrev main_cst_19 : Ref sig .tc := ⟨.hbm, 138, rfl⟩
abbrev main_call3_v0 : Ref sig .tc := ⟨.hbm, 139, rfl⟩
abbrev main_call3_v1 : Ref sig .tc := ⟨.hbm, 140, rfl⟩
abbrev main_v92 : Ref sig .tc := ⟨.hbm, 141, rfl⟩
abbrev main_cst_20 : Ref sig .tc := ⟨.hbm, 142, rfl⟩
abbrev main_v93 : Ref sig .tc := ⟨.hbm, 143, rfl⟩
abbrev main_cst_21 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_cst_22 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩

abbrev nD : Nat := 1
abbrev τ : Topo := Topo.v7x

variable {F : FTy → Type} [FloatOps F]
-- ==== KUp.lean ====
abbrev S16384x2048 : Shape := ⟨2, ![16384, 2048]⟩
abbrev S1x2048x8192 : Shape := ⟨3, ![1, 2048, 8192]⟩
abbrev S2048x8192 : Shape := ⟨2, ![2048, 8192]⟩
abbrev S16384x8192 : Shape := ⟨2, ![16384, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S1x2048x8192, .f32⟩
  | .hbm, ⟨2, _⟩ => ⟨S2048x8192, .f32⟩
  | .hbm, ⟨3, _⟩ => ⟨S2048x8192, .bf16⟩
  | .hbm, ⟨4, _⟩ => ⟨S16384x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RUpIdeal.lean ====
abbrev S16384x2048 : Shape := ⟨2, ![16384, 2048]⟩
abbrev S1x2048x8192 : Shape := ⟨3, ![1, 2048, 8192]⟩
abbrev S2048x8192 : Shape := ⟨2, ![2048, 8192]⟩
abbrev S16384x8192 : Shape := ⟨2, ![16384, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x8192, .f32⟩
  | .hbm, ⟨2, _⟩ => ⟨S16384x2048, .f32⟩
  | .hbm, ⟨3, _⟩ => ⟨S2048x8192, .f32⟩
  | .hbm, ⟨4, _⟩ => ⟨S16384x8192, .f32⟩
  | .hbm, ⟨5, _⟩ => ⟨S_, .f32⟩
  | .hbm, ⟨6, _⟩ => ⟨S16384x8192, .f32⟩
  | .hbm, ⟨7, _⟩ => ⟨S16384x8192, .f32⟩
  | .hbm, ⟨8, _⟩ => ⟨S16384x8192, .f32⟩
  | .hbm, ⟨9, _⟩ => ⟨S16384x8192, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KDown.lean ====
abbrev S16384x8192 : Shape := ⟨2, ![16384, 8192]⟩
abbrev S1x8192x2048 : Shape := ⟨3, ![1, 8192, 2048]⟩
abbrev S16384x2048 : Shape := ⟨2, ![16384, 2048]⟩
abbrev S1x2048 : Shape := ⟨2, ![1, 2048]⟩
abbrev S8192x2048 : Shape := ⟨2, ![8192, 2048]⟩
abbrev S2048 : Shape := ⟨1, ![2048]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S16384x8192, .bf16⟩
  | .hbm, ⟨1, _⟩ => ⟨S1x8192x2048, .f32⟩
  | .hbm, ⟨2, _⟩ => ⟨S16384x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .hbm, ⟨6, _⟩ => ⟨S2048, .f32⟩
  | .hbm, ⟨7, _⟩ => ⟨S1x2048, .f32⟩
  | .hbm, ⟨8, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== RDownIdeal.lean ====
abbrev S16384x8192 : Shape := ⟨2, ![16384, 8192]⟩
abbrev S1x8192x2048 : Shape := ⟨3, ![1, 8192, 2048]⟩
abbrev S16384x2048 : Shape := ⟨2, ![16384, 2048]⟩
abbrev S1x2048 : Shape := ⟨2, ![1, 2048]⟩
abbrev S8192x2048 : Shape := ⟨2, ![8192, 2048]⟩
abbrev S2048 : Shape := ⟨1, ![2048]⟩
abbrev S_ : Shape := ⟨0, ![]⟩
abbrev S16384 : Shape := ⟨1, ![16384]⟩
abbrev S16384x1 : Shape := ⟨2, ![16384, 1]⟩

abbrev nBuf : Space → Nat
  | .hbm => 25
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S1x8192x2048, .f32⟩
  | .hbm, ⟨2, _⟩ => ⟨S16384x2048, .f32⟩
  | .hbm, ⟨3, _⟩ => ⟨S1x2048, .f32⟩
  | .hbm, ⟨4, _⟩ => ⟨S16384x8192, .f32⟩
  | .hbm, ⟨5, _⟩ => ⟨S8192x2048, .f32⟩
  | .hbm, ⟨6, _⟩ => ⟨S16384x2048, .f32⟩
  | .hbm, ⟨7, _⟩ => ⟨S2048, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S16384x2048, .f32⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== KProj.lean ====
abbrev S1x16384x2048 : Shape := ⟨3, ![1, 16384, 2048]⟩
abbrev S1x2048 : Shape := ⟨2, ![1, 2048]⟩
abbrev S1x2048x6432 : Shape := ⟨3, ![1, 2048, 6432]⟩
abbrev S2048x6432 : Shape := ⟨2, ![2048, 6432]⟩
abbrev S2048x3072 : Shape := ⟨2, ![2048, 3072]⟩
abbrev S16384x2048 : Shape := ⟨2, ![16384, 2048]⟩
abbrev S2048 : Shape := ⟨1, ![2048]⟩
abbrev S16384x1024 : Shape := ⟨2, ![16384, 1024]⟩
abbrev S128x8x128x128 : Shape := ⟨4, ![128, 8, 128, 128]⟩
abbrev S8x16384x256 : Shape := ⟨3, ![8, 16384, 256]⟩
abbrev S8x16384x128 : Shape := ⟨3, ![8, 16384, 128]⟩
abbrev S512x2048 : Shape := ⟨2, ![512, 2048]⟩
abbrev S2048x1024 : Shape := ⟨2, ![2048, 1024]⟩
abbrev S512x1024 : Shape := ⟨2, ![512, 1024]⟩
abbrev S4x8x128x128 : Shape := ⟨4, ![4, 8, 128, 128]⟩
abbrev S8x512x256 : Shape := ⟨3, ![8, 512, 256]⟩
abbrev S8x512x128 : Shape := ⟨3, ![8, 512, 128]⟩
abbrev S512 : Shape := ⟨1, ![512]⟩
abbrev S512x1 : Shape := ⟨2, ![512, 1]⟩
abbrev S512x128 : Shape := ⟨2, ![512, 128]⟩
abbrev S4x128x128 : Shape := ⟨3, ![4, 128, 128]⟩
abbrev S4x1x128x128 : Shape := ⟨4, ![4, 1, 128, 128]⟩
abbrev S1x512x128 : Shape := ⟨3, ![1, 512, 128]⟩

abbrev nBuf : Space → Nat
  | .hbm => 14
  | .vmem => 16
  | .smem => 0
  | _ => 0

abbrev bufTy : (tb : Table) → Fin (tcTables nBuf tb) → BufTy
  | .hbm, ⟨0, _⟩ => ⟨S1x16384x2048, .f32⟩
  | .hbm, ⟨1, _⟩ => ⟨S1x2048, .f32⟩
  | .hbm, ⟨2, _⟩ => ⟨S1x2048x6432, .f32⟩
  | .hbm, ⟨3, _⟩ => ⟨S2048x6432, .f32⟩
  | .hbm, ⟨4, _⟩ => ⟨S2048x3072, .f32⟩
  | .hbm, ⟨5, _⟩ => ⟨S2048x3072, .bf16⟩
  | .hbm, ⟨6, _⟩ => ⟨S16384x2048, .f32⟩
  | .hbm, ⟨7, _⟩ => ⟨S2048, .f32⟩
  | .hbm, ⟨8, _⟩ => ⟨S1x2048, .f32⟩
  | .hbm, ⟨9, _⟩ => ⟨S16384x1024, .f32⟩
  | .hbm, ⟨10, _⟩ => ⟨S128x8x128x128, .f32⟩
  | .hbm, ⟨11, _⟩ => ⟨S128x8x128x128, .f32⟩
  | .hbm, ⟨12, _⟩ => ⟨S8x16384x256, .bf16⟩
  | .hbm, ⟨13, _⟩ => ⟨S8x16384x128, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S4x8x128x128, .f32⟩
  | .local _ .vmem, ⟨8, _⟩ => ⟨S4x8x128x128, .f32⟩
  | .local _ .vmem, ⟨9, _⟩ => ⟨S4x8x128x128, .f32⟩
  | .local _ .vmem, ⟨10, _⟩ => ⟨S4x8x128x128, .f32⟩
  | .local _ .vmem, ⟨11, _⟩ => ⟨S8x512x256, .bf16⟩
  | .local _ .vmem, ⟨12, _⟩ => ⟨S8x512x256, .bf16⟩
  | .local _ .vmem, ⟨13, _⟩ => ⟨S8x512x128, .bf16⟩
  | .local _ .vmem, ⟨14, _⟩ => ⟨S8x512x128, .bf16⟩
  | .local _ .vmem, ⟨15, _⟩ => ⟨S512x2048, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev main_v6_3 : Ref sig .tc := ⟨.hbm, 12, rfl⟩
abbrev main_v6_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 3], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== RProjIdeal.lean ====
abbrev S1x16384x2048 : Shape := ⟨3, ![1, 16384, 2048]⟩
abbrev S1x2048 : Shape := ⟨2, ![1, 2048]⟩
abbrev S1x2048x6432 : Shape := ⟨3, ![1, 2048, 6432]⟩
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x6432 : Shape := ⟨2, ![2048, 6432]⟩
abbrev S2048x3072 : Shape := ⟨2, ![2048, 3072]⟩
abbrev S16384x3072 : Shape := ⟨2, ![16384, 3072]⟩
abbrev S16384x1024 : Shape := ⟨2, ![16384, 1024]⟩
abbrev S1x128 : Shape := ⟨2, ![1, 128]⟩
abbrev S16384x128 : Shape := ⟨2, ![16384, 128]⟩
abbrev S16384x8x128 : Shape := ⟨3, ![16384, 8, 128]⟩
abbrev S8x16384x128 : Shape := ⟨3, ![8, 16384, 128]⟩
abbrev S8x16384x256 : Shape := ⟨3, ![8, 16384, 256]⟩
abbrev S128x128x8x128 : Shape := ⟨4, ![128, 128, 8, 128]⟩
abbrev S128x8x128x128 : Shape := ⟨4, ![128, 8, 128, 128]⟩

abbrev nBuf : Space → Nat
  | .hbm => 64
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x2048, .f32⟩
  | .hbm, ⟨2, _⟩ => ⟨S1x2048x6432, .f32⟩
  | .hbm, ⟨3, _⟩ => ⟨S16384x2048, .f32⟩
  | .hbm, ⟨4, _⟩ => ⟨S2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S2048x6432, .f32⟩
  | .hbm, ⟨22, _⟩ => ⟨S2048x3072, .f32⟩
  | .hbm, ⟨23, _⟩ => ⟨S16384x3072, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384, .i32⟩
  | .hbm, ⟨28, _⟩ => ⟨S_, .i32⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S16384, .i32⟩
  | .hbm, ⟨37, _⟩ => ⟨S16384, .i32⟩
  | .hbm, ⟨38, _⟩ => ⟨S_, .i32⟩
  | .hbm, ⟨39, _⟩ => ⟨S16384, .i32⟩
  | .hbm, ⟨40, _⟩ => ⟨S16384, .i1⟩
  | .hbm, ⟨41, _⟩ => ⟨S16384, .i1⟩
  | .hbm, ⟨42, _⟩ => ⟨S_, .i32⟩
  | .hbm, ⟨43, _⟩ => ⟨S16384, .i32⟩
  | .hbm, ⟨44, _⟩ => ⟨S16384, .i32⟩
  | .hbm, ⟨45, _⟩ => ⟨S16384, .i32⟩
  | .hbm, ⟨46, _⟩ => ⟨S16384x1, .i32⟩
  | .hbm, ⟨47, _⟩ => ⟨S1x128, .i32⟩
  | .hbm, ⟨48, _⟩ => ⟨S16384x128, .i32⟩
  | .hbm, ⟨49, _⟩ => ⟨S16384x128, .i32⟩
  | .hbm, ⟨50, _⟩ => ⟨S16384x128, .i1⟩
  | .hbm, ⟨51, _⟩ => ⟨S16384x128, .f32⟩
  | .hbm, ⟨52, _⟩ => ⟨S16384x8x128, .f32⟩
  | .hbm, ⟨53, _⟩ => ⟨S8x16384x128, .f32⟩
  | .hbm, ⟨54, _⟩ => ⟨S8x16384x128, .f32⟩
  | .hbm, ⟨55, _⟩ => ⟨S8x16384x256, .f32⟩
  | .hbm, ⟨56, _⟩ => ⟨S128x128x8x128, .f32⟩
  | .hbm, ⟨57, _⟩ => ⟨S128x8x128x128, .f32⟩
  | .hbm, ⟨58, _⟩ => ⟨S128x128x8x128, .f32⟩
  | .hbm, ⟨59, _⟩ => ⟨S128x8x128x128, .f32⟩
  | .hbm, ⟨60, _⟩ => ⟨S8x16384x256, .bf16⟩
  | .hbm, ⟨61, _⟩ => ⟨S16384x8x128, .f32⟩
  | .hbm, ⟨62, _⟩ => ⟨S8x16384x128, .f32⟩
  | .hbm, ⟨63, _⟩ => ⟨S8x16384x128, .bf16⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_c : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_0 : Ref sig .tc := ⟨.hbm, 42, rfl⟩
abbrev main_call0_v12 : Ref sig .tc := ⟨.hbm, 43, rfl⟩
abbrev main_call0_v13 : Ref sig .tc := ⟨.hbm, 44, rfl⟩
abbrev main_v22 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩

abbrev nD : Nat := 1
abbrev τ : Topo := Topo.v7x

variable {F : FTy → Type} [FloatOps F]
-- ==== KZm.lean ====
abbrev S32x1x2048 : Shape := ⟨3, ![32, 1, 2048]⟩
abbrev S1x2048 : Shape := ⟨2, ![1, 2048]⟩
abbrev S1x2048x6432 : Shape := ⟨3, ![1, 2048, 6432]⟩
abbrev S2048x6432 : Shape := ⟨2, ![2048, 6432]⟩
abbrev S2048x3072 : Shape := ⟨2, ![2048, 3072]⟩
abbrev S32x2048 : Shape := ⟨2, ![32, 2048]⟩
abbrev S2048 : Shape := ⟨1, ![2048]⟩
abbrev S32x3072 : Shape := ⟨2, ![32, 3072]⟩
abbrev S2048x1024 : Shape := ⟨2, ![2048, 1024]⟩
abbrev S32x1024 : Shape := ⟨2, ![32, 1024]⟩
abbrev S32 : Shape := ⟨1, ![32]⟩
abbrev S32x1 : Shape := ⟨2, ![32, 1]⟩

abbrev nBuf : Space → Nat
  | .hbm => 10
  | .vmem => 7
  | .smem => 0
  | _ => 0

abbrev bufTy : (tb : Table) → Fin (tcTables nBuf tb) → BufTy
  | .hbm, ⟨0, _⟩ => ⟨S32x1x2048, .f32⟩
  | .hbm, ⟨1, _⟩ => ⟨S1x2048, .f32⟩
  | .hbm, ⟨2, _⟩ => ⟨S1x2048x6432, .f32⟩
  | .hbm, ⟨3, _⟩ => ⟨S2048x6432, .f32⟩
  | .hbm, ⟨4, _⟩ => ⟨S2048x3072, .f32⟩
  | .hbm, ⟨5, _⟩ => ⟨S2048x3072, .bf16⟩
  | .hbm, ⟨6, _⟩ => ⟨S32x2048, .f32⟩
  | .hbm, ⟨7, _⟩ => ⟨S2048, .f32⟩
  | .hbm, ⟨8, _⟩ => ⟨S1x2048, .f32⟩
  | .hbm, ⟨9, _⟩ => ⟨S32x3072, .f32⟩
  | .local _ .vmem, ⟨0, _⟩ => ⟨S32x2048, .f32⟩
  | .local _ .vmem, ⟨1, _⟩ => ⟨S1x2048, .f32⟩
  | .local _ .vmem, ⟨2, _⟩ => ⟨S2048x1024, .bf16⟩
  | .local _ .vmem, ⟨3, _⟩ => ⟨S2048x1024, .bf16⟩
  | .local _ .vmem, ⟨4, _⟩ => ⟨S32x1024, .f32⟩
  | .local _ .vmem, ⟨5, _⟩ => ⟨S32x1024, .f32⟩
  | .local _ .vmem, ⟨6, _⟩ => ⟨S32x2048, .bf16⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RZmIdeal.lean ====
abbrev S32x1x2048 : Shape := ⟨3, ![32, 1, 2048]⟩
abbrev S1x2048 : Shape := ⟨2, ![1, 2048]⟩
abbrev S1x2048x6432 : Shape := ⟨3, ![1, 2048, 6432]⟩
abbrev S32x2048 : Shape := ⟨2, ![32, 2048]⟩
abbrev S2048 : Shape := ⟨1, ![2048]⟩
abbrev S_ : Shape := ⟨0, ![]⟩
abbrev S32 : Shape := ⟨1, ![32]⟩
abbrev S32x1 : Shape := ⟨2, ![32, 1]⟩
abbrev S2048x6432 : Shape := ⟨2, ![2048, 6432]⟩
abbrev S2048x3072 : Shape := ⟨2, ![2048, 3072]⟩
abbrev S32x3072 : Shape := ⟨2, ![32, 3072]⟩

abbrev nBuf : Space → Nat
  | .hbm => 24
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S1x2048, .f32⟩
  | .hbm, ⟨2, _⟩ => ⟨S1x2048x6432, .f32⟩
  | .hbm, ⟨3, _⟩ => ⟨S32x2048, .f32⟩
  | .hbm, ⟨4, _⟩ => ⟨S2048, .f32⟩
  | .hbm, ⟨5, _⟩ => ⟨S32x2048, .f32⟩
  | .hbm, ⟨6, _⟩ => ⟨S_, .f32⟩
  | .hbm, ⟨7, _⟩ => ⟨S32, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S_, .f32⟩
  | .hbm, ⟨13, _⟩ => ⟨S32x1, .f32⟩
  | .hbm, ⟨14, _⟩ => ⟨S32x1, .f32⟩
  | .hbm, ⟨15, _⟩ => ⟨S32x1, .f32⟩
  | .hbm, ⟨16, _⟩ => ⟨S32x2048, .f32⟩
  | .hbm, ⟨17, _⟩ => ⟨S32x2048, .f32⟩
  | .hbm, ⟨18, _⟩ => ⟨S1x2048, .f32⟩
  | .hbm, ⟨19, _⟩ => ⟨S32x2048, .f32⟩
  | .hbm, ⟨20, _⟩ => ⟨S32x2048, .f32⟩
  | .hbm, ⟨21, _⟩ => ⟨S2048x6432, .f32⟩
  | .hbm, ⟨22, _⟩ => ⟨S2048x3072, .f32⟩
  | .hbm, ⟨23, _⟩ => ⟨S32x3072, .f32⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== KZs.lean ====
abbrev S32x1x2048 : Shape := ⟨3, ![32, 1, 2048]⟩
abbrev S1x2048 : Shape := ⟨2, ![1, 2048]⟩
abbrev S1x2048x6432 : Shape := ⟨3, ![1, 2048, 6432]⟩
abbrev S2048x6432 : Shape := ⟨2, ![2048, 6432]⟩
abbrev S2048x3360 : Shape := ⟨2, ![2048, 3360]⟩
abbrev S2048x64 : Shape := ⟨2, ![2048, 64]⟩
abbrev S2048x160 : Shape := ⟨2, ![2048, 160]⟩
abbrev S2048x3072 : Shape := ⟨2, ![2048, 3072]⟩
abbrev S_ : Shape := ⟨0, ![]⟩
abbrev S2048x96 : Shape := ⟨2, ![2048, 96]⟩
abbrev S2048x3584 : Shape := ⟨2, ![2048, 3584]⟩
abbrev S32x2048 : Shape := ⟨2, ![32, 2048]⟩
abbrev S2048 : Shape := ⟨1, ![2048]⟩
abbrev S32x3584 : Shape := ⟨2, ![32, 3584]⟩
abbrev S2048x512 : Shape := ⟨2, ![2048, 512]⟩
abbrev S32x512 : Shape := ⟨2, ![32, 512]⟩
abbrev S32 : Shape := ⟨1, ![32]⟩
abbrev S32x1 : Shape := ⟨2, ![32, 1]⟩

abbrev nBuf : Space → Nat
  | .hbm => 21
  | .vmem => 7
  | .smem => 0
  | _ => 0

abbrev bufTy : (tb : Table) → Fin (tcTables nBuf tb) → BufTy
  | .hbm, ⟨0, _⟩ => ⟨S32x1x2048, .f32⟩
  | .hbm, ⟨1, _⟩ => ⟨S1x2048, .f32⟩
  | .hbm, ⟨2, _⟩ => ⟨S1x2048x6432, .f32⟩
  | .hbm, ⟨3, _⟩ => ⟨S2048x6432, .f32⟩
  | .hbm, ⟨4, _⟩ => ⟨S2048x3360, .f32⟩
  | .hbm, ⟨5, _⟩ => ⟨S2048x64, .f32⟩
  | .hbm, ⟨6, _⟩ => ⟨S2048x64, .f32⟩
  | .hbm, ⟨7, _⟩ => ⟨S2048x160, .f32⟩
  | .hbm, ⟨8, _⟩ => ⟨S2048x3072, .f32⟩
  | .hbm, ⟨9, _⟩ => ⟨S_, .f32⟩
  | .hbm, ⟨10, _⟩ => ⟨S2048x64, .f32⟩
  | .hbm, ⟨11, _⟩ => ⟨S_, .f32⟩
  | .hbm, ⟨12, _⟩ => ⟨S2048x64, .f32⟩
  | .hbm, ⟨13, _⟩ => ⟨S_, .f32⟩
  | .hbm, ⟨14, _⟩ => ⟨S2048x96, .f32⟩
  | .hbm, ⟨15, _⟩ => ⟨S2048x3584, .f32⟩
  | .hbm, ⟨16, _⟩ => ⟨S2048x3584, .bf16⟩
  | .hbm, ⟨17, _⟩ => ⟨S32x2048, .f32⟩
  | .hbm, ⟨18, _⟩ => ⟨S2048, .f32⟩
  | .hbm, ⟨19, _⟩ => ⟨S1x2048, .f32⟩
  | .hbm, ⟨20, _⟩ => ⟨S32x3584, .f32⟩
  | .local _ .vmem, ⟨0, _⟩ => ⟨S32x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S32x512, .f32⟩
  | .local _ .vmem, ⟨5, _⟩ => ⟨S32x512, .f32⟩
  | .local _ .vmem, ⟨6, _⟩ => ⟨S32x2048, .bf16⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RZsIdeal.lean ====
abbrev S32x1x2048 : Shape := ⟨3, ![32, 1, 2048]⟩
abbrev S1x2048 : Shape := ⟨2, ![1, 2048]⟩
abbrev S1x2048x6432 : Shape := ⟨3, ![1, 2048, 6432]⟩
abbrev S32x2048 : Shape := ⟨2, ![32, 2048]⟩
abbrev S2048 : Shape := ⟨1, ![2048]⟩
abbrev S_ : Shape := ⟨0, ![]⟩
abbrev S32 : Shape := ⟨1, ![32]⟩
abbrev S32x1 : Shape := ⟨2, ![32, 1]⟩
abbrev S2048x6432 : Shape := ⟨2, ![2048, 6432]⟩
abbrev S2048x3360 : Shape := ⟨2, ![2048, 3360]⟩
abbrev S32x3360 : Shape := ⟨2, ![32, 3360]⟩
abbrev S32x3136 : Shape := ⟨2, ![32, 3136]⟩
abbrev S32x64 : Shape := ⟨2, ![32, 64]⟩
abbrev S32x160 : Shape := ⟨2, ![32, 160]⟩
abbrev S32x96 : Shape := ⟨2, ![32, 96]⟩
abbrev S32x3584 : Shape := ⟨2, ![32, 3584]⟩

abbrev nBuf : Space → Nat
  | .hbm => 34
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S1x2048, .f32⟩
  | .hbm, ⟨2, _⟩ => ⟨S1x2048x6432, .f32⟩
  | .hbm, ⟨3, _⟩ => ⟨S32x2048, .f32⟩
  | .hbm, ⟨4, _⟩ => ⟨S2048, .f32⟩
  | .hbm, ⟨5, _⟩ => ⟨S32x2048, .f32⟩
  | .hbm, ⟨6, _⟩ => ⟨S_, .f32⟩
  | .hbm, ⟨7, _⟩ => ⟨S32, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S_, .f32⟩
  | .hbm, ⟨13, _⟩ => ⟨S32x1, .f32⟩
  | .hbm, ⟨14, _⟩ => ⟨S32x1, .f32⟩
  | .hbm, ⟨15, _⟩ => ⟨S32x1, .f32⟩
  | .hbm, ⟨16, _⟩ => ⟨S32x2048, .f32⟩
  | .hbm, ⟨17, _⟩ => ⟨S32x2048, .f32⟩
  | .hbm, ⟨18, _⟩ => ⟨S1x2048, .f32⟩
  | .hbm, ⟨19, _⟩ => ⟨S32x2048, .f32⟩
  | .hbm, ⟨20, _⟩ => ⟨S32x2048, .f32⟩
  | .hbm, ⟨21, _⟩ => ⟨S2048x6432, .f32⟩
  | .hbm, ⟨22, _⟩ => ⟨S2048x3360, .f32⟩
  | .hbm, ⟨23, _⟩ => ⟨S32x3360, .f32⟩
  | .hbm, ⟨24, _⟩ => ⟨S32x3136, .f32⟩
  | .hbm, ⟨25, _⟩ => ⟨S_, .f32⟩
  | .hbm, ⟨26, _⟩ => ⟨S32x64, .f32⟩
  | .hbm, ⟨27, _⟩ => ⟨S32x64, .f32⟩
  | .hbm, ⟨28, _⟩ => ⟨S_, .f32⟩
  | .hbm, ⟨29, _⟩ => ⟨S32x64, .f32⟩
  | .hbm, ⟨30, _⟩ => ⟨S32x160, .f32⟩
  | .hbm, ⟨31, _⟩ => ⟨S_, .f32⟩
  | .hbm, ⟨32, _⟩ => ⟨S32x96, .f32⟩
  | .hbm, ⟨33, _⟩ => ⟨S32x3584, .f32⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== KZp.lean ====
abbrev S1x16384x2048 : Shape := ⟨3, ![1, 16384, 2048]⟩
abbrev S1x2048 : Shape := ⟨2, ![1, 2048]⟩
abbrev S1x2048x6432 : Shape := ⟨3, ![1, 2048, 6432]⟩
abbrev S2048x6432 : Shape := ⟨2, ![2048, 6432]⟩
abbrev S2048x3360 : Shape := ⟨2, ![2048, 3360]⟩
abbrev S2048x64 : Shape := ⟨2, ![2048, 64]⟩
abbrev S2048x160 : Shape := ⟨2, ![2048, 160]⟩
abbrev S2048x3072 : Shape := ⟨2, ![2048, 3072]⟩
abbrev S_ : Shape := ⟨0, ![]⟩
abbrev S2048x96 : Shape := ⟨2, ![2048, 96]⟩
abbrev S2048x3584 : Shape := ⟨2, ![2048, 3584]⟩
abbrev S16384x2048 : Shape := ⟨2, ![16384, 2048]⟩
abbrev S2048 : Shape := ⟨1, ![2048]⟩
abbrev S16384x3584 : Shape := ⟨2, ![16384, 3584]⟩
abbrev S512x2048 : Shape := ⟨2, ![512, 2048]⟩
abbrev S2048x1792 : Shape := ⟨2, ![2048, 1792]⟩
abbrev S512x1792 : Shape := ⟨2, ![512, 1792]⟩
abbrev S512 : Shape := ⟨1, ![512]⟩
abbrev S512x1 : Shape := ⟨2, ![512, 1]⟩

abbrev nBuf : Space → Nat
  | .hbm => 21
  | .vmem => 8
  | .smem => 0
  | _ => 0

abbrev bufTy : (tb : Table) → Fin (tcTables nBuf tb) → BufTy
  | .hbm, ⟨0, _⟩ => ⟨S1x16384x2048, .f32⟩
  | .hbm, ⟨1, _⟩ => ⟨S1x2048, .f32⟩
  | .hbm, ⟨2, _⟩ => ⟨S1x2048x6432, .f32⟩
  | .hbm, ⟨3, _⟩ => ⟨S2048x6432, .f32⟩
  | .hbm, ⟨4, _⟩ => ⟨S2048x3360, .f32⟩
  | .hbm, ⟨5, _⟩ => ⟨S2048x64, .f32⟩
  | .hbm, ⟨6, _⟩ => ⟨S2048x64, .f32⟩
  | .hbm, ⟨7, _⟩ => ⟨S2048x160, .f32⟩
  | .hbm, ⟨8, _⟩ => ⟨S2048x3072, .f32⟩
  | .hbm, ⟨9, _⟩ => ⟨S_, .f32⟩
  | .hbm, ⟨10, _⟩ => ⟨S2048x64, .f32⟩
  | .hbm, ⟨11, _⟩ => ⟨S_, .f32⟩
  | .hbm, ⟨12, _⟩ => ⟨S2048x64, .f32⟩
  | .hbm, ⟨13, _⟩ => ⟨S_, .f32⟩
  | .hbm, ⟨14, _⟩ => ⟨S2048x96, .f32⟩
  | .hbm, ⟨15, _⟩ => ⟨S2048x3584, .f32⟩
  | .hbm, ⟨16, _⟩ => ⟨S2048x3584, .bf16⟩
  | .hbm, ⟨17, _⟩ => ⟨S16384x2048, .f32⟩
  | .hbm, ⟨18, _⟩ => ⟨S2048, .f32⟩
  | .hbm, ⟨19, _⟩ => ⟨S1x2048, .f32⟩
  | .hbm, ⟨20, _⟩ => ⟨S16384x3584, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1792, .bf16⟩
  | .local _ .vmem, ⟨4, _⟩ => ⟨S2048x1792, .bf16⟩
  | .local _ .vmem, ⟨5, _⟩ => ⟨S512x1792, .f32⟩
  | .local _ .vmem, ⟨6, _⟩ => ⟨S512x1792, .f32⟩
  | .local _ .vmem, ⟨7, _⟩ => ⟨S512x2048, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RZpIdeal.lean ====
abbrev S1x16384x2048 : Shape := ⟨3, ![1, 16384, 2048]⟩
abbrev S1x2048 : Shape := ⟨2, ![1, 2048]⟩
abbrev S1x2048x6432 : Shape := ⟨3, ![1, 2048, 6432]⟩
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x6432 : Shape := ⟨2, ![2048, 6432]⟩
abbrev S2048x3360 : Shape := ⟨2, ![2048, 3360]⟩
abbrev S16384x3360 : Shape := ⟨2, ![16384, 3360]⟩
abbrev S16384x3136 : Shape := ⟨2, ![16384, 3136]⟩
abbrev S16384x64 : Shape := ⟨2, ![16384, 64]⟩
abbrev S16384x160 : Shape := ⟨2, ![16384, 160]⟩
abbrev S16384x96 : Shape := ⟨2, ![16384, 96]⟩
abbrev S16384x3584 : Shape := ⟨2, ![16384, 3584]⟩

abbrev nBuf : Space → Nat
  | .hbm => 34
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x2048, .f32⟩
  | .hbm, ⟨2, _⟩ => ⟨S1x2048x6432, .f32⟩
  | .hbm, ⟨3, _⟩ => ⟨S16384x2048, .f32⟩
  | .hbm, ⟨4, _⟩ => ⟨S2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S2048x6432, .f32⟩
  | .hbm, ⟨22, _⟩ => ⟨S2048x3360, .f32⟩
  | .hbm, ⟨23, _⟩ => ⟨S16384x3360, .f32⟩
  | .hbm, ⟨24, _⟩ => ⟨S16384x3136, .f32⟩
  | .hbm, ⟨25, _⟩ => ⟨S_, .f32⟩
  | .hbm, ⟨26, _⟩ => ⟨S16384x64, .f32⟩
  | .hbm, ⟨27, _⟩ => ⟨S16384x64, .f32⟩
  | .hbm, ⟨28, _⟩ => ⟨S_, .f32⟩
  | .hbm, ⟨29, _⟩ => ⟨S16384x64, .f32⟩
  | .hbm, ⟨30, _⟩ => ⟨S16384x160, .f32⟩
  | .hbm, ⟨31, _⟩ => ⟨S_, .f32⟩
  | .hbm, ⟨32, _⟩ => ⟨S16384x96, .f32⟩
  | .hbm, ⟨33, _⟩ => ⟨S16384x3584, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== KOut.lean ====
abbrev S16384x1024 : Shape := ⟨2, ![16384, 1024]⟩
abbrev S1x2048x2048 : Shape := ⟨3, ![1, 2048, 2048]⟩
abbrev S16384x2048 : Shape := ⟨2, ![16384, 2048]⟩
abbrev S1x2048 : Shape := ⟨2, ![1, 2048]⟩
abbrev S2048x2048 : Shape := ⟨2, ![2048, 2048]⟩
abbrev S2048 : Shape := ⟨1, ![2048]⟩
abbrev S512x1024 : Shape := ⟨2, ![512, 1024]⟩
abbrev S512x2048 : Shape := ⟨2, ![512, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1x2048x2048, .f32⟩
  | .hbm, ⟨3, _⟩ => ⟨S16384x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .bf16⟩
  | .hbm, ⟨8, _⟩ => ⟨S2048, .f32⟩
  | .hbm, ⟨9, _⟩ => ⟨S2048, .f32⟩
  | .hbm, ⟨10, _⟩ => ⟨S1x2048, .f32⟩
  | .hbm, ⟨11, _⟩ => ⟨S1x2048, .f32⟩
  | .hbm, ⟨12, _⟩ => ⟨S16384x2048, .f32⟩
  | .hbm, ⟨13, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ROutIdeal.lean ====
abbrev S16384x1024 : Shape := ⟨2, ![16384, 1024]⟩
abbrev S1x2048x2048 : Shape := ⟨3, ![1, 2048, 2048]⟩
abbrev S16384x2048 : Shape := ⟨2, ![16384, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1x2048x2048, .f32⟩
  | .hbm, ⟨3, _⟩ => ⟨S16384x2048, .f32⟩
  | .hbm, ⟨4, _⟩ => ⟨S1x2048, .f32⟩
  | .hbm, ⟨5, _⟩ => ⟨S1x2048, .f32⟩
  | .hbm, ⟨6, _⟩ => ⟨S16384x1024, .f32⟩
  | .hbm, ⟨7, _⟩ => ⟨S16384x1024, .f32⟩
  | .hbm, ⟨8, _⟩ => ⟨S16384x2048, .f32⟩
  | .hbm, ⟨9, _⟩ => ⟨S2048x2048, .f32⟩
  | .hbm, ⟨10, _⟩ => ⟨S16384x2048, .f32⟩
  | .hbm, ⟨11, _⟩ => ⟨S2048, .f32⟩
  | .hbm, ⟨12, _⟩ => ⟨S16384x2048, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x2048, .f32⟩
  | .hbm, ⟨24, _⟩ => ⟨S16384x2048, .f32⟩
  | .hbm, ⟨25, _⟩ => ⟨S1x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S2048, .f32⟩
  | .hbm, ⟨30, _⟩ => ⟨S16384x2048, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S16384x2048, .f32⟩
  | .hbm, ⟨42, _⟩ => ⟨S16384x2048, .f32⟩
  | .hbm, ⟨43, _⟩ => ⟨S1x2048, .f32⟩
  | .hbm, ⟨44, _⟩ => ⟨S16384x2048, .f32⟩
  | .hbm, ⟨45, _⟩ => ⟨S16384x2048, .f32⟩
  | .hbm, ⟨46, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== KUpS.lean ====
abbrev S32x2048 : Shape := ⟨2, ![32, 2048]⟩
abbrev S1x2048x8192 : Shape := ⟨3, ![1, 2048, 8192]⟩
abbrev S2048x8192 : Shape := ⟨2, ![2048, 8192]⟩
abbrev S32x8192 : Shape := ⟨2, ![32, 8192]⟩
abbrev S2048x1024 : Shape := ⟨2, ![2048, 1024]⟩
abbrev S32x1024 : Shape := ⟨2, ![32, 1024]⟩

abbrev nBuf : Space → Nat
  | .hbm => 5
  | .vmem => 5
  | .smem => 0
  | _ => 0

abbrev bufTy : (tb : Table) → Fin (tcTables nBuf tb) → BufTy
  | .hbm, ⟨0, _⟩ => ⟨S32x2048, .bf16⟩
  | .hbm, ⟨1, _⟩ => ⟨S1x2048x8192, .f32⟩
  | .hbm, ⟨2, _⟩ => ⟨S2048x8192, .f32⟩
  | .hbm, ⟨3, _⟩ => ⟨S2048x8192, .bf16⟩
  | .hbm, ⟨4, _⟩ => ⟨S32x8192, .bf16⟩
  | .local _ .vmem, ⟨0, _⟩ => ⟨S32x2048, .bf16⟩
  | .local _ .vmem, ⟨1, _⟩ => ⟨S2048x1024, .bf16⟩
  | .local _ .vmem, ⟨2, _⟩ => ⟨S2048x1024, .bf16⟩
  | .local _ .vmem, ⟨3, _⟩ => ⟨S32x1024, .bf16⟩
  | .local _ .vmem, ⟨4, _⟩ => ⟨S32x1024, .bf16⟩
  | _, _ => ⟨S32x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RUpSIdeal.lean ====
abbrev S32x2048 : Shape := ⟨2, ![32, 2048]⟩
abbrev S1x2048x8192 : Shape := ⟨3, ![1, 2048, 8192]⟩
abbrev S2048x8192 : Shape := ⟨2, ![2048, 8192]⟩
abbrev S32x8192 : Shape := ⟨2, ![32, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S32x2048, .bf16⟩
  | .hbm, ⟨1, _⟩ => ⟨S1x2048x8192, .f32⟩
  | .hbm, ⟨2, _⟩ => ⟨S32x2048, .f32⟩
  | .hbm, ⟨3, _⟩ => ⟨S2048x8192, .f32⟩
  | .hbm, ⟨4, _⟩ => ⟨S32x8192, .f32⟩
  | .hbm, ⟨5, _⟩ => ⟨S_, .f32⟩
  | .hbm, ⟨6, _⟩ => ⟨S32x8192, .f32⟩
  | .hbm, ⟨7, _⟩ => ⟨S32x8192, .f32⟩
  | .hbm, ⟨8, _⟩ => ⟨S32x8192, .f32⟩
  | .hbm, ⟨9, _⟩ => ⟨S32x8192, .bf16⟩
  | _, _ => ⟨S32x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KDownS.lean ====
abbrev S32x8192 : Shape := ⟨2, ![32, 8192]⟩
abbrev S1x8192x2048 : Shape := ⟨3, ![1, 8192, 2048]⟩
abbrev S32x2048 : Shape := ⟨2, ![32, 2048]⟩
abbrev S1x2048 : Shape := ⟨2, ![1, 2048]⟩
abbrev S8192x2048 : Shape := ⟨2, ![8192, 2048]⟩
abbrev S2048 : Shape := ⟨1, ![2048]⟩
abbrev S32x1024 : Shape := ⟨2, ![32, 1024]⟩
abbrev S1024x2048 : Shape := ⟨2, ![1024, 2048]⟩
abbrev S32 : Shape := ⟨1, ![32]⟩
abbrev S32x1 : Shape := ⟨2, ![32, 1]⟩

abbrev nBuf : Space → Nat
  | .hbm => 9
  | .vmem => 8
  | .smem => 0
  | _ => 0

abbrev bufTy : (tb : Table) → Fin (tcTables nBuf tb) → BufTy
  | .hbm, ⟨0, _⟩ => ⟨S32x8192, .bf16⟩
  | .hbm, ⟨1, _⟩ => ⟨S1x8192x2048, .f32⟩
  | .hbm, ⟨2, _⟩ => ⟨S32x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .hbm, ⟨6, _⟩ => ⟨S2048, .f32⟩
  | .hbm, ⟨7, _⟩ => ⟨S1x2048, .f32⟩
  | .hbm, ⟨8, _⟩ => ⟨S32x2048, .f32⟩
  | .local _ .vmem, ⟨0, _⟩ => ⟨S32x1024, .bf16⟩
  | .local _ .vmem, ⟨1, _⟩ => ⟨S32x1024, .bf16⟩
  | .local _ .vmem, ⟨2, _⟩ => ⟨S1024x2048, .bf16⟩
  | .local _ .vmem, ⟨3, _⟩ => ⟨S1024x2048, .bf16⟩
  | .local _ .vmem, ⟨4, _⟩ => ⟨S32x2048, .f32⟩
  | .local _ .vmem, ⟨5, _⟩ => ⟨S1x2048, .f32⟩
  | .local _ .vmem, ⟨6, _⟩ => ⟨S32x2048, .f32⟩
  | .local _ .vmem, ⟨7, _⟩ => ⟨S32x2048, .f32⟩
  | _, _ => ⟨S32x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== RDownSIdeal.lean ====
abbrev S32x8192 : Shape := ⟨2, ![32, 8192]⟩
abbrev S1x8192x2048 : Shape := ⟨3, ![1, 8192, 2048]⟩
abbrev S32x2048 : Shape := ⟨2, ![32, 2048]⟩
abbrev S1x2048 : Shape := ⟨2, ![1, 2048]⟩
abbrev S8192x2048 : Shape := ⟨2, ![8192, 2048]⟩
abbrev S2048 : Shape := ⟨1, ![2048]⟩
abbrev S_ : Shape := ⟨0, ![]⟩
abbrev S32 : Shape := ⟨1, ![32]⟩
abbrev S32x1 : Shape := ⟨2, ![32, 1]⟩

abbrev nBuf : Space → Nat
  | .hbm => 25
  | .vmem => 0
  | .smem => 0
  | _ => 0

abbrev bufTy : (tb : Table) → Fin (tcTables nBuf tb) → BufTy
  | .hbm, ⟨0, _⟩ => ⟨S32x8192, .bf16⟩
  | .hbm, ⟨1, _⟩ => ⟨S1x8192x2048, .f32⟩
  | .hbm, ⟨2, _⟩ => ⟨S32x2048, .f32⟩
  | .hbm, ⟨3, _⟩ => ⟨S1x2048, .f32⟩
  | .hbm, ⟨4, _⟩ => ⟨S32x8192, .f32⟩
  | .hbm, ⟨5, _⟩ => ⟨S8192x2048, .f32⟩
  | .hbm, ⟨6, _⟩ => ⟨S32x2048, .f32⟩
  | .hbm, ⟨7, _⟩ => ⟨S2048, .f32⟩
  | .hbm, ⟨8, _⟩ => ⟨S32x2048, .f32⟩
  | .hbm, ⟨9, _⟩ => ⟨S_, .f32⟩
  | .hbm, ⟨10, _⟩ => ⟨S32, .f32⟩
  | .hbm, ⟨11, _⟩ => ⟨S32x1, .f32⟩
  | .hbm, ⟨12, _⟩ => ⟨S_, .f32⟩
  | .hbm, ⟨13, _⟩ => ⟨S32x1, .f32⟩
  | .hbm, ⟨14, _⟩ => ⟨S32x1, .f32⟩
  | .hbm, ⟨15, _⟩ => ⟨S_, .f32⟩
  | .hbm, ⟨16, _⟩ => ⟨S32x1, .f32⟩
  | .hbm, ⟨17, _⟩ => ⟨S32x1, .f32⟩
  | .hbm, ⟨18, _⟩ => ⟨S32x1, .f32⟩
  | .hbm, ⟨19, _⟩ => ⟨S32x2048, .f32⟩
  | .hbm, ⟨20, _⟩ => ⟨S32x2048, .f32⟩
  | .hbm, ⟨21, _⟩ => ⟨S1x2048, .f32⟩
  | .hbm, ⟨22, _⟩ => ⟨S32x2048, .f32⟩
  | .hbm, ⟨23, _⟩ => ⟨S32x2048, .f32⟩
  | .hbm, ⟨24, _⟩ => ⟨S32x2048, .f32⟩
  | _, _ => ⟨S32x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== KOutS.lean ====
abbrev S32x1024 : Shape := ⟨2, ![32, 1024]⟩
abbrev S1x2048x2048 : Shape := ⟨3, ![1, 2048, 2048]⟩
abbrev S32x2048 : Shape := ⟨2, ![32, 2048]⟩
abbrev S1x2048 : Shape := ⟨2, ![1, 2048]⟩
abbrev S2048x2048 : Shape := ⟨2, ![2048, 2048]⟩
abbrev S2048 : Shape := ⟨1, ![2048]⟩
abbrev S1024x2048 : Shape := ⟨2, ![1024, 2048]⟩
abbrev S32 : Shape := ⟨1, ![32]⟩
abbrev S32x1 : Shape := ⟨2, ![32, 1]⟩

abbrev nBuf : Space → Nat
  | .hbm => 14
  | .vmem => 8
  | .smem => 0
  | _ => 0

abbrev bufTy : (tb : Table) → Fin (tcTables nBuf tb) → BufTy
  | .hbm, ⟨0, _⟩ => ⟨S32x1024, .bf16⟩
  | .hbm, ⟨1, _⟩ => ⟨S32x1024, .bf16⟩
  | .hbm, ⟨2, _⟩ => ⟨S1x2048x2048, .f32⟩
  | .hbm, ⟨3, _⟩ => ⟨S32x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .bf16⟩
  | .hbm, ⟨8, _⟩ => ⟨S2048, .f32⟩
  | .hbm, ⟨9, _⟩ => ⟨S2048, .f32⟩
  | .hbm, ⟨10, _⟩ => ⟨S1x2048, .f32⟩
  | .hbm, ⟨11, _⟩ => ⟨S1x2048, .f32⟩
  | .hbm, ⟨12, _⟩ => ⟨S32x2048, .f32⟩
  | .hbm, ⟨13, _⟩ => ⟨S32x2048, .bf16⟩
  | .local _ .vmem, ⟨0, _⟩ => ⟨S32x1024, .bf16⟩
  | .local _ .vmem, ⟨1, _⟩ => ⟨S32x1024, .bf16⟩
  | .local _ .vmem, ⟨2, _⟩ => ⟨S2048x2048, .bf16⟩
  | .local _ .vmem, ⟨3, _⟩ => ⟨S32x2048, .f32⟩
  | .local _ .vmem, ⟨4, _⟩ => ⟨S1x2048, .f32⟩
  | .local _ .vmem, ⟨5, _⟩ => ⟨S1x2048, .f32⟩
  | .local _ .vmem, ⟨6, _⟩ => ⟨S32x2048, .f32⟩
  | .local _ .vmem, ⟨7, _⟩ => ⟨S32x2048, .bf16⟩
  | _, _ => ⟨S32x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ROutSIdeal.lean ====
abbrev S32x1024 : Shape := ⟨2, ![32, 1024]⟩
abbrev S1x2048x2048 : Shape := ⟨3, ![1, 2048, 2048]⟩
abbrev S32x2048 : Shape := ⟨2, ![32, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S32 : Shape := ⟨1, ![32]⟩
abbrev S32x1 : Shape := ⟨2, ![32, 1]⟩

abbrev nBuf : Space → Nat
  | .hbm => 47
  | .vmem => 0
  | .smem => 0
  | _ => 0

abbrev bufTy : (tb : Table) → Fin (tcTables nBuf tb) → BufTy
  | .hbm, ⟨0, _⟩ => ⟨S32x1024, .bf16⟩
  | .hbm, ⟨1, _⟩ => ⟨S32x1024, .bf16⟩
  | .hbm, ⟨2, _⟩ => ⟨S1x2048x2048, .f32⟩
  | .hbm, ⟨3, _⟩ => ⟨S32x2048, .f32⟩
  | .hbm, ⟨4, _⟩ => ⟨S1x2048, .f32⟩
  | .hbm, ⟨5, _⟩ => ⟨S1x2048, .f32⟩
  | .hbm, ⟨6, _⟩ => ⟨S32x1024, .f32⟩
  | .hbm, ⟨7, _⟩ => ⟨S32x1024, .f32⟩
  | .hbm, ⟨8, _⟩ => ⟨S32x2048, .f32⟩
  | .hbm, ⟨9, _⟩ => ⟨S2048x2048, .f32⟩
  | .hbm, ⟨10, _⟩ => ⟨S32x2048, .f32⟩
  | .hbm, ⟨11, _⟩ => ⟨S2048, .f32⟩
  | .hbm, ⟨12, _⟩ => ⟨S32x2048, .f32⟩
  | .hbm, ⟨13, _⟩ => ⟨S_, .f32⟩
  | .hbm, ⟨14, _⟩ => ⟨S32, .f32⟩
  | .hbm, ⟨15, _⟩ => ⟨S32x1, .f32⟩
  | .hbm, ⟨16, _⟩ => ⟨S_, .f32⟩
  | .hbm, ⟨17, _⟩ => ⟨S32x1, .f32⟩
  | .hbm, ⟨18, _⟩ => ⟨S32x1, .f32⟩
  | .hbm, ⟨19, _⟩ => ⟨S_, .f32⟩
  | .hbm, ⟨20, _⟩ => ⟨S32x1, .f32⟩
  | .hbm, ⟨21, _⟩ => ⟨S32x1, .f32⟩
  | .hbm, ⟨22, _⟩ => ⟨S32x1, .f32⟩
  | .hbm, ⟨23, _⟩ => ⟨S32x2048, .f32⟩
  | .hbm, ⟨24, _⟩ => ⟨S32x2048, .f32⟩
  | .hbm, ⟨25, _⟩ => ⟨S1x2048, .f32⟩
  | .hbm, ⟨26, _⟩ => ⟨S32x2048, .f32⟩
  | .hbm, ⟨27, _⟩ => ⟨S32x2048, .f32⟩
  | .hbm, ⟨28, _⟩ => ⟨S32x2048, .f32⟩
  | .hbm, ⟨29, _⟩ => ⟨S2048, .f32⟩
  | .hbm, ⟨30, _⟩ => ⟨S32x2048, .f32⟩
  | .hbm, ⟨31, _⟩ => ⟨S_, .f32⟩
  | .hbm, ⟨32, _⟩ => ⟨S32, .f32⟩
  | .hbm, ⟨33, _⟩ => ⟨S32x1, .f32⟩
  | .hbm, ⟨34, _⟩ => ⟨S_, .f32⟩
  | .hbm, ⟨35, _⟩ => ⟨S32x1, .f32⟩
  | .hbm, ⟨36, _⟩ => ⟨S32x1, .f32⟩
  | .hbm, ⟨37, _⟩ => ⟨S_, .f32⟩
  | .hbm, ⟨38, _⟩ => ⟨S32x1, .f32⟩
  | .hbm, ⟨39, _⟩ => ⟨S32x1, .f32⟩
  | .hbm, ⟨40, _⟩ => ⟨S32x1, .f32⟩
  | .hbm, ⟨41, _⟩ => ⟨S32x2048, .f32⟩
  | .hbm, ⟨42, _⟩ => ⟨S32x2048, .f32⟩
  | .hbm, ⟨43, _⟩ => ⟨S1x2048, .f32⟩
  | .hbm, ⟨44, _⟩ => ⟨S32x2048, .f32⟩
  | .hbm, ⟨45, _⟩ => ⟨S32x2048, .f32⟩
  | .hbm, ⟨46, _⟩ => ⟨S32x2048, .bf16⟩
  | _, _ => ⟨S32x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== KSel.lean ====
abbrev S32x128x8x128 : Shape := ⟨4, ![32, 128, 8, 128]⟩
abbrev S32x8x128 : Shape := ⟨3, ![32, 8, 128]⟩
abbrev S32x3x8 : Shape := ⟨3, ![32, 3, 8]⟩
abbrev S1x128x8x128 : Shape := ⟨4, ![1, 128, 8, 128]⟩
abbrev S1x8x128 : Shape := ⟨3, ![1, 8, 128]⟩
abbrev S1x3x8 : Shape := ⟨3, ![1, 3, 8]⟩
abbrev S128x8x128 : Shape := ⟨3, ![128, 8, 128]⟩
abbrev S64x2x8x128 : Shape := ⟨4, ![64, 2, 8, 128]⟩
abbrev S64x8x128 : Shape := ⟨3, ![64, 8, 128]⟩
abbrev S8x128 : Shape := ⟨2, ![8, 128]⟩
abbrev S64x8 : Shape := ⟨2, ![64, 8]⟩
abbrev S8 : Shape := ⟨1, ![8]⟩
abbrev S1x8 : Shape := ⟨2, ![1, 8]⟩
abbrev S3x8 : Shape := ⟨2, ![3, 8]⟩

abbrev nBuf : Space → Nat
  | .hbm => 3
  | .vmem => 6
  | .smem => 0
  | _ => 0

abbrev bufTy : (tb : Table) → Fin (tcTables nBuf tb) → BufTy
  | .hbm, ⟨0, _⟩ => ⟨S32x128x8x128, .f32⟩
  | .hbm, ⟨1, _⟩ => ⟨S32x8x128, .f32⟩
  | .hbm, ⟨2, _⟩ => ⟨S32x3x8, .i32⟩
  | .local _ .vmem, ⟨0, _⟩ => ⟨S1x128x8x128, .f32⟩
  | .local _ .vmem, ⟨1, _⟩ => ⟨S1x128x8x128, .f32⟩
  | .local _ .vmem, ⟨2, _⟩ => ⟨S1x8x128, .f32⟩
  | .local _ .vmem, ⟨3, _⟩ => ⟨S1x8x128, .f32⟩
  | .local _ .vmem, ⟨4, _⟩ => ⟨S1x3x8, .i32⟩
  | .local _ .vmem, ⟨5, _⟩ => ⟨S1x3x8, .i32⟩
  | _, _ => ⟨S32x128x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x8 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RSelIdeal.lean ====
abbrev S32x128x8x128 : Shape := ⟨4, ![32, 128, 8, 128]⟩
abbrev S32x8x128 : Shape := ⟨3, ![32, 8, 128]⟩
abbrev S32x8x128x128 : Shape := ⟨4, ![32, 8, 128, 128]⟩
abbrev S32x8x64x2x128 : Shape := ⟨5, ![32, 8, 64, 2, 128]⟩
abbrev S_ : Shape := ⟨0, ![]⟩
abbrev S32x8x64x128 : Shape := ⟨4, ![32, 8, 64, 128]⟩
abbrev S32x8x64 : Shape := ⟨3, ![32, 8, 64]⟩
abbrev S32x8x3 : Shape := ⟨3, ![32, 8, 3]⟩
abbrev S32x3x8 : Shape := ⟨3, ![32, 3, 8]⟩

abbrev nBuf : Space → Nat
  | .hbm => 13
  | .vmem => 0
  | .smem => 0
  | _ => 0

abbrev bufTy : (tb : Table) → Fin (tcTables nBuf tb) → BufTy
  | .hbm, ⟨0, _⟩ => ⟨S32x128x8x128, .f32⟩
  | .hbm, ⟨1, _⟩ => ⟨S32x8x128, .f32⟩
  | .hbm, ⟨2, _⟩ => ⟨S32x8x128x128, .f32⟩
  | .hbm, ⟨3, _⟩ => ⟨S32x8x64x2x128, .f32⟩
  | .hbm, ⟨4, _⟩ => ⟨S_, .f32⟩
  | .hbm, ⟨5, _⟩ => ⟨S32x8x64x128, .f32⟩
  | .hbm, ⟨6, _⟩ => ⟨S_, .f32⟩
  | .hbm, ⟨7, _⟩ => ⟨S32x8x64x128, .f32⟩
  | .hbm, ⟨8, _⟩ => ⟨S32x8x64x128, .f32⟩
  | .hbm, ⟨9, _⟩ => ⟨S32x8x64, .f32⟩
  | .hbm, ⟨10, _⟩ => ⟨S32x8x3, .f32⟩
  | .hbm, ⟨11, _⟩ => ⟨S32x8x3, .i32⟩
  | .hbm, ⟨12, _⟩ => ⟨S32x3x8, .i32⟩
  | _, _ => ⟨S32x128x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_values : Ref sig .tc := ⟨.hbm, 10, rfl⟩
abbrev main_indices : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Proof.Attend.Words.lean ====
module

public import Idealize.ShloMosaic.PureOps.Ideal
public import Idealize.ShloMosaic.Lib.Pointwise
public import Idealize.ShloMosaic.Lib.Pipeline.ValueKit

/-! The words of the page lookup: batch entries, heads, selected blocks and pages as signed 32-bit words, wrapped when
negative and clamped to their axes, are the numbers they stand for; and the mask's comparison of positions. -/

@[expose] public section

set_option maxRecDepth 16384

noncomputable section

open Idealize.ShloMosaic

namespace Cert.Attend

/-- A word whose signed value is at least zero and below `N` is the word of a number below `N`. -/
theorem word_of_range {N : ℕ} (hN : N ≤ 2147483648) (w : BitVec 32) (h : 0 ≤ w.toInt ∧ w.toInt < N) :
    w.toNat < N ∧ w = BitVec.ofNat 32 w.toNat := by
  refine ⟨?_, by simp⟩
  have := w.isLt
  have e := BitVec.toInt_eq_toNat_cond w
  split at e <;> omega

/-- A word wrapped by `n` when it is negative. -/
abbrev wrapped (w n : BitVec 32) : BitVec 32 :=
  Scalar.select (IntOp.cmpi .slt w 0#32) (IntOp.addi w n) w

/-- A batch entry's word. -/
theorem word_b : ∀ b : Fin 32, min (wrapped (BitVec.ofNat 32 b.val) 32#32).toInt.toNat 31 = b.val := by decide +kernel

/-- A head's word. -/
theorem word_h : ∀ h : Fin 8, min (wrapped (BitVec.ofNat 32 h.val) 8#32).toInt.toNat 7 = h.val := by decide +kernel

/-- The word of a page's number in its sequence. -/
theorem word_l' : ∀ (n : Fin 64) (e : Fin 2),
    min (wrapped (IntOp.addi (IntOp.muli (BitVec.ofNat 32 n.val) 2#32) (BitVec.ofNat 32 e.val)) 128#32).toInt.toNat 127
      = min (2 * (BitVec.ofNat 32 n.val).toNat + e.val) 127 := by decide +kernel

/-- The word of a page's number in its sequence, from the selected block's word. -/
theorem word_l (w : BitVec 32) (h : 0 ≤ w.toInt ∧ w.toInt < 64) (e : Fin 2) :
    min (wrapped (IntOp.addi (IntOp.muli w 2#32) (BitVec.ofNat 32 e.val)) 128#32).toInt.toNat 127
      = min (2 * w.toNat + e.val) 127 := by
  obtain ⟨h1, h2⟩ := word_of_range (N := 64) (by norm_num) w h
  have := word_l' ⟨w.toNat, h1⟩ e
  simp only [← h2] at this
  exact this

/-- The word of a page of the pool. -/
theorem word_p' : ∀ n : Fin 5120,
    min (wrapped (BitVec.ofNat 32 n.val) 5120#32).toInt.toNat 5119 = min (BitVec.ofNat 32 n.val).toNat 5119 := by
  decide +kernel

/-- The word of a page of the pool, from its range. -/
theorem word_p (w : BitVec 32) (h : 0 ≤ w.toInt ∧ w.toInt < 5120) :
    min (wrapped w 5120#32).toInt.toNat 5119 = min w.toNat 5119 := by
  obtain ⟨h1, h2⟩ := word_of_range (N := 5120) (by norm_num) w h
  have := word_p' ⟨w.toNat, h1⟩
  simp only [← h2] at this
  exact this

/-- A position inside one of the 64 past blocks is not after position 16384. -/
theorem word_past' : ∀ (n : Fin 64) (j : Fin 256),
    IntOp.cmpi .sle (IntOp.addi (IntOp.muli (BitVec.ofNat 32 n.val) 256#32) (BitVec.ofNat 32 j.val)) 16384#32 = 1#1 := by
  decide +kernel

/-- A position inside a past block, from the block's word. -/
theorem word_past (w : BitVec 32) (h : 0 ≤ w.toInt ∧ w.toInt < 64) (j : Fin 256) :
    IntOp.cmpi .sle (IntOp.addi (IntOp.muli w 256#32) (BitVec.ofNat 32 j.val)) 16384#32 = 1#1 := by
  obtain ⟨h1, h2⟩ := word_of_range (N := 64) (by norm_num) w h
  have := word_past' ⟨w.toNat, h1⟩ j
  simp only [← h2] at this
  exact this

/-- In the query's own block only its first position is not after position 16384. -/
theorem word_own : ∀ j : Fin 256,
    IntOp.cmpi .sle (IntOp.addi (IntOp.muli 64#32 256#32) (BitVec.ofNat 32 j.val)) 16384#32 = if j.val = 0 then 1#1 else 0#1 := by
  decide +kernel

/-- The pool's page that holds half `e` of the `s`-th block selected for batch entry `b` and head `h`. -/
def page (sel : IVec ⟨3, ![32, 3, 8]⟩ 32) (pt : IVec ⟨2, ![32, 128]⟩ 32) (b : Fin 32) (h : Fin 8) (s : Fin 3) (e : Fin 2) :
    Fin 5120 :=
  ⟨min (pt (ix2 b ⟨min (2 * (sel (ix3 b s h)).toNat + e.val) 127, by omega⟩)).toNat 5119, by omega⟩

end Cert.Attend

end
-- ==== Proof.Attend.Tables.lean ====
module

public import proofs.«01_k».proof.Defs
public import proofs.«01_k».proof.Proof.Gen.KernelIdeal.Frame
public import proofs.«01_k».proof.Proof.Attend.Words
public import Idealize.ShloMosaic.Lib.Pipeline.ValueKit
public import Idealize.ShloMosaic.Lib.Pointwise
public import Idealize.ShloMosaic.Lib.StableHlo.RunRead

/-! The prefetched table of the sample's attention: every word of it is a page of the pool, so the pipeline's side
condition holds; and which page each word is. -/

@[expose] public section

set_option maxRecDepth 16384

noncomputable section

open Idealize.ShloMosaic Idealize.ShloMosaic.TcCoe Idealize.SL.Sem
open Idealize.ShloMosaic.Pipeline (Dat)

namespace Cert.KernelIdeal.Attend

open Cert.KernelIdeal Cert.KernelIdeal.Gen Cert.Attend

variable {F : FTy → Type} [FloatOps F] (m : (ℓ : Loc nD τ sig) → Buf (Elt F) ℓ)

/-- Every word of the table is a word of the page table. -/
theorem tbl_mem (x : S1536.Idx) : ∃ i, tbl m 0 x = (m ((0 : Dev nD), (Proc.devRef .tc main_arg1))) i := by
  show ∃ i, StableHlo.after hostOps0 (fun b => m ((0 : Dev nD), b)) (Proc.devRef .tc main_v26) x = _
  after_reads_simp
  exact ⟨_, rfl⟩

/-- A word read from the table is below the number of pages. -/
theorem word_lt (hp : ∀ i, 0 ≤ (m ((0 : Dev nD), (Proc.devRef .tc main_arg1)) i).toInt
      ∧ (m ((0 : Dev nD), (Proc.devRef .tc main_arg1)) i).toInt < 5120)
    (r : Rect S1536) (h : r.shape.numel = 1) : ((tbl m).at 0 r h).toNat < 5120 := by
  unfold Pipeline.Prefetch.Contents.at
  obtain ⟨i, e⟩ := tbl_mem m (r.emb (Shape.Idx.first (by rw [h]; exact Nat.one_pos)))
  refine lt_of_eq_of_lt (congrArg BitVec.toNat e) ?_
  exact (word_of_range (N := 5120) (by norm_num) _ (hp i)).1

/-- A block of the pool at a page below the pool's number of pages, at the one layer and at a head, is inside the pool. -/
theorem block_inside (w : ℕ) (hw : w < 5120) (i : grid0.Coords) (a : Fin 5) :
    ((![w, (0#32 : BitVec 32).toNat, (BitVec.ofNat 32 (i 1).val).toNat, (0#32 : BitVec 32).toNat, (0#32 : BitVec 32).toNat] : Fin 5 → ℕ) a + 1)
      * S1x1x1x128x128.size a ≤ S5120x1x8x128x128.size a := by
  have hi : (i 1).val < 8 := (i 1).isLt
  have e : (BitVec.ofNat 32 (i 1).val).toNat = (i 1).val := by rw [BitVec.toNat_ofNat]; omega
  match a with
  | ⟨0, _⟩ => show (w + 1) * 1 ≤ 5120; omega
  | ⟨1, _⟩ => show (0 + 1) * 1 ≤ 1; omega
  | ⟨2, _⟩ => show ((BitVec.ofNat 32 (i 1).val).toNat + 1) * 1 ≤ 8; omega
  | ⟨3, _⟩ => show (0 + 1) * 128 ≤ 128; omega
  | ⟨4, _⟩ => show (0 + 1) * 128 ≤ 128; omega

/-- The pipeline's side condition: every block the table names is inside the pool. -/
theorem ok_of_range (hp : ∀ i, 0 ≤ (m ((0 : Dev nD), (Proc.devRef .tc main_arg1)) i).toInt
      ∧ (m ((0 : Dev nD), (Proc.devRef .tc main_arg1)) i).toInt < 5120) : Ok m :=
  ⟨fun i => ⟨block_inside _ (word_lt m hp _ _) i, .inl rfl⟩,
   fun i => ⟨block_inside _ (word_lt m hp _ _) i, .inl rfl⟩,
   fun i => ⟨block_inside _ (word_lt m hp _ _) i, .inl rfl⟩,
   fun i => ⟨block_inside _ (word_lt m hp _ _) i, .inl rfl⟩,
   fun i => ⟨block_inside _ (word_lt m hp _ _) i, .inl rfl⟩,
   fun i => ⟨block_inside _ (word_lt m hp _ _) i, .inl rfl⟩,
   fun i => ⟨block_inside _ (word_lt m hp _ _) i, .inl rfl⟩,
   fun i => ⟨block_inside _ (word_lt m hp _ _) i, .inl rfl⟩,
   fun i => ⟨block_inside _ (word_lt m hp _ _) i, .inl rfl⟩,
   fun i => ⟨block_inside _ (word_lt m hp _ _) i, .inl rfl⟩,
   fun i => ⟨block_inside _ (word_lt m hp _ _) i, .inl rfl⟩,
   fun i => ⟨block_inside _ (word_lt m hp _ _) i, .inl rfl⟩⟩

end Cert.KernelIdeal.Attend

end
-- ==== Proof.Attend.Pages.lean ====
module

public import proofs.«01_k».proof.Defs
public import proofs.«01_k».proof.Proof.Gen.KernelIdeal.Frame
public import proofs.«01_k».proof.Proof.Attend.Tables
public import Idealize.ShloMosaic.Lib.Pipeline.ValueKit
public import Idealize.ShloMosaic.Lib.Pointwise
public import Idealize.ShloMosaic.Lib.StableHlo.RunRead

/-! Which page of the pool each window of keys and of values fetches: the block index its index map computes from the
prefetched table is the page's number. -/

@[expose] public section

set_option maxRecDepth 16384

noncomputable section

open Idealize.ShloMosaic Idealize.ShloMosaic.TcCoe Idealize.SL.Sem
open Idealize.ShloMosaic.Pipeline (Dat)

namespace Cert.KernelIdeal.Attend

open Cert.KernelIdeal Cert.KernelIdeal.Gen Cert.Attend

variable (m : (ℓ : Loc nD τ sig) → Buf (Elt Ideal) ℓ)

/-- The page table looked up at two words, each read signed and clamped to its axis. -/
theorem phys_gather (pt : IVec S32x128 32) (ix : IVec S32x3x2x8x2 32) (b : Fin 32) (s : Fin 3) (e : Fin 2) (h : Fin 8) :
    Host.gather gather_S32x128_S32x3x2x8x2_S32x3x2x8_n_01_n_n_01_4_11 pt ix (ix4 b s e h)
      = pt (ix2 ⟨min (ix (ix5 b s e h 0)).toInt.toNat 31, by omega⟩ ⟨min (ix (ix5 b s e h 1)).toInt.toNat 127, by omega⟩) := by
  unfold Host.gather
  congr 1
  funext a
  refine Fin.ext ?_
  show GatherDims.start _ _ ix a + GatherDims.batchCoord _ _ a + GatherDims.offCoord _ _ a = _
  rw [GatherDims.batchCoord_eq_zero _ _ _ List.not_mem_nil]
  match a with
  | ⟨0, hk⟩ =>
      rw [GatherDims.offCoord_eq_zero _ _ _ (fun q => ((GatherDims.mem_sKept _ _).mp q).1 (show (0 : Fin 2) ∈ ([0, 1] : List (Fin 2)) by decide))]
      unfold GatherDims.start
      rw [dif_pos (show (⟨0, hk⟩ : Fin S32x128.rank) ∈ gather_S32x128_S32x3x2x8x2_S32x3x2x8_n_01_n_n_01_4_11.startIndexMap from (by decide : (0 : Fin 2) ∈ ([0, 1] : List (Fin 2))))]
      refine congrArg (fun z => min (ix z).toInt.toNat 31) ?_
      funext k; refine Fin.ext ?_
      match k with
      | ⟨0, _⟩ => rfl
      | ⟨1, _⟩ => rfl
      | ⟨2, _⟩ => rfl
      | ⟨3, _⟩ => rfl
      | ⟨4, _⟩ => rfl
  | ⟨1, hk⟩ =>
      rw [GatherDims.offCoord_eq_zero _ _ _ (fun q => ((GatherDims.mem_sKept _ _).mp q).1 (show (1 : Fin 2) ∈ ([0, 1] : List (Fin 2)) by decide))]
      unfold GatherDims.start
      rw [dif_pos (show (⟨1, hk⟩ : Fin S32x128.rank) ∈ gather_S32x128_S32x3x2x8x2_S32x3x2x8_n_01_n_n_01_4_11.startIndexMap from (by decide : (1 : Fin 2) ∈ ([0, 1] : List (Fin 2))))]
      refine congrArg (fun z => min (ix z).toInt.toNat 127) ?_
      funext k; refine Fin.ext ?_
      match k with
      | ⟨0, _⟩ => rfl
      | ⟨1, _⟩ => rfl
      | ⟨2, _⟩ => rfl
      | ⟨3, _⟩ => rfl
      | ⟨4, _⟩ => rfl

/-- A reshape to one axis read where four coordinates lie in row-major order. -/
theorem cast_1536 (f : IVec S32x3x2x8 32) (b : Fin 32) (s : Fin 3) (e : Fin 2) (h : Fin 8) :
    shapeCast S1536 f shapeCasts_S32x3x2x8_S1536 (ix1 ⟨((b.val * 3 + s.val) * 2 + e.val) * 8 + h.val, by omega⟩)
      = f (ix4 b s e h) := by
  pointwise

set_option maxHeartbeats 2000000 in
/-- The table's word for batch entry `b`, selected block `s`, half `e` and head `h`. -/
theorem tbl_apply (b : Fin 32) (s : Fin 3) (e : Fin 2) (h : Fin 8)
    (hr : ∀ i, 0 ≤ (m ((0 : Dev nD), (Proc.devRef .tc main_arg0)) i).toInt
      ∧ (m ((0 : Dev nD), (Proc.devRef .tc main_arg0)) i).toInt < 64) :
    tbl m 0 (ix1 ⟨((b.val * 3 + s.val) * 2 + e.val) * 8 + h.val, by omega⟩)
      = m ((0 : Dev nD), (Proc.devRef .tc main_arg1))
          (ix2 b ⟨min (2 * (m ((0 : Dev nD), (Proc.devRef .tc main_arg0)) (ix3 b s h)).toNat + e.val) 127, by omega⟩) := by
  show StableHlo.after hostOps0 (fun b => m ((0 : Dev nD), b)) (Proc.devRef .tc main_v26) _ = _
  after_reads_simp
  refine (cast_1536 _ b s e h).trans ?_
  rw [phys_gather]
  congr 1
  refine congrArg₂ ix2 (Fin.ext ?_) (Fin.ext ?_)
  · pointwise
    after_reads_simp
    pointwise
    exact word_b b
  · pointwise
    after_reads_simp
    pointwise
    exact word_l _ (hr _) e

end Cert.KernelIdeal.Attend

end
-- ==== Proof.Attend.Blocks.lean ====
module

public import proofs.«01_k».proof.Defs
public import proofs.«01_k».proof.Proof.Gen.KernelIdeal.Frame
public import proofs.«01_k».proof.Proof.Attend.Pages
public import Idealize.ShloMosaic.Lib.Pipeline.ReadBack
public import Idealize.ShloMosaic.Lib.Pipeline.ValueKit
public import Idealize.ShloMosaic.Lib.Pointwise
public import Idealize.ShloMosaic.Lib.StableHlo.RunRead

/-! The blocks the attention's windows hold at a grid point, read at an index: the query, the new key and value, and the
six pages of keys and of values. -/

@[expose] public section

set_option maxRecDepth 16384

noncomputable section

open Idealize.ShloMosaic Idealize.ShloMosaic.TcCoe Idealize.SL.Sem
open Idealize.ShloMosaic.Pipeline (Dat)

namespace Cert.KernelIdeal.Attend

open Cert.KernelIdeal Cert.KernelIdeal.Gen Cert.Attend

variable (m : (ℓ : Loc nD τ sig) → Buf (Elt Ideal) ℓ)

/-- The offset of a table's word, from the grid point, the selected block and the half. -/
theorem off_val : ∀ (b : Fin 32) (h : Fin 8) (s : Fin 3) (e : Fin 2),
    (Scalar.indexCast (Scalar.addi (Scalar.muli (Scalar.addi (Scalar.muli (Scalar.addi (Scalar.muli (BitVec.ofNat 32 b.val) 3#32)
      (BitVec.ofNat 32 s.val)) 2#32) (BitVec.ofNat 32 e.val)) 8#32) (BitVec.ofNat 32 h.val)) : BitVec 32).toNat
      = ((b.val * 3 + s.val) * 2 + e.val) * 8 + h.val := by decide +kernel

/-- The table's ranges: the selected blocks are among the 64 past ones, the pages among the pool's. -/
abbrev InRange : Prop :=
  (∀ i, 0 ≤ (m ((0 : Dev nD), (Proc.devRef .tc main_arg0)) i).toInt
    ∧ (m ((0 : Dev nD), (Proc.devRef .tc main_arg0)) i).toInt < 64)
  ∧ (∀ i, 0 ≤ (m ((0 : Dev nD), (Proc.devRef .tc main_arg1)) i).toInt
    ∧ (m ((0 : Dev nD), (Proc.devRef .tc main_arg1)) i).toInt < 5120)

/-- The page the table names for batch entry `b`, head `h`, selected block `s`, half `e`. -/
abbrev pg (b : Fin 32) (h : Fin 8) (s : Fin 3) (e : Fin 2) : Fin 5120 :=
  page (m ((0 : Dev nD), (Proc.devRef .tc main_arg0))) (m ((0 : Dev nD), (Proc.devRef .tc main_arg1))) b h s e

/-- The word an index map reads is the page's number. -/
theorem word_at (hR : InRange m) (b : Fin 32) (h : Fin 8) (s : Fin 3) (e : Fin 2) (n : ℕ)
    (hn : n = ((b.val * 3 + s.val) * 2 + e.val) * 8 + h.val)
    (hb : ∀ a, (![n] : Fin 1 → ℕ) a + S1.size a ≤ S1536.size a) :
    ((tbl m).at 0 (Rect.unit (s := S1536) ![n] S1.size hb) numel1_S1).toNat = (pg m b h s e).val := by
  subst hn
  have e1 : (tbl m).at 0 (Rect.unit (s := S1536) ![((b.val * 3 + s.val) * 2 + e.val) * 8 + h.val] S1.size hb) numel1_S1
      = tbl m 0 (ix1 ⟨((b.val * 3 + s.val) * 2 + e.val) * 8 + h.val, by omega⟩) := by
    unfold Pipeline.Prefetch.Contents.at
    refine congrArg (tbl m 0) ?_
    funext a
    match a with
    | ⟨0, _⟩ => rfl
  rw [e1, tbl_apply m b s e h hR.1]
  refine (Nat.min_eq_left ?_).symm
  have := (word_of_range (N := 5120) (by norm_num) _ (hR.2 (ix2 b ⟨min (2 * (m ((0 : Dev nD), (Proc.devRef .tc main_arg0)) (ix3 b s h)).toNat + e.val) 127, by omega⟩))).1
  omega

/-- The block window 3 is on at a grid point: the page of selected block 0's half 0. -/
theorem idx_3 (hO : Ok m) (hR : InRange m) (t : Fin (cfgM m hO).N) :
    ((cfgM m hO).win 3).index t = ![(pg m (grid0.coords t 0) (grid0.coords t 1) 0 0).val, 0, (grid0.coords t 1).val, 0, 0] := by
  show cc0_transform_3 k0_off1_inb numel1_S1 (tbl m) (grid0.coords t) = _
  unfold cc0_transform_3
  have e2 : (BitVec.ofNat 32 (grid0.coords t 1).val).toNat = (grid0.coords t 1).val := by
    have : (grid0.coords t 1).val < 8 := (grid0.coords t 1).isLt
    rw [BitVec.toNat_ofNat]; omega
  rw [← word_at m hR (grid0.coords t 0) (grid0.coords t 1) 0 0 _ (off_val (grid0.coords t 0) (grid0.coords t 1) 0 0) (k0_off1_inb (grid0.coords t) 0 0)]
  exact congrArg (fun z => ![_, 0, z, 0, 0]) e2

/-- The block window 4 is on at a grid point: the page of selected block 0's half 1. -/
theorem idx_4 (hO : Ok m) (hR : InRange m) (t : Fin (cfgM m hO).N) :
    ((cfgM m hO).win 4).index t = ![(pg m (grid0.coords t 0) (grid0.coords t 1) 0 1).val, 0, (grid0.coords t 1).val, 0, 0] := by
  show cc0_transform_4 k0_off1_inb numel1_S1 (tbl m) (grid0.coords t) = _
  unfold cc0_transform_4
  have e2 : (BitVec.ofNat 32 (grid0.coords t 1).val).toNat = (grid0.coords t 1).val := by
    have : (grid0.coords t 1).val < 8 := (grid0.coords t 1).isLt
    rw [BitVec.toNat_ofNat]; omega
  rw [← word_at m hR (grid0.coords t 0) (grid0.coords t 1) 0 1 _ (off_val (grid0.coords t 0) (grid0.coords t 1) 0 1) (k0_off1_inb (grid0.coords t) 0 1)]
  exact congrArg (fun z => ![_, 0, z, 0, 0]) e2

/-- The block window 5 is on at a grid point: the page of selected block 1's half 0. -/
theorem idx_5 (hO : Ok m) (hR : InRange m) (t : Fin (cfgM m hO).N) :
    ((cfgM m hO).win 5).index t = ![(pg m (grid0.coords t 0) (grid0.coords t 1) 1 0).val, 0, (grid0.coords t 1).val, 0, 0] := by
  show cc0_transform_5 k0_off1_inb numel1_S1 (tbl m) (grid0.coords t) = _
  unfold cc0_transform_5
  have e2 : (BitVec.ofNat 32 (grid0.coords t 1).val).toNat = (grid0.coords t 1).val := by
    have : (grid0.coords t 1).val < 8 := (grid0.coords t 1).isLt
    rw [BitVec.toNat_ofNat]; omega
  rw [← word_at m hR (grid0.coords t 0) (grid0.coords t 1) 1 0 _ (off_val (grid0.coords t 0) (grid0.coords t 1) 1 0) (k0_off1_inb (grid0.coords t) 1 0)]
  exact congrArg (fun z => ![_, 0, z, 0, 0]) e2

/-- The block window 6 is on at a grid point: the page of selected block 1's half 1. -/
theorem idx_6 (hO : Ok m) (hR : InRange m) (t : Fin (cfgM m hO).N) :
    ((cfgM m hO).win 6).index t = ![(pg m (grid0.coords t 0) (grid0.coords t 1) 1 1).val, 0, (grid0.coords t 1).val, 0, 0] := by
  show cc0_transform_6 k0_off1_inb numel1_S1 (tbl m) (grid0.coords t) = _
  unfold cc0_transform_6
  have e2 : (BitVec.ofNat 32 (grid0.coords t 1).val).toNat = (grid0.coords t 1).val := by
    have : (grid0.coords t 1).val < 8 := (grid0.coords t 1).isLt
    rw [BitVec.toNat_ofNat]; omega
  rw [← word_at m hR (grid0.coords t 0) (grid0.coords t 1) 1 1 _ (off_val (grid0.coords t 0) (grid0.coords t 1) 1 1) (k0_off1_inb (grid0.coords t) 1 1)]
  exact congrArg (fun z => ![_, 0, z, 0, 0]) e2

/-- The block window 7 is on at a grid point: the page of selected block 2's half 0. -/
theorem idx_7 (hO : Ok m) (hR : InRange m) (t : Fin (cfgM m hO).N) :
    ((cfgM m hO).win 7).index t = ![(pg m (grid0.coords t 0) (grid0.coords t 1) 2 0).val, 0, (grid0.coords t 1).val, 0, 0] := by
  show cc0_transform_7 k0_off1_inb numel1_S1 (tbl m) (grid0.coords t) = _
  unfold cc0_transform_7
  have e2 : (BitVec.ofNat 32 (grid0.coords t 1).val).toNat = (grid0.coords t 1).val := by
    have : (grid0.coords t 1).val < 8 := (grid0.coords t 1).isLt
    rw [BitVec.toNat_ofNat]; omega
  rw [← word_at m hR (grid0.coords t 0) (grid0.coords t 1) 2 0 _ (off_val (grid0.coords t 0) (grid0.coords t 1) 2 0) (k0_off1_inb (grid0.coords t) 2 0)]
  exact congrArg (fun z => ![_, 0, z, 0, 0]) e2

/-- The block window 8 is on at a grid point: the page of selected block 2's half 1. -/
theorem idx_8 (hO : Ok m) (hR : InRange m) (t : Fin (cfgM m hO).N) :
    ((cfgM m hO).win 8).index t = ![(pg m (grid0.coords t 0) (grid0.coords t 1) 2 1).val, 0, (grid0.coords t 1).val, 0, 0] := by
  show cc0_transform_8 k0_off1_inb numel1_S1 (tbl m) (grid0.coords t) = _
  unfold cc0_transform_8
  have e2 : (BitVec.ofNat 32 (grid0.coords t 1).val).toNat = (grid0.coords t 1).val := by
    have : (grid0.coords t 1).val < 8 := (grid0.coords t 1).isLt
    rw [BitVec.toNat_ofNat]; omega
  rw [← word_at m hR (grid0.coords t 0) (grid0.coords t 1) 2 1 _ (off_val (grid0.coords t 0) (grid0.coords t 1) 2 1) (k0_off1_inb (grid0.coords t) 2 1)]
  exact congrArg (fun z => ![_, 0, z, 0, 0]) e2

/-- The block window 9 is on at a grid point: the page of selected block 0's half 0. -/
theorem idx_9 (hO : Ok m) (hR : InRange m) (t : Fin (cfgM m hO).N) :
    ((cfgM m hO).win 9).index t = ![(pg m (grid0.coords t 0) (grid0.coords t 1) 0 0).val, 0, (grid0.coords t 1).val, 0, 0] := by
  show cc0_transform_9 k0_off1_inb numel1_S1 (tbl m) (grid0.coords t) = _
  unfold cc0_transform_9
  have e2 : (BitVec.ofNat 32 (grid0.coords t 1).val).toNat = (grid0.coords t 1).val := by
    have : (grid0.coords t 1).val < 8 := (grid0.coords t 1).isLt
    rw [BitVec.toNat_ofNat]; omega
  rw [← word_at m hR (grid0.coords t 0) (grid0.coords t 1) 0 0 _ (off_val (grid0.coords t 0) (grid0.coords t 1) 0 0) (k0_off1_inb (grid0.coords t) 0 0)]
  exact congrArg (fun z => ![_, 0, z, 0, 0]) e2

/-- The block window 10 is on at a grid point: the page of selected block 0's half 1. -/
theorem idx_10 (hO : Ok m) (hR : InRange m) (t : Fin (cfgM m hO).N) :
    ((cfgM m hO).win 10).index t = ![(pg m (grid0.coords t 0) (grid0.coords t 1) 0 1).val, 0, (grid0.coords t 1).val, 0, 0] := by
  show cc0_transform_10 k0_off1_inb numel1_S1 (tbl m) (grid0.coords t) = _
  unfold cc0_transform_10
  have e2 : (BitVec.ofNat 32 (grid0.coords t 1).val).toNat = (grid0.coords t 1).val := by
    have : (grid0.coords t 1).val < 8 := (grid0.coords t 1).isLt
    rw [BitVec.toNat_ofNat]; omega
  rw [← word_at m hR (grid0.coords t 0) (grid0.coords t 1) 0 1 _ (off_val (grid0.coords t 0) (grid0.coords t 1) 0 1) (k0_off1_inb (grid0.coords t) 0 1)]
  exact congrArg (fun z => ![_, 0, z, 0, 0]) e2

/-- The block window 11 is on at a grid point: the page of selected block 1's half 0. -/
theorem idx_11 (hO : Ok m) (hR : InRange m) (t : Fin (cfgM m hO).N) :
    ((cfgM m hO).win 11).index t = ![(pg m (grid0.coords t 0) (grid0.coords t 1) 1 0).val, 0, (grid0.coords t 1).val, 0, 0] := by
  show cc0_transform_11 k0_off1_inb numel1_S1 (tbl m) (grid0.coords t) = _
  unfold cc0_transform_11
  have e2 : (BitVec.ofNat 32 (grid0.coords t 1).val).toNat = (grid0.coords t 1).val := by
    have : (grid0.coords t 1).val < 8 := (grid0.coords t 1).isLt
    rw [BitVec.toNat_ofNat]; omega
  rw [← word_at m hR (grid0.coords t 0) (grid0.coords t 1) 1 0 _ (off_val (grid0.coords t 0) (grid0.coords t 1) 1 0) (k0_off1_inb (grid0.coords t) 1 0)]
  exact congrArg (fun z => ![_, 0, z, 0, 0]) e2

/-- The block window 12 is on at a grid point: the page of selected block 1's half 1. -/
theorem idx_12 (hO : Ok m) (hR : InRange m) (t : Fin (cfgM m hO).N) :
    ((cfgM m hO).win 12).index t = ![(pg m (grid0.coords t 0) (grid0.coords t 1) 1 1).val, 0, (grid0.coords t 1).val, 0, 0] := by
  show cc0_transform_12 k0_off1_inb numel1_S1 (tbl m) (grid0.coords t) = _
  unfold cc0_transform_12
  have e2 : (BitVec.ofNat 32 (grid0.coords t 1).val).toNat = (grid0.coords t 1).val := by
    have : (grid0.coords t 1).val < 8 := (grid0.coords t 1).isLt
    rw [BitVec.toNat_ofNat]; omega
  rw [← word_at m hR (grid0.coords t 0) (grid0.coords t 1) 1 1 _ (off_val (grid0.coords t 0) (grid0.coords t 1) 1 1) (k0_off1_inb (grid0.coords t) 1 1)]
  exact congrArg (fun z => ![_, 0, z, 0, 0]) e2

/-- The block window 13 is on at a grid point: the page of selected block 2's half 0. -/
theorem idx_13 (hO : Ok m) (hR : InRange m) (t : Fin (cfgM m hO).N) :
    ((cfgM m hO).win 13).index t = ![(pg m (grid0.coords t 0) (grid0.coords t 1) 2 0).val, 0, (grid0.coords t 1).val, 0, 0] := by
  show cc0_transform_13 k0_off1_inb numel1_S1 (tbl m) (grid0.coords t) = _
  unfold cc0_transform_13
  have e2 : (BitVec.ofNat 32 (grid0.coords t 1).val).toNat = (grid0.coords t 1).val := by
    have : (grid0.coords t 1).val < 8 := (grid0.coords t 1).isLt
    rw [BitVec.toNat_ofNat]; omega
  rw [← word_at m hR (grid0.coords t 0) (grid0.coords t 1) 2 0 _ (off_val (grid0.coords t 0) (grid0.coords t 1) 2 0) (k0_off1_inb (grid0.coords t) 2 0)]
  exact congrArg (fun z => ![_, 0, z, 0, 0]) e2

/-- The block window 14 is on at a grid point: the page of selected block 2's half 1. -/
theorem idx_14 (hO : Ok m) (hR : InRange m) (t : Fin (cfgM m hO).N) :
    ((cfgM m hO).win 14).index t = ![(pg m (grid0.coords t 0) (grid0.coords t 1) 2 1).val, 0, (grid0.coords t 1).val, 0, 0] := by
  show cc0_transform_14 k0_off1_inb numel1_S1 (tbl m) (grid0.coords t) = _
  unfold cc0_transform_14
  have e2 : (BitVec.ofNat 32 (grid0.coords t 1).val).toNat = (grid0.coords t 1).val := by
    have : (grid0.coords t 1).val < 8 := (grid0.coords t 1).isLt
    rw [BitVec.toNat_ofNat]; omega
  rw [← word_at m hR (grid0.coords t 0) (grid0.coords t 1) 2 1 _ (off_val (grid0.coords t 0) (grid0.coords t 1) 2 1) (k0_off1_inb (grid0.coords t) 2 1)]
  exact congrArg (fun z => ![_, 0, z, 0, 0]) e2

/-- The block of window 0 at a grid point. -/
theorem blk_0 (hO : Ok m) (c : Dev nD) (t : Fin (cfgM m hO).N) (d : Fin 128) :
    iblk m hO c 0 t (ix4 0 0 0 d) = m ((c : Thread nD τ).loc main_arg2) (ix4 (grid0.coords t 0) (grid0.coords t 1) 0 d) := by
  have e : ((cfgM m hO).win 0).index t = ![(grid0.coords t 0).val, (grid0.coords t 1).val, 0, 0] := by
    show cc0_transform_0 (grid0.coords t) = _
    unfold cc0_transform_0
    have h0 : (grid0.coords t 0).val < 32 := (grid0.coords t 0).isLt
    have h1 : (grid0.coords t 1).val < 8 := (grid0.coords t 1).isLt
    have e0 : (BitVec.ofNat 32 (grid0.coords t 0).val).toNat = (grid0.coords t 0).val := by rw [BitVec.toNat_ofNat]; omega
    have e1 : (BitVec.ofNat 32 (grid0.coords t 1).val).toNat = (grid0.coords t 1).val := by rw [BitVec.toNat_ofNat]; omega
    exact congrArg₂ (fun y z => ![y, z, 0, 0]) e0 e1
  blk_ext [iblk, V, e]

/-- The block of window 1 at a grid point. -/
theorem blk_1 (hO : Ok m) (c : Dev nD) (t : Fin (cfgM m hO).N) (d : Fin 128) :
    iblk m hO c 1 t (ix4 0 0 0 d) = m ((c : Thread nD τ).loc main_arg3) (ix4 (grid0.coords t 0) (grid0.coords t 1) 0 d) := by
  have e : ((cfgM m hO).win 1).index t = ![(grid0.coords t 0).val, (grid0.coords t 1).val, 0, 0] := by
    show cc0_transform_1 (grid0.coords t) = _
    unfold cc0_transform_1
    have h0 : (grid0.coords t 0).val < 32 := (grid0.coords t 0).isLt
    have h1 : (grid0.coords t 1).val < 8 := (grid0.coords t 1).isLt
    have e0 : (BitVec.ofNat 32 (grid0.coords t 0).val).toNat = (grid0.coords t 0).val := by rw [BitVec.toNat_ofNat]; omega
    have e1 : (BitVec.ofNat 32 (grid0.coords t 1).val).toNat = (grid0.coords t 1).val := by rw [BitVec.toNat_ofNat]; omega
    exact congrArg₂ (fun y z => ![y, z, 0, 0]) e0 e1
  blk_ext [iblk, V, e]

/-- The block of window 2 at a grid point. -/
theorem blk_2 (hO : Ok m) (c : Dev nD) (t : Fin (cfgM m hO).N) (d : Fin 128) :
    iblk m hO c 2 t (ix4 0 0 0 d) = m ((c : Thread nD τ).loc main_arg4) (ix4 (grid0.coords t 0) (grid0.coords t 1) 0 d) := by
  have e : ((cfgM m hO).win 2).index t = ![(grid0.coords t 0).val, (grid0.coords t 1).val, 0, 0] := by
    show cc0_transform_2 (grid0.coords t) = _
    unfold cc0_transform_2
    have h0 : (grid0.coords t 0).val < 32 := (grid0.coords t 0).isLt
    have h1 : (grid0.coords t 1).val < 8 := (grid0.coords t 1).isLt
    have e0 : (BitVec.ofNat 32 (grid0.coords t 0).val).toNat = (grid0.coords t 0).val := by rw [BitVec.toNat_ofNat]; omega
    have e1 : (BitVec.ofNat 32 (grid0.coords t 1).val).toNat = (grid0.coords t 1).val := by rw [BitVec.toNat_ofNat]; omega
    exact congrArg₂ (fun y z => ![y, z, 0, 0]) e0 e1
  blk_ext [iblk, V, e]

/-- The block of window 3 at a grid point. -/
theorem blk_3 (hO : Ok m) (hR : InRange m) (c : Dev nD) (t : Fin (cfgM m hO).N) (j d : Fin 128) :
    iblk m hO c 3 t (ix5 0 0 0 j d)
      = m ((c : Thread nD τ).loc main_arg5) (ix5 (pg m (grid0.coords t 0) (grid0.coords t 1) 0 0) 0 (grid0.coords t 1) j d) := by
  blk_ext [iblk, V, idx_3 m hO hR t]

/-- The block of window 4 at a grid point. -/
theorem blk_4 (hO : Ok m) (hR : InRange m) (c : Dev nD) (t : Fin (cfgM m hO).N) (j d : Fin 128) :
    iblk m hO c 4 t (ix5 0 0 0 j d)
      = m ((c : Thread nD τ).loc main_arg5) (ix5 (pg m (grid0.coords t 0) (grid0.coords t 1) 0 1) 0 (grid0.coords t 1) j d) := by
  blk_ext [iblk, V, idx_4 m hO hR t]

/-- The block of window 5 at a grid point. -/
theorem blk_5 (hO : Ok m) (hR : InRange m) (c : Dev nD) (t : Fin (cfgM m hO).N) (j d : Fin 128) :
    iblk m hO c 5 t (ix5 0 0 0 j d)
      = m ((c : Thread nD τ).loc main_arg5) (ix5 (pg m (grid0.coords t 0) (grid0.coords t 1) 1 0) 0 (grid0.coords t 1) j d) := by
  blk_ext [iblk, V, idx_5 m hO hR t]

/-- The block of window 6 at a grid point. -/
theorem blk_6 (hO : Ok m) (hR : InRange m) (c : Dev nD) (t : Fin (cfgM m hO).N) (j d : Fin 128) :
    iblk m hO c 6 t (ix5 0 0 0 j d)
      = m ((c : Thread nD τ).loc main_arg5) (ix5 (pg m (grid0.coords t 0) (grid0.coords t 1) 1 1) 0 (grid0.coords t 1) j d) := by
  blk_ext [iblk, V, idx_6 m hO hR t]

/-- The block of window 7 at a grid point. -/
theorem blk_7 (hO : Ok m) (hR : InRange m) (c : Dev nD) (t : Fin (cfgM m hO).N) (j d : Fin 128) :
    iblk m hO c 7 t (ix5 0 0 0 j d)
      = m ((c : Thread nD τ).loc main_arg5) (ix5 (pg m (grid0.coords t 0) (grid0.coords t 1) 2 0) 0 (grid0.coords t 1) j d) := by
  blk_ext [iblk, V, idx_7 m hO hR t]

/-- The block of window 8 at a grid point. -/
theorem blk_8 (hO : Ok m) (hR : InRange m) (c : Dev nD) (t : Fin (cfgM m hO).N) (j d : Fin 128) :
    iblk m hO c 8 t (ix5 0 0 0 j d)
      = m ((c : Thread nD τ).loc main_arg5) (ix5 (pg m (grid0.coords t 0) (grid0.coords t 1) 2 1) 0 (grid0.coords t 1) j d) := by
  blk_ext [iblk, V, idx_8 m hO hR t]

/-- The block of window 9 at a grid point. -/
theorem blk_9 (hO : Ok m) (hR : InRange m) (c : Dev nD) (t : Fin (cfgM m hO).N) (j d : Fin 128) :
    iblk m hO c 9 t (ix5 0 0 0 j d)
      = m ((c : Thread nD τ).loc main_arg6) (ix5 (pg m (grid0.coords t 0) (grid0.coords t 1) 0 0) 0 (grid0.coords t 1) j d) := by
  blk_ext [iblk, V, idx_9 m hO hR t]

/-- The block of window 10 at a grid point. -/
theorem blk_10 (hO : Ok m) (hR : InRange m) (c : Dev nD) (t : Fin (cfgM m hO).N) (j d : Fin 128) :
    iblk m hO c 10 t (ix5 0 0 0 j d)
      = m ((c : Thread nD τ).loc main_arg6) (ix5 (pg m (grid0.coords t 0) (grid0.coords t 1) 0 1) 0 (grid0.coords t 1) j d) := by
  blk_ext [iblk, V, idx_10 m hO hR t]

/-- The block of window 11 at a grid point. -/
theorem blk_11 (hO : Ok m) (hR : InRange m) (c : Dev nD) (t : Fin (cfgM m hO).N) (j d : Fin 128) :
    iblk m hO c 11 t (ix5 0 0 0 j d)
      = m ((c : Thread nD τ).loc main_arg6) (ix5 (pg m (grid0.coords t 0) (grid0.coords t 1) 1 0) 0 (grid0.coords t 1) j d) := by
  blk_ext [iblk, V, idx_11 m hO hR t]

/-- The block of window 12 at a grid point. -/
theorem blk_12 (hO : Ok m) (hR : InRange m) (c : Dev nD) (t : Fin (cfgM m hO).N) (j d : Fin 128) :
    iblk m hO c 12 t (ix5 0 0 0 j d)
      = m ((c : Thread nD τ).loc main_arg6) (ix5 (pg m (grid0.coords t 0) (grid0.coords t 1) 1 1) 0 (grid0.coords t 1) j d) := by
  blk_ext [iblk, V, idx_12 m hO hR t]

/-- The block of window 13 at a grid point. -/
theorem blk_13 (hO : Ok m) (hR : InRange m) (c : Dev nD) (t : Fin (cfgM m hO).N) (j d : Fin 128) :
    iblk m hO c 13 t (ix5 0 0 0 j d)
      = m ((c : Thread nD τ).loc main_arg6) (ix5 (pg m (grid0.coords t 0) (grid0.coords t 1) 2 0) 0 (grid0.coords t 1) j d) := by
  blk_ext [iblk, V, idx_13 m hO hR t]

/-- The block of window 14 at a grid point. -/
theorem blk_14 (hO : Ok m) (hR : InRange m) (c : Dev nD) (t : Fin (cfgM m hO).N) (j d : Fin 128) :
    iblk m hO c 14 t (ix5 0 0 0 j d)
      = m ((c : Thread nD τ).loc main_arg6) (ix5 (pg m (grid0.coords t 0) (grid0.coords t 1) 2 1) 0 (grid0.coords t 1) j d) := by
  blk_ext [iblk, V, idx_14 m hO hR t]

end Cert.KernelIdeal.Attend

end
-- ==== Proof.Attend.Softmax.lean ====
module

public import Idealize.ShloMosaic.PureOps.Ideal
public import Idealize.ShloMosaic.Lib.Pointwise

/-! A softmax over 1024 scores of which the first 769 are finite and the rest are minus infinity, against the sum over the
768 first ones with the last one added by itself, divided at the end. -/

@[expose] public section

set_option maxRecDepth 16384

noncomputable section

open Idealize.ShloMosaic

namespace Cert.Attend

/-- The exponential of a finite number's difference with a finite number is positive and finite. -/
theorem exp_sub_fin {a b : EReal} (ha : a ≠ ⊥ ∧ a ≠ ⊤) (hb : b ≠ ⊥ ∧ b ≠ ⊤) :
    0 < Ideal.exp (a - b) ∧ Ideal.exp (a - b) ≠ ⊤ := by
  lift a to ℝ using ⟨ha.2, ha.1⟩
  lift b to ℝ using ⟨hb.2, hb.1⟩
  rw [← EReal.coe_sub]
  show (0 : EReal) < ((Real.exp (a - b) : ℝ) : EReal) ∧ ((Real.exp (a - b) : ℝ) : EReal) ≠ ⊤
  exact ⟨by exact_mod_cast Real.exp_pos _, EReal.coe_ne_top _⟩

/-- Minus infinity less a finite number has exponential zero. -/
theorem exp_bot_sub {b : EReal} (hb : b ≠ ⊥ ∧ b ≠ ⊤) : Ideal.exp (⊥ - b) = 0 := by
  lift b to ℝ using ⟨hb.2, hb.1⟩
  rw [EReal.bot_sub]
  rfl

/-- A finite sum of nonnegative numbers is nonnegative. -/
theorem sum_nonneg' {ι : Type} (t : Finset ι) (f : ι → EReal) (h : ∀ i, 0 ≤ f i) : 0 ≤ ∑ i ∈ t, f i :=
  Finset.sum_nonneg fun i _ => h i

/-- A finite sum of numbers that are not plus infinity is not plus infinity. -/
theorem sum_ne_top {ι : Type} (t : Finset ι) (f : ι → EReal) (h : ∀ i, f i ≠ ⊤) : ∑ i ∈ t, f i ≠ ⊤ := by
  classical
  induction t using Finset.induction_on with
  | empty => simp
  | insert a u ha ih => rw [Finset.sum_insert ha]; exact EReal.add_ne_top (h a) ih

/-- A nonnegative finite factor goes into a finite sum from the right. -/
theorem sum_mul_right {ι : Type} (t : Finset ι) (f : ι → EReal) (c : EReal) (h0 : 0 ≤ c) (h1 : c ≠ ⊤) :
    (∑ i ∈ t, f i) * c = ∑ i ∈ t, f i * c := by
  classical
  induction t using Finset.induction_on with
  | empty => simp
  | insert a u ha ih =>
      rw [Finset.sum_insert ha, Finset.sum_insert ha, EReal.right_distrib_of_nonneg_of_ne_top h0 h1, ih]

/-- The inverse of a finite number is not plus infinity. -/
theorem inv_ne_top {x : EReal} (ht : x ≠ ⊤) (hb : x ≠ ⊥) : x⁻¹ ≠ ⊤ := by
  lift x to ℝ using ⟨ht, hb⟩
  rw [← EReal.coe_inv]; exact EReal.coe_ne_top _

/-- A finite sum of products of finite numbers is a real number. -/
theorem sum_coe {ι : Type} (t : Finset ι) (f : ι → ℝ) : ∑ i ∈ t, (f i : EReal) = ((∑ i ∈ t, f i : ℝ) : EReal) := by
  classical
  induction t using Finset.induction_on with
  | empty => simp
  | insert a u ha ih => rw [Finset.sum_insert ha, Finset.sum_insert ha, ih, EReal.coe_add]

/-- A sum over 1024 positions of a function that vanishes after position 768 is the sum over the first 768 and the value
at position 768. -/
theorem sum_1024 (f : Fin 1024 → EReal) (h : ∀ r : Fin 1024, 768 < r.val → f r = 0) :
    ∑ r, f r = ∑ k : Fin 768, f ⟨k.val, by omega⟩ + f ⟨768, by omega⟩ := by
  have e : ∑ r, f r = ∑ k : Fin 768, f ⟨k.val, by omega⟩ + ∑ k : Fin 256, f ⟨768 + k.val, by omega⟩ :=
    Fin.sum_univ_add (a := 768) (b := 256) f
  have e2 : ∑ k : Fin 256, f ⟨768 + k.val, by omega⟩ = f ⟨768, by omega⟩ := by
    rw [Finset.sum_eq_single (0 : Fin 256)]
    · rfl
    · intro b _ hb
      exact h _ (by show 768 < 768 + b.val; have : b.val ≠ 0 := fun q => hb (Fin.ext q); omega)
    · intro q; exact absurd (Finset.mem_univ _) q
  rw [e, e2]

/-- The quotient of the weighted sum by the sum of the weights is the sum weighted by the quotients: the softmax taken
over all 1024 positions and the one taken over 768 positions and one more agree at a common finite subtrahend. -/
theorem softmax_at (s v : Fin 768 → EReal) (s0 v0 M : EReal) (S V : Fin 1024 → EReal)
    (hs : ∀ k, s k ≠ ⊥ ∧ s k ≠ ⊤) (hs0 : s0 ≠ ⊥ ∧ s0 ≠ ⊤) (hM : M ≠ ⊥ ∧ M ≠ ⊤)
    (hS : ∀ k : Fin 768, S ⟨k.val, by omega⟩ = s k) (hS0 : S ⟨768, by omega⟩ = s0)
    (hS1 : ∀ r : Fin 1024, 768 < r.val → S r = ⊥)
    (hV : ∀ k : Fin 768, V ⟨k.val, by omega⟩ = v k) (hV0 : V ⟨768, by omega⟩ = v0) :
    Ideal.div (∑ k, Ideal.exp (s k - M) * v k + Ideal.exp (s0 - M) * v0)
        (∑ k, Ideal.exp (s k - M) + Ideal.exp (s0 - M))
      = ∑ r, Ideal.div (Ideal.exp (S r - M)) (∑ q, Ideal.exp (S q - M)) * V r := by
  have eL : ∑ q, Ideal.exp (S q - M) = ∑ k, Ideal.exp (s k - M) + Ideal.exp (s0 - M) := by
    rw [sum_1024 _ fun r hr => by rw [hS1 r hr]; exact exp_bot_sub hM]
    simp only [hS, hS0]
  rw [eL]
  set L : EReal := ∑ k, Ideal.exp (s k - M) + Ideal.exp (s0 - M) with hL
  have hp : 0 < L := by
    have h1 : 0 ≤ ∑ k, Ideal.exp (s k - M) := sum_nonneg' _ _ fun k => (exp_sub_fin (hs k) hM).1.le
    have h2 := (exp_sub_fin hs0 hM).1
    calc (0 : EReal) < Ideal.exp (s0 - M) := h2
      _ = 0 + Ideal.exp (s0 - M) := (zero_add _).symm
      _ ≤ L := add_le_add_left h1 _
  have ht : L ≠ ⊤ := EReal.add_ne_top (sum_ne_top _ _ fun k => (exp_sub_fin (hs k) hM).2) (exp_sub_fin hs0 hM).2
  have hb : L ≠ ⊥ := fun q => by rw [q] at hp; exact absurd hp (by simp)
  have d : ∀ x : EReal, Ideal.div x L = x * L⁻¹ := fun x => by unfold Ideal.div; rw [if_neg hp.ne']
  have i0 : 0 ≤ L⁻¹ := EReal.inv_nonneg_of_nonneg hp.le
  have i1 : L⁻¹ ≠ ⊤ := inv_ne_top ht hb
  simp only [d]
  rw [sum_1024 _ fun r hr => by rw [hS1 r hr, exp_bot_sub hM, zero_mul, zero_mul]]
  simp only [hS, hS0, hV, hV0]
  rw [EReal.right_distrib_of_nonneg_of_ne_top i0 i1, sum_mul_right _ _ _ i0 i1]
  congr 1
  · exact Finset.sum_congr rfl fun k _ => by rw [mul_assoc, mul_comm (v k), ← mul_assoc]
  · rw [mul_assoc, mul_comm v0, ← mul_assoc]

/-- The greatest of the first 768 scores and of the one at 768 is the greatest of all 1024. -/
theorem max_1024 (s : Fin 768 → EReal) (s0 : EReal) (S : Fin 1024 → EReal)
    (hS : ∀ k : Fin 768, S ⟨k.val, by omega⟩ = s k) (hS0 : S ⟨768, by omega⟩ = s0)
    (hS1 : ∀ r : Fin 1024, 768 < r.val → S r = ⊥) :
    max (⊥ : EReal) (Finset.univ.fold max ⊥ S) = max (Finset.univ.fold max ⊥ s) s0 := by
  rw [max_eq_right bot_le]
  apply le_antisymm
  · refine Finset.fold_max_le _ |>.2 ⟨bot_le, fun r _ => ?_⟩
    rcases Nat.lt_trichotomy r.val 768 with h | h | h
    · refine le_max_of_le_left ((Finset.le_fold_max _).2 (.inr ⟨⟨r.val, h⟩, Finset.mem_univ _, ?_⟩))
      rw [← hS]
    · refine le_max_of_le_right ?_
      rw [← hS0]; exact le_of_eq (congrArg S (Fin.ext h))
    · rw [hS1 r h]; exact bot_le
  · refine max_le ?_ ?_
    · refine Finset.fold_max_le _ |>.2 ⟨bot_le, fun k _ => ?_⟩
      exact (Finset.le_fold_max _).2 (.inr ⟨⟨k.val, by omega⟩, Finset.mem_univ _, by rw [hS]⟩)
    · exact (Finset.le_fold_max _).2 (.inr ⟨⟨768, by omega⟩, Finset.mem_univ _, by rw [hS0]⟩)

/-- The greatest of finitely many finite numbers and one more is finite. -/
theorem max_fin (s : Fin 768 → EReal) (s0 : EReal) (hs : ∀ k, s k ≠ ⊥ ∧ s k ≠ ⊤) (hs0 : s0 ≠ ⊥ ∧ s0 ≠ ⊤) :
    max (Finset.univ.fold max ⊥ s) s0 ≠ ⊥ ∧ max (Finset.univ.fold max ⊥ s) s0 ≠ ⊤ := by
  constructor
  · intro q
    have h : s0 ≤ max (Finset.univ.fold max ⊥ s) s0 := le_max_right _ _
    rw [q] at h
    exact hs0.1 (le_bot_iff.1 h)
  · have h : Finset.univ.fold max ⊥ s < ⊤ :=
      (Finset.fold_max_lt _).2 ⟨bot_lt_top, fun k _ => lt_top_iff_ne_top.2 (hs k).2⟩
    exact (max_lt h (lt_top_iff_ne_top.2 hs0.2)).ne

/-- The attention of one query: the quotient of sums, each taken over 768 scores and one more, is the sum over all 1024
positions weighted by their softmax. -/
theorem softmax_eq (s v : Fin 768 → EReal) (s0 v0 : EReal) (S V : Fin 1024 → EReal)
    (hs : ∀ k, s k ≠ ⊥ ∧ s k ≠ ⊤) (hs0 : s0 ≠ ⊥ ∧ s0 ≠ ⊤)
    (hS : ∀ k : Fin 768, S ⟨k.val, by omega⟩ = s k) (hS0 : S ⟨768, by omega⟩ = s0)
    (hS1 : ∀ r : Fin 1024, 768 < r.val → S r = ⊥)
    (hV : ∀ k : Fin 768, V ⟨k.val, by omega⟩ = v k) (hV0 : V ⟨768, by omega⟩ = v0) :
    Ideal.div
        (∑ k, Ideal.exp (s k - max (Finset.univ.fold max ⊥ s) s0) * v k
          + Ideal.exp (s0 - max (Finset.univ.fold max ⊥ s) s0) * v0)
        (∑ k, Ideal.exp (s k - max (Finset.univ.fold max ⊥ s) s0)
          + Ideal.exp (s0 - max (Finset.univ.fold max ⊥ s) s0))
      = ∑ r, Ideal.div (Ideal.exp (S r - max (⊥ : EReal) (Finset.univ.fold max ⊥ S)))
          (∑ q, Ideal.exp (S q - max (⊥ : EReal) (Finset.univ.fold max ⊥ S))) * V r := by
  rw [max_1024 s s0 S hS hS0 hS1]
  exact softmax_at s v s0 v0 _ S V hs hs0 (max_fin s s0 hs hs0) hS hS0 hS1 hV hV0

/-- The word of minus infinity. -/
theorem ofBits_bot : Ideal.ofBits .f32 0xFF800000#32 = ⊥ := by simp [Ideal.ofBits, Ideal.ieee]

/-- The word of plus infinity. -/
theorem ofBits_top : Ideal.ofBits .f32 0x7F800000#32 = ⊤ := by simp [Ideal.ofBits, Ideal.ieee]

/-- The scores' scale is finite. -/
theorem scale_fin : Ideal.ofBits .f32 0x3DB504F3#32 ≠ ⊥ ∧ Ideal.ofBits .f32 0x3DB504F3#32 ≠ ⊤ := by
  simp [Ideal.ofBits, Ideal.ieee, -EReal.coe_mul]

/-- A sum of products of finite numbers, times a finite number, is finite. -/
theorem score_fin {n : ℕ} (q k : Fin n → EReal) (c : EReal) (hc : c ≠ ⊥ ∧ c ≠ ⊤) (hq : ∀ d, q d ≠ ⊥ ∧ q d ≠ ⊤) (hk : ∀ d, k d ≠ ⊥ ∧ k d ≠ ⊤) :
    (∑ d, q d * k d) * c ≠ ⊥ ∧ (∑ d, q d * k d) * c ≠ ⊤ := by
  have e : ∑ d, q d * k d = ((∑ d, (q d).toReal * (k d).toReal : ℝ) : EReal) := by
    rw [← sum_coe]
    refine Finset.sum_congr rfl fun d _ => ?_
    rw [EReal.coe_mul, EReal.coe_toReal (hq d).2 (hq d).1, EReal.coe_toReal (hk d).2 (hk d).1]
  lift c to ℝ using ⟨hc.2, hc.1⟩
  rw [e, ← EReal.coe_mul]
  exact ⟨EReal.coe_ne_bot _, EReal.coe_ne_top _⟩

end Cert.Attend

end
-- ==== Proof.Attend.Payload.lean ====
module

public import proofs.«01_k».proof.Defs
public import proofs.«01_k».proof.Proof.Gen.KernelIdeal.Frame
public import proofs.«01_k».proof.Proof.Attend.Softmax
public import Idealize.ShloMosaic.Lib.Pipeline.ReadBack
public import Idealize.ShloMosaic.Lib.Pipeline.ValueKit
public import Idealize.ShloMosaic.Lib.Pointwise

/-! What the attention's body computes at a grid point, read at an index: the six pages are one array of 768 rows, the
scores are the scaled sums of products, and the result is the weighted sum over the total weight. -/

@[expose] public section

set_option maxRecDepth 16384

noncomputable section

open Idealize.ShloMosaic Idealize.ShloMosaic.TcCoe Idealize.SL.Sem
open Idealize.ShloMosaic.Pipeline (Dat)

namespace Cert.KernelIdeal.Attend

open Cert.KernelIdeal Cert.KernelIdeal.Gen Cert.Attend

/-- The six pages as one array of rows. -/
def row (p : Fin 6 → Vec Ideal S1x1x1x128x128 .f32) (k : Fin 768) (d : Fin 128) : EReal :=
  p ⟨k.val / 128, by omega⟩ (ix5 0 0 0 ⟨k.val % 128, by omega⟩ d)

/-- A row of the six pages, its page found by subtracting the pages before it. -/
theorem row_cases (p : Fin 6 → Vec Ideal S1x1x1x128x128 .f32) (k : Fin 768) (d : Fin 128) :
    (
      if h : k.val < 128 then p 0 (ix5 0 0 0 ⟨k.val, by omega⟩ d) else
      if h : k.val - 128 < 128 then p 1 (ix5 0 0 0 ⟨k.val - 128, by omega⟩ d) else
      if h : k.val - 128 - 128 < 128 then p 2 (ix5 0 0 0 ⟨k.val - 128 - 128, by omega⟩ d) else
      if h : k.val - 128 - 128 - 128 < 128 then p 3 (ix5 0 0 0 ⟨k.val - 128 - 128 - 128, by omega⟩ d) else
      if h : k.val - 128 - 128 - 128 - 128 < 128 then p 4 (ix5 0 0 0 ⟨k.val - 128 - 128 - 128 - 128, by omega⟩ d) else
      p 5 (ix5 0 0 0 ⟨k.val - 128 - 128 - 128 - 128 - 128, by omega⟩ d))
      = row p k d := by
  have key : ∀ (n : Fin 6) (j : Fin 128), k.val = 128 * n.val + j.val → p n (ix5 0 0 0 j d) = row p k d := by
    intro n j e
    unfold row
    rw [show (⟨k.val / 128, by omega⟩ : Fin 6) = n from Fin.ext (by show k.val / 128 = n.val; omega),
      show (⟨k.val % 128, by omega⟩ : Fin 128) = j from Fin.ext (by show k.val % 128 = j.val; omega)]
  split_ifs with h0 h1 h2 h3 h4
  · exact key 0 _ (by show k.val = 128 * 0 + k.val; omega)
  · exact key 1 _ (by show k.val = 128 * 1 + (k.val - 128); omega)
  · exact key 2 _ (by show k.val = 128 * 2 + (k.val - 128 - 128); omega)
  · exact key 3 _ (by show k.val = 128 * 3 + (k.val - 128 - 128 - 128); omega)
  · exact key 4 _ (by show k.val = 128 * 4 + (k.val - 128 - 128 - 128 - 128); omega)
  · exact key 5 _ (by show k.val = 128 * 5 + (k.val - 128 - 128 - 128 - 128 - 128); omega)

/-- The pages of the values put one after the other are the rows. -/
theorem pay10_apply (p : Fin 6 → Vec Ideal S1x1x1x128x128 .f32) (k : Fin 768) (d : Fin 128) :
    k0_pay10 (F := Ideal) (p 0) (p 1) (p 2) (p 3) (p 4) (p 5) (ix2 k d) = row p k d := by
  pointwise [k0_pay10]
  exact row_cases p k d

/-- The scores: the query times a row of the keys, scaled. -/
theorem pay11_apply (q : Vec Ideal S1x1x1x128 .f32) (p : Fin 6 → Vec Ideal S1x1x1x128x128 .f32) (a : Fin 8) (k : Fin 768) :
    k0_pay11 (F := Ideal) (k0_pay2 q) (k0_pay5 (p 0)) (k0_pay6 (p 1)) (k0_pay7 (p 2)) (k0_pay8 (p 3)) (k0_pay9 (p 4)) (p 5) (ix2 a k)
      = (∑ d : Fin 128, q (ix4 0 0 0 d) * row p k d) * Ideal.ofBits .f32 0x3DB504F3#32 := by
  pointwise [k0_pay11, k0_pay2, k0_pay5, k0_pay6, k0_pay7, k0_pay8, k0_pay9]
  refine congrArg (· * _) (Finset.sum_congr rfl fun x _ => congrArg (q (ix4 0 0 0 x) * ·) ?_)
  exact row_cases p k x

/-- The result: the weighted sum of the values over the sum of the weights. -/
theorem pay1_apply (v5 : FVec Ideal S1x128 .bf16) (v9 : FVec Ideal S1x128 .f32) (v37 : FVec Ideal S768x128 .bf16)
    (v42 : FVec Ideal S8x768 .f32) (v43 : FVec Ideal S1x128 .f32) (d : Fin 128) (s : Fin 768 → EReal) (s0 : EReal)
    (hs : s = fun k => v42 (ix2 0 k))
    (hs0 : s0 = (∑ d : Fin 128, v43 (ix2 0 d) * v5 (ix2 0 d)) * Ideal.ofBits .f32 0x3DB504F3#32) :
    k0_pay1 (F := Ideal) v5 v9 v37 v42 v43 (ix4 0 0 0 d)
      = Ideal.div
        (∑ k, Ideal.exp (s k - max (Finset.univ.fold max ⊥ s) s0) * v37 (ix2 k d)
          + Ideal.exp (s0 - max (Finset.univ.fold max ⊥ s) s0) * v9 (ix2 0 d))
        (∑ k, Ideal.exp (s k - max (Finset.univ.fold max ⊥ s) s0) + Ideal.exp (s0 - max (Finset.univ.fold max ⊥ s) s0)) := by
  subst hs hs0
  pointwise [k0_pay1]
  rw [ofBits_bot]

end Cert.KernelIdeal.Attend

end
-- ==== Proof.Attend.Reads.lean ====
module

public import proofs.«01_k».proof.Defs
public import proofs.«01_k».proof.Proof.Gen.ReferenceIdeal.Read
public import Idealize.ShloMosaic.Lib.Pipeline.ValueKit
public import Idealize.ShloMosaic.Lib.Pointwise
public import Idealize.ShloMosaic.Lib.ValueIdxRank6
public import proofs.«01_k».proof.Proof.Attend.Words
public import proofs.«01_k».proof.Proof.Attend.Softmax

/-! The reference's attention over the pages, read at an index: the pages the two-level lookup names, the rows of the keys
and of the values, the mask. -/

@[expose] public section

set_option maxRecDepth 16384

noncomputable section

open Idealize.ShloMosaic Idealize.ShloMosaic.TcCoe Idealize.SL.Sem

namespace Cert.ReferenceIdeal.Attend

open Cert.ReferenceIdeal Cert.ReferenceIdeal.Gen Cert.ReferenceIdeal.Read Cert.Attend

/-- The page table looked up at two words, each read signed and clamped to its axis. -/
theorem phys_gather (pt : IVec S32x128 32) (ix : IVec S32x8x3x2x2 32) (b : Fin 32) (h : Fin 8) (s : Fin 3) (e : Fin 2) :
    Host.gather gather_S32x128_S32x8x3x2x2_S32x8x3x2_n_01_n_n_01_4_11 pt ix (ix4 b h s e)
      = pt (ix2 ⟨min (ix (ix5 b h s e 0)).toInt.toNat 31, by omega⟩ ⟨min (ix (ix5 b h s e 1)).toInt.toNat 127, by omega⟩) := by
  unfold Host.gather
  congr 1
  funext a
  refine Fin.ext ?_
  show GatherDims.start _ _ ix a + GatherDims.batchCoord _ _ a + GatherDims.offCoord _ _ a = _
  rw [GatherDims.batchCoord_eq_zero _ _ _ List.not_mem_nil]
  match a with
  | ⟨0, hk⟩ =>
      rw [GatherDims.offCoord_eq_zero _ _ _ (fun q => ((GatherDims.mem_sKept _ _).mp q).1 (show (0 : Fin 2) ∈ ([0, 1] : List (Fin 2)) by decide))]
      unfold GatherDims.start
      rw [dif_pos (show (⟨0, hk⟩ : Fin S32x128.rank) ∈ gather_S32x128_S32x8x3x2x2_S32x8x3x2_n_01_n_n_01_4_11.startIndexMap from (by decide : (0 : Fin 2) ∈ ([0, 1] : List (Fin 2))))]
      refine congrArg (fun z => min (ix z).toInt.toNat 31) ?_
      funext k; refine Fin.ext ?_
      match k with
      | ⟨0, _⟩ => rfl
      | ⟨1, _⟩ => rfl
      | ⟨2, _⟩ => rfl
      | ⟨3, _⟩ => rfl
      | ⟨4, _⟩ => rfl
  | ⟨1, hk⟩ =>
      rw [GatherDims.offCoord_eq_zero _ _ _ (fun q => ((GatherDims.mem_sKept _ _).mp q).1 (show (1 : Fin 2) ∈ ([0, 1] : List (Fin 2)) by decide))]
      unfold GatherDims.start
      rw [dif_pos (show (⟨1, hk⟩ : Fin S32x128.rank) ∈ gather_S32x128_S32x8x3x2x2_S32x8x3x2_n_01_n_n_01_4_11.startIndexMap from (by decide : (1 : Fin 2) ∈ ([0, 1] : List (Fin 2))))]
      refine congrArg (fun z => min (ix z).toInt.toNat 127) ?_
      funext k; refine Fin.ext ?_
      match k with
      | ⟨0, _⟩ => rfl
      | ⟨1, _⟩ => rfl
      | ⟨2, _⟩ => rfl
      | ⟨3, _⟩ => rfl
      | ⟨4, _⟩ => rfl

/-- A pool looked up at three words — a page, the one layer, a head — each read signed and clamped to its axis: the
page's rows. -/
theorem pool_gather (x : FVec Ideal S5120x1x8x128x128 .f32) (ix : IVec S32x8x3x2x3 32) (b : Fin 32) (h : Fin 8) (s : Fin 3)
    (e : Fin 2) (j d : Fin 128) :
    Host.gather gather_S5120x1x8x128x128_S32x8x3x2x3_S32x8x3x2x128x128_45_012_n_n_012_4_111128128 x ix (ix6 b h s e j d)
      = x (ix5 ⟨min (ix (ix5 b h s e 0)).toInt.toNat 5119, by omega⟩ 0
          ⟨min (ix (ix5 b h s e 2)).toInt.toNat 7, by omega⟩ j d) := by
  unfold Host.gather
  congr 1
  funext a
  refine Fin.ext ?_
  show GatherDims.start _ _ ix a + GatherDims.batchCoord _ _ a + GatherDims.offCoord _ _ a = _
  rw [GatherDims.batchCoord_eq_zero _ _ _ List.not_mem_nil]
  match a with
  | ⟨0, hk⟩ =>
      rw [GatherDims.offCoord_eq_zero _ _ _ (fun q => ((GatherDims.mem_sKept _ _).mp q).1 (show (0 : Fin 5) ∈ ([0, 1, 2] : List (Fin 5)) by decide))]
      unfold GatherDims.start
      rw [dif_pos (show (⟨0, hk⟩ : Fin S5120x1x8x128x128.rank) ∈ gather_S5120x1x8x128x128_S32x8x3x2x3_S32x8x3x2x128x128_45_012_n_n_012_4_111128128.startIndexMap from (by decide : (0 : Fin 5) ∈ ([0, 1, 2] : List (Fin 5))))]
      refine congrArg (fun z => min (ix z).toInt.toNat 5119) ?_
      funext k; refine Fin.ext ?_
      match k with
      | ⟨0, _⟩ => rfl
      | ⟨1, _⟩ => rfl
      | ⟨2, _⟩ => rfl
      | ⟨3, _⟩ => rfl
      | ⟨4, _⟩ => rfl
  | ⟨1, hk⟩ =>
      rw [GatherDims.offCoord_eq_zero _ _ _ (fun q => ((GatherDims.mem_sKept _ _).mp q).1 (show (1 : Fin 5) ∈ ([0, 1, 2] : List (Fin 5)) by decide))]
      exact Nat.le_zero.1 (GatherDims.start_le
        gather_S5120x1x8x128x128_S32x8x3x2x3_S32x8x3x2x128x128_45_012_n_n_012_4_111128128 _ ix (1 : Fin 5))
  | ⟨2, hk⟩ =>
      rw [GatherDims.offCoord_eq_zero _ _ _ (fun q => ((GatherDims.mem_sKept _ _).mp q).1 (show (2 : Fin 5) ∈ ([0, 1, 2] : List (Fin 5)) by decide))]
      unfold GatherDims.start
      rw [dif_pos (show (⟨2, hk⟩ : Fin S5120x1x8x128x128.rank) ∈ gather_S5120x1x8x128x128_S32x8x3x2x3_S32x8x3x2x128x128_45_012_n_n_012_4_111128128.startIndexMap from (by decide : (2 : Fin 5) ∈ ([0, 1, 2] : List (Fin 5))))]
      refine congrArg (fun z => min (ix z).toInt.toNat 7) ?_
      funext k; refine Fin.ext ?_
      match k with
      | ⟨0, _⟩ => rfl
      | ⟨1, _⟩ => rfl
      | ⟨2, _⟩ => rfl
      | ⟨3, _⟩ => rfl
      | ⟨4, _⟩ => rfl
  | ⟨3, hk⟩ =>
      unfold GatherDims.start
      rw [dif_neg (show (⟨3, hk⟩ : Fin S5120x1x8x128x128.rank) ∉ gather_S5120x1x8x128x128_S32x8x3x2x3_S32x8x3x2x128x128_45_012_n_n_012_4_111128128.startIndexMap from (by decide : (3 : Fin 5) ∉ ([0, 1, 2] : List (Fin 5))))]
      unfold GatherDims.offCoord
      rw [dif_pos (show (⟨3, hk⟩ : Fin S5120x1x8x128x128.rank) ∈ gather_S5120x1x8x128x128_S32x8x3x2x3_S32x8x3x2x128x128_45_012_n_n_012_4_111128128.sKept from (GatherDims.mem_sKept _ _).mpr ⟨(by decide : (3 : Fin 5) ∉ ([0, 1, 2] : List (Fin 5))), List.not_mem_nil⟩)]
      simp only [Nat.zero_add]
      rfl
  | ⟨4, hk⟩ =>
      unfold GatherDims.start
      rw [dif_neg (show (⟨4, hk⟩ : Fin S5120x1x8x128x128.rank) ∉ gather_S5120x1x8x128x128_S32x8x3x2x3_S32x8x3x2x128x128_45_012_n_n_012_4_111128128.startIndexMap from (by decide : (4 : Fin 5) ∉ ([0, 1, 2] : List (Fin 5))))]
      unfold GatherDims.offCoord
      rw [dif_pos (show (⟨4, hk⟩ : Fin S5120x1x8x128x128.rank) ∈ gather_S5120x1x8x128x128_S32x8x3x2x3_S32x8x3x2x128x128_45_012_n_n_012_4_111128128.sKept from (GatherDims.mem_sKept _ _).mpr ⟨(by decide : (4 : Fin 5) ∉ ([0, 1, 2] : List (Fin 5))), List.not_mem_nil⟩)]
      simp only [Nat.zero_add]
      rfl

/-- The first word of the first lookup is the batch entry's number. -/
theorem v29_0 (x0 : IVec S32x3x8 32) (b : Fin 32) (h : Fin 8) (s : Fin 3) (e : Fin 2) :
    min (val_main_v29 (F := Ideal) x0 (ix5 b h s e 0)).toInt.toNat 31 = b.val := by
  pointwise [val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_c, val_main_c_0, val_main_c_1, val_main_c_2, val_main_c_3, val_main_c_4]
  exact word_b b

/-- The second word of the first lookup is the number of the page in the sequence: twice the block's and the half's. -/
theorem v29_1 (x0 : IVec S32x3x8 32) (b : Fin 32) (h : Fin 8) (s : Fin 3) (e : Fin 2)
    (hr : 0 ≤ (x0 (ix3 b s h)).toInt ∧ (x0 (ix3 b s h)).toInt < 64) :
    min (val_main_v29 (F := Ideal) x0 (ix5 b h s e 1)).toInt.toNat 127 = min (2 * (x0 (ix3 b s h)).toNat + e.val) 127 := by
  pointwise [val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_c, val_main_c_0, val_main_c_1, val_main_c_2, val_main_c_3, val_main_c_4]
  exact word_l _ hr e

/-- The first lookup: the page table at the batch entry and the page's number in the sequence. -/
theorem v30_apply (x0 : IVec S32x3x8 32) (x1 : IVec S32x128 32) (b : Fin 32) (h : Fin 8) (s : Fin 3) (e : Fin 2)
    (hr : 0 ≤ (x0 (ix3 b s h)).toInt ∧ (x0 (ix3 b s h)).toInt < 64) :
    val_main_v30 (F := Ideal) x0 x1 (ix4 b h s e)
      = x1 (ix2 b ⟨min (2 * (x0 (ix3 b s h)).toNat + e.val) 127, by omega⟩) := by
  unfold val_main_v30
  rw [phys_gather]
  congr 1
  exact congrArg₂ ix2 (Fin.ext (v29_0 x0 b h s e)) (Fin.ext (v29_1 x0 b h s e hr))

/-- The first word of the second lookup is the pool's page. -/
theorem v47_0 (x0 : IVec S32x3x8 32) (x1 : IVec S32x128 32) (b : Fin 32) (h : Fin 8) (s : Fin 3) (e : Fin 2)
    (hr : ∀ i, 0 ≤ (x0 i).toInt ∧ (x0 i).toInt < 64) (hp : ∀ i, 0 ≤ (x1 i).toInt ∧ (x1 i).toInt < 5120) :
    min (val_main_v47 (F := Ideal) x0 x1 (ix5 b h s e 0)).toInt.toNat 5119 = (page x0 x1 b h s e).val := by
  pointwise [val_main_v31, val_main_v32, val_main_v33, val_main_v34, val_main_v35, val_main_v36, val_main_v37, val_main_v38, val_main_v39, val_main_v40, val_main_v41, val_main_v42, val_main_v43, val_main_v44, val_main_v45, val_main_v46, val_main_v47, val_main_v6, val_main_v7, val_main_c_5, val_main_c_6, val_main_c_7, val_main_c_8, val_main_c_9]
  rw [v30_apply x0 x1 b h s e (hr _)]
  exact word_p _ (hp _)

/-- The last word of the second lookup is the head's number. -/
theorem v47_2 (x0 : IVec S32x3x8 32) (x1 : IVec S32x128 32) (b : Fin 32) (h : Fin 8) (s : Fin 3) (e : Fin 2) :
    min (val_main_v47 (F := Ideal) x0 x1 (ix5 b h s e 2)).toInt.toNat 7 = h.val := by
  pointwise [val_main_v31, val_main_v32, val_main_v33, val_main_v34, val_main_v35, val_main_v36, val_main_v37, val_main_v38, val_main_v39, val_main_v40, val_main_v41, val_main_v42, val_main_v43, val_main_v44, val_main_v45, val_main_v46, val_main_v47, val_main_v6, val_main_v7, val_main_c_5, val_main_c_6, val_main_c_7, val_main_c_8, val_main_c_9]
  exact word_h h

/-- The keys' pages looked up, row by row. -/
theorem v48_apply (x0 : IVec S32x3x8 32) (x1 : IVec S32x128 32) (x5 : FVec Ideal S5120x1x8x128x128 .f32)
    (b : Fin 32) (h : Fin 8) (s : Fin 3) (e : Fin 2) (j d : Fin 128)
    (hr : ∀ i, 0 ≤ (x0 i).toInt ∧ (x0 i).toInt < 64) (hp : ∀ i, 0 ≤ (x1 i).toInt ∧ (x1 i).toInt < 5120) :
    val_main_v48 (F := Ideal) x0 x1 x5 (ix6 b h s e j d) = x5 (ix5 (page x0 x1 b h s e) 0 h j d) := by
  unfold val_main_v48
  rw [pool_gather]
  congr 1
  rw [show (⟨min (val_main_v47 (F := Ideal) x0 x1 (ix5 b h s e 0)).toInt.toNat 5119, by omega⟩ : Fin 5120) = page x0 x1 b h s e
      from Fin.ext (v47_0 x0 x1 b h s e hr hp),
    show (⟨min (val_main_v47 (F := Ideal) x0 x1 (ix5 b h s e 2)).toInt.toNat 7, by omega⟩ : Fin 8) = h
      from Fin.ext (v47_2 x0 x1 b h s e)]

/-- A row of the keys before position 768 is a row of the page that holds it. -/
theorem v51_page (x0 : IVec S32x3x8 32) (x1 : IVec S32x128 32) (x3 : FVec Ideal S32x8x1x128 .f32)
    (x5 : FVec Ideal S5120x1x8x128x128 .f32) (b : Fin 32) (h : Fin 8) (k : Fin 768) (d : Fin 128)
    (hr : ∀ i, 0 ≤ (x0 i).toInt ∧ (x0 i).toInt < 64) (hp : ∀ i, 0 ≤ (x1 i).toInt ∧ (x1 i).toInt < 5120) :
    val_main_v51 (F := Ideal) x0 x1 x3 x5 (ix4 b h ⟨k.val, by omega⟩ d)
      = x5 (ix5 (page x0 x1 b h ⟨k.val / 256, by omega⟩ ⟨k.val / 128 % 2, by omega⟩) 0 h ⟨k.val % 128, by omega⟩ d) := by
  rw [← v48_apply x0 x1 x5 b h ⟨k.val / 256, by omega⟩ ⟨k.val / 128 % 2, by omega⟩ ⟨k.val % 128, by omega⟩ d hr hp]
  pointwise [val_main_v51, val_main_v49, val_main_v50]

/-- The row of the keys at position 768 is the new key. -/
theorem v51_own (x0 : IVec S32x3x8 32) (x1 : IVec S32x128 32) (x3 : FVec Ideal S32x8x1x128 .f32)
    (x5 : FVec Ideal S5120x1x8x128x128 .f32) (b : Fin 32) (h : Fin 8) (d : Fin 128) :
    val_main_v51 (F := Ideal) x0 x1 x3 x5 (ix4 b h ⟨768, by omega⟩ d) = x3 (ix4 b h 0 d) := by
  pointwise [val_main_v51, val_main_v50]

/-- The rows of the values are read as the keys' are. -/
theorem v72_eq (x0 : IVec S32x3x8 32) (x1 : IVec S32x128 32) (x4 : FVec Ideal S32x8x1x128 .f32)
    (x6 : FVec Ideal S5120x1x8x128x128 .f32) :
    val_main_v72 (F := Ideal) x0 x1 x4 x6 = val_main_v51 (F := Ideal) x0 x1 x4 x6 := rfl

/-- The number of the query's own block. -/
theorem own_block : Scalar.select (val_main_call2_v11 (F := Ideal) (ix1 0)) (val_main_call2_v13 (F := Ideal) (ix1 0))
    (val_main_call2_v2 (F := Ideal) (ix1 0)) = 64#32 := by
  decide +kernel

/-- The mask holds at the positions of the past blocks. -/
theorem v88_page (x0 : IVec S32x3x8 32) (b : Fin 32) (h : Fin 8) (k : Fin 768)
    (hr : ∀ i, 0 ≤ (x0 i).toInt ∧ (x0 i).toInt < 64) :
    val_main_v88 (F := Ideal) x0 (ix4 b h 0 ⟨k.val, by omega⟩) = 1#1 := by
  pointwise [val_main_v0, val_main_v1, val_main_v2, val_main_v3, val_main_v73, val_main_v74, val_main_v75, val_main_v76, val_main_v77, val_main_v78, val_main_v79, val_main_v80, val_main_v81, val_main_v82, val_main_v83, val_main_v84, val_main_v85, val_main_v86, val_main_v87, val_main_v88, val_main_c, val_main_c_18]
  rw [dif_pos (by omega)]
  exact word_past _ (hr _) ⟨k.val % 256, by omega⟩

/-- The mask at the positions of the query's own block. -/
theorem v88_own (x0 : IVec S32x3x8 32) (b : Fin 32) (h : Fin 8) (j : Fin 256) :
    val_main_v88 (F := Ideal) x0 (ix4 b h 0 ⟨768 + j.val, by omega⟩) = if j.val = 0 then 1#1 else 0#1 := by
  pointwise [val_main_v0, val_main_v1, val_main_v2, val_main_v3, val_main_v73, val_main_v74, val_main_v75, val_main_v76, val_main_v77, val_main_v78, val_main_v79, val_main_v80, val_main_v81, val_main_v82, val_main_v83, val_main_v84, val_main_v85, val_main_v86, val_main_v87, val_main_v88, val_main_c, val_main_c_18]
  rw [dif_neg (by omega), own_block]
  exact word_own j

/-- The masked scores: the query times the key's row, scaled, where the mask holds; minus infinity elsewhere. -/
theorem v92_apply (x0 : IVec S32x3x8 32) (x1 : IVec S32x128 32) (x2 x3 : FVec Ideal S32x8x1x128 .f32)
    (x5 : FVec Ideal S5120x1x8x128x128 .f32) (b : Fin 32) (h : Fin 8) (r : Fin 1024) :
    val_main_v92 (F := Ideal) x0 x1 x2 x3 x5 (ix4 b h 0 r)
      = Scalar.select (val_main_v88 (F := Ideal) x0 (ix4 b h 0 r))
          ((∑ d : Fin 128, x2 (ix4 b h 0 d) * val_main_v51 (F := Ideal) x0 x1 x3 x5 (ix4 b h r d))
            * Ideal.ofBits .f32 0x3DB504F3#32) ⊥ := by
  pointwise [val_main_v92, val_main_v91, val_main_v90, val_main_v89, val_main_cst, val_main_cst_19, val_main_call3_v0, val_main_call3_v1]
  exact congrArg (Scalar.select _ _) ofBits_bot

/-- The attention: the values' rows weighted by the softmax of the masked scores. -/
theorem v104_apply (x0 : IVec S32x3x8 32) (x1 : IVec S32x128 32) (x2 x3 x4 : FVec Ideal S32x8x1x128 .f32)
    (x5 x6 : FVec Ideal S5120x1x8x128x128 .f32) (b : Fin 32) (h : Fin 8) (d : Fin 128)
    (S : Fin 1024 → EReal) (hS : S = fun r => val_main_v92 (F := Ideal) x0 x1 x2 x3 x5 (ix4 b h 0 r)) :
    val_main_v104 (F := Ideal) x0 x1 x2 x3 x4 x5 x6 (ix4 b h 0 d)
      = ∑ r : Fin 1024, Ideal.div (Ideal.exp (S r - max (⊥ : EReal) (Finset.univ.fold max ⊥ S)))
          (∑ q, Ideal.exp (S q - max (⊥ : EReal) (Finset.univ.fold max ⊥ S)))
          * val_main_v51 (F := Ideal) x0 x1 x4 x6 (ix4 b h r d) := by
  rw [← v72_eq]
  pointwise [val_main_v104, val_main_v103, val_main_v102, val_main_v101, val_main_v100, val_main_v99, val_main_v98, val_main_v97, val_main_v96,
    val_main_v95, val_main_v94, val_main_v93, val_main_cst_20, val_main_cst_21, val_main_cst_22]
  rw [ofBits_bot, hS]

end Cert.ReferenceIdeal.Attend

end
-- ==== Proof.Attend.Value.lean ====
module

public import proofs.«01_k».proof.Defs
public import proofs.«01_k».proof.Proof.Gen.KernelIdeal.Frame
public import proofs.«01_k».proof.Proof.Gen.ReferenceIdeal.Read
public import proofs.«01_k».proof.Proof.Gen.Pre_tables_in_range
public import proofs.«01_k».proof.Proof.Gen.Pre_attend_inputs
public import proofs.«01_k».proof.Proof.Attend.Blocks
public import proofs.«01_k».proof.Proof.Attend.Payload
public import proofs.«01_k».proof.Proof.Attend.Reads
public import proofs.«01_k».proof.Proof.Attend.Tables
public import Idealize.ShloMosaic.Lib.Pipeline.ReadBack
public import Idealize.ShloMosaic.Lib.Pipeline.ValueKit
public import Idealize.ShloMosaic.Lib.Pipeline.Covers
public import Idealize.ShloMosaic.Lib.Pointwise
public import Idealize.ShloMosaic.Lib.Claim

/-! The attention of the sample group: each grid point takes one head of one batch entry, scores its query against the six
pages its table names and against the new key, and averages the values by the scores' softmax. The mathematics scores the
whole of the query's own block too, with every position but the new one masked. -/

@[expose] public section

set_option maxRecDepth 16384

noncomputable section

open Idealize.ShloMosaic Idealize.ShloMosaic.TcCoe Idealize.SL.Sem
open Idealize.ShloMosaic.Pipeline (Dat)

namespace Cert.KernelIdeal.Attend

open Cert.KernelIdeal Cert.KernelIdeal.Gen Cert.Attend

variable (m : (ℓ : Loc nD τ sig) → Buf (Elt Ideal) ℓ)

/-- The pages of keys at a grid point. -/
def kp (hO : Ok m) (c : Dev nD) (t : Fin (cfgM m hO).N) : Fin 6 → Vec Ideal S1x1x1x128x128 .f32 :=
  ![iblk m hO c 3 t, iblk m hO c 4 t, iblk m hO c 5 t, iblk m hO c 6 t, iblk m hO c 7 t, iblk m hO c 8 t]

/-- The pages of values at a grid point. -/
def vp (hO : Ok m) (c : Dev nD) (t : Fin (cfgM m hO).N) : Fin 6 → Vec Ideal S1x1x1x128x128 .f32 :=
  ![iblk m hO c 9 t, iblk m hO c 10 t, iblk m hO c 11 t, iblk m hO c 12 t, iblk m hO c 13 t, iblk m hO c 14 t]

/-- The query's, the new key's and the new value's blocks at a grid point. -/
def qb (hO : Ok m) (c : Dev nD) (t : Fin (cfgM m hO).N) : Vec Ideal S1x1x1x128 .f32 := iblk m hO c 0 t
@[inherit_doc qb] def kb (hO : Ok m) (c : Dev nD) (t : Fin (cfgM m hO).N) : Vec Ideal S1x1x1x128 .f32 := iblk m hO c 1 t
@[inherit_doc qb] def vb (hO : Ok m) (c : Dev nD) (t : Fin (cfgM m hO).N) : Vec Ideal S1x1x1x128 .f32 := iblk m hO c 2 t

/-- What the body's run leaves in the result's buffer, as a function of the blocks it reads. -/
theorem out0_eq  (c : Dev nD) (i : grid0.Coords) (arg3 : Memref sig .tc .vmem S1x1x1x128 .f32) (harg3 : arg3.IsWhole) (arg4 : Memref sig .tc .vmem S1x1x1x128 .f32) (harg4 : arg4.IsWhole) (arg5 : Memref sig .tc .vmem S1x1x1x128 .f32) (harg5 : arg5.IsWhole) (arg6 : Memref sig .tc .vmem S1x1x1x128x128 .f32) (harg6 : arg6.IsWhole) (arg7 : Memref sig .tc .vmem S1x1x1x128x128 .f32) (harg7 : arg7.IsWhole) (arg8 : Memref sig .tc .vmem S1x1x1x128x128 .f32) (harg8 : arg8.IsWhole) (arg9 : Memref sig .tc .vmem S1x1x1x128x128 .f32) (harg9 : arg9.IsWhole) (arg10 : Memref sig .tc .vmem S1x1x1x128x128 .f32) (harg10 : arg10.IsWhole) (arg11 : Memref sig .tc .vmem S1x1x1x128x128 .f32) (harg11 : arg11.IsWhole) (arg12 : Memref sig .tc .vmem S1x1x1x128x128 .f32) (harg12 : arg12.IsWhole) (arg13 : Memref sig .tc .vmem S1x1x1x128x128 .f32) (harg13 : arg13.IsWhole) (arg14 : Memref sig .tc .vmem S1x1x1x128x128 .f32) (harg14 : arg14.IsWhole) (arg15 : Memref sig .tc .vmem S1x1x1x128x128 .f32) (harg15 : arg15.IsWhole) (arg16 : Memref sig .tc .vmem S1x1x1x128x128 .f32) (harg16 : arg16.IsWhole) (arg17 : Memref sig .tc .vmem S1x1x1x128x128 .f32) (harg17 : arg17.IsWhole) (arg18 : Memref sig .tc .vmem S1x1x1x128 .f32) (harg18 : arg18.IsWhole)
    (x0 : Vec Ideal S1x1x1x128 .f32) (x1 : Vec Ideal S1x1x1x128 .f32) (x2 : Vec Ideal S1x1x1x128 .f32) (x3 : Vec Ideal S1x1x1x128x128 .f32) (x4 : Vec Ideal S1x1x1x128x128 .f32) (x5 : Vec Ideal S1x1x1x128x128 .f32) (x6 : Vec Ideal S1x1x1x128x128 .f32) (x7 : Vec Ideal S1x1x1x128x128 .f32) (x8 : Vec Ideal S1x1x1x128x128 .f32) (x9 : Vec Ideal S1x1x1x128x128 .f32) (x10 : Vec Ideal S1x1x1x128x128 .f32) (x11 : Vec Ideal S1x1x1x128x128 .f32) (x12 : Vec Ideal S1x1x1x128x128 .f32) (x13 : Vec Ideal S1x1x1x128x128 .f32) (x14 : Vec Ideal S1x1x1x128x128 .f32) (xt0 : TbBuf0 (F := Ideal) c tbM0_0) :
    out0_A_15 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 xt0
      = k0_pay1 (F := Ideal) (k0_pay3 x1) (k0_pay4 x2) (k0_pay10 x9 x10 x11 x12 x13 x14)
          (k0_pay11 (k0_pay2 x0) (k0_pay5 x3) (k0_pay6 x4) (k0_pay7 x5) (k0_pay8 x6) (k0_pay9 x7) x8) (k0_pay12 (k0_pay2 x0)) := by
  frame_out

set_option maxHeartbeats 4000000 in
/-- What the body leaves in the result's buffer at a grid point, as its operations over the blocks. -/
theorem outs_eq (hO : Ok m) (c : Dev nD) (t : Fin (cfgM m hO).N) : outsAt0 m hO c t
    = k0_pay1 (F := Ideal) (k0_pay3 (kb m hO c t)) (k0_pay4 (vb m hO c t))
    (k0_pay10 (vp m hO c t 0) (vp m hO c t 1) (vp m hO c t 2) (vp m hO c t 3) (vp m hO c t 4) (vp m hO c t 5))
    (k0_pay11 (k0_pay2 (qb m hO c t)) (k0_pay5 (kp m hO c t 0)) (k0_pay6 (kp m hO c t 1)) (k0_pay7 (kp m hO c t 2))
      (k0_pay8 (kp m hO c t 3)) (k0_pay9 (kp m hO c t 4)) (kp m hO c t 5)) (k0_pay12 (k0_pay2 (qb m hO c t))) :=
  out0_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (tbl m 0)

/-- What the body leaves in the result's block at a grid point, from the blocks it reads. -/
theorem out_at (hO : Ok m) (c : Dev nD) (t : Fin (cfgM m hO).N) (d : Fin 128) (s : Fin 768 → EReal) (s0 : EReal)
    (hs : s = fun k => (∑ d : Fin 128, qb m hO c t (ix4 0 0 0 d) * row (kp m hO c t) k d) * Ideal.ofBits .f32 0x3DB504F3#32)
    (hs0 : s0 = (∑ d : Fin 128, qb m hO c t (ix4 0 0 0 d) * kb m hO c t (ix4 0 0 0 d)) * Ideal.ofBits .f32 0x3DB504F3#32) :
    outsAt0 m hO c t (ix4 0 0 0 d)
      = Ideal.div
        (∑ k, Ideal.exp (s k - max (Finset.univ.fold max ⊥ s) s0) * row (vp m hO c t) k d
          + Ideal.exp (s0 - max (Finset.univ.fold max ⊥ s) s0) * vb m hO c t (ix4 0 0 0 d))
        (∑ k, Ideal.exp (s k - max (Finset.univ.fold max ⊥ s) s0) + Ideal.exp (s0 - max (Finset.univ.fold max ⊥ s) s0)) := by
  refine (congrFun (outs_eq m hO c t) (ix4 0 0 0 d)).trans ?_
  rw [pay1_apply _ _ _ _ _ d s s0]
  · pointwise [k0_pay4]
    simp only [pay10_apply]
  · rw [hs]
    funext k
    rw [pay11_apply]
  · rw [hs0]
    pointwise [k0_pay12, k0_pay2, k0_pay3]

/-- A row of the keys' pages is the page's row in the pool. -/
theorem row_kp (hO : Ok m) (hR : InRange m) (c : Dev nD) (t : Fin (cfgM m hO).N) (k : Fin 768) (d : Fin 128) :
    row (kp m hO c t) k d = m ((c : Thread nD τ).loc main_arg5)
      (ix5 (pg m (grid0.coords t 0) (grid0.coords t 1) ⟨k.val / 256, by omega⟩ ⟨k.val / 128 % 2, by omega⟩) 0 (grid0.coords t 1)
        ⟨k.val % 128, by omega⟩ d) := by
  have key : ∀ (n : ℕ) (hn : n < 6) (j : Fin 128), kp m hO c t ⟨n, hn⟩ (ix5 0 0 0 j d) = m ((c : Thread nD τ).loc main_arg5)
      (ix5 (pg m (grid0.coords t 0) (grid0.coords t 1) ⟨n / 2, by omega⟩ ⟨n % 2, by omega⟩) 0 (grid0.coords t 1) j d) := by
    intro n hn j
    interval_cases n
    · exact blk_3 m hO hR c t j d
    · exact blk_4 m hO hR c t j d
    · exact blk_5 m hO hR c t j d
    · exact blk_6 m hO hR c t j d
    · exact blk_7 m hO hR c t j d
    · exact blk_8 m hO hR c t j d
  rw [show (⟨k.val / 256, by omega⟩ : Fin 3) = ⟨k.val / 128 / 2, by omega⟩ from Fin.ext (by show k.val / 256 = k.val / 128 / 2; omega)]
  exact key (k.val / 128) (by omega) ⟨k.val % 128, by omega⟩

/-- A row of the values' pages is the page's row in the pool. -/
theorem row_vp (hO : Ok m) (hR : InRange m) (c : Dev nD) (t : Fin (cfgM m hO).N) (k : Fin 768) (d : Fin 128) :
    row (vp m hO c t) k d = m ((c : Thread nD τ).loc main_arg6)
      (ix5 (pg m (grid0.coords t 0) (grid0.coords t 1) ⟨k.val / 256, by omega⟩ ⟨k.val / 128 % 2, by omega⟩) 0 (grid0.coords t 1)
        ⟨k.val % 128, by omega⟩ d) := by
  have key : ∀ (n : ℕ) (hn : n < 6) (j : Fin 128), vp m hO c t ⟨n, hn⟩ (ix5 0 0 0 j d) = m ((c : Thread nD τ).loc main_arg6)
      (ix5 (pg m (grid0.coords t 0) (grid0.coords t 1) ⟨n / 2, by omega⟩ ⟨n % 2, by omega⟩) 0 (grid0.coords t 1) j d) := by
    intro n hn j
    interval_cases n
    · exact blk_9 m hO hR c t j d
    · exact blk_10 m hO hR c t j d
    · exact blk_11 m hO hR c t j d
    · exact blk_12 m hO hR c t j d
    · exact blk_13 m hO hR c t j d
    · exact blk_14 m hO hR c t j d
  rw [show (⟨k.val / 256, by omega⟩ : Fin 3) = ⟨k.val / 128 / 2, by omega⟩ from Fin.ext (by show k.val / 256 = k.val / 128 / 2; omega)]
  exact key (k.val / 128) (by omega) ⟨k.val % 128, by omega⟩

/-- The blocks of the result cover it: a grid point for every head of every batch entry. -/
theorem covers_15 (hO : Ok m) : ((cfgM m hO).win 15).Covers := by
  refine ((cfgM m hO).win 15).covers_of_indexMap_surj rfl
    (show ∀ a : Fin 4, 0 < S1x1x1x128.size a by decide) fun β => ?_
  have h0 : (β (0 : Fin 4)).val < 32 := lt_of_lt_of_eq (β (0 : Fin 4)).isLt (show (32 + 1 - 1) / 1 = 32 by norm_num)
  have h1 : (β (1 : Fin 4)).val < 8 := lt_of_lt_of_eq (β (1 : Fin 4)).isLt (show (8 + 1 - 1) / 1 = 8 by norm_num)
  have h2 : (β (2 : Fin 4)).val < 1 := lt_of_lt_of_eq (β (2 : Fin 4)).isLt (show (1 + 1 - 1) / 1 = 1 by norm_num)
  have h3 : (β (3 : Fin 4)).val < 1 := lt_of_lt_of_eq (β (3 : Fin 4)).isLt (show (128 + 128 - 1) / 128 = 1 by norm_num)
  refine ⟨fun a => match a with
    | ⟨0, _⟩ => ⟨(β (0 : Fin 4)).val, h0⟩
    | ⟨1, _⟩ => ⟨(β (1 : Fin 4)).val, h1⟩, fun a => ?_⟩
  have e0 : (BitVec.ofNat 32 (β (0 : Fin 4)).val).toNat = (β (0 : Fin 4)).val := by rw [BitVec.toNat_ofNat]; omega
  have e1 : (BitVec.ofNat 32 (β (1 : Fin 4)).val).toNat = (β (1 : Fin 4)).val := by rw [BitVec.toNat_ofNat]; omega
  match a with
  | ⟨0, _⟩ => exact e0
  | ⟨1, _⟩ => exact e1
  | ⟨2, _⟩ => exact (Nat.lt_one_iff.1 h2).symm
  | ⟨3, _⟩ => exact (Nat.lt_one_iff.1 h3).symm

/-- Where the result's block at a grid point lies in the result. -/
theorem place_15 (hO : Ok m) (t : Fin (cfgM m hO).N) (d : Fin 128) :
    (((cfgM m hO).win 15).blk t).view.emb (ix4 0 0 0 d) = ix4 (grid0.coords t 0) (grid0.coords t 1) 0 d := by
  have e : ((cfgM m hO).win 15).index t = ![(grid0.coords t 0).val, (grid0.coords t 1).val, 0, 0] := by
    show cc0_transform_15 (grid0.coords t) = _
    unfold cc0_transform_15
    have h0 : (grid0.coords t 0).val < 32 := (grid0.coords t 0).isLt
    have h1 : (grid0.coords t 1).val < 8 := (grid0.coords t 1).isLt
    have e0 : (BitVec.ofNat 32 (grid0.coords t 0).val).toNat = (grid0.coords t 0).val := by rw [BitVec.toNat_ofNat]; omega
    have e1 : (BitVec.ofNat 32 (grid0.coords t 1).val).toNat = (grid0.coords t 1).val := by rw [BitVec.toNat_ofNat]; omega
    exact congrArg₂ (fun y z => ![y, z, 0, 0]) e0 e1
  blk_ext [e]

/-- The scores' operands are finite: the queries, the new keys and the pool of keys. -/
abbrev Finite3 (x2 x3 : FVec Ideal S32x8x1x128 .f32) (x5 : FVec Ideal S5120x1x8x128x128 .f32) : Prop :=
  (∀ i, x2 i ≠ (⊥ : EReal) ∧ x2 i ≠ (⊤ : EReal)) ∧ (∀ i, x3 i ≠ (⊥ : EReal) ∧ x3 i ≠ (⊤ : EReal))
    ∧ (∀ i, x5 i ≠ (⊥ : EReal) ∧ x5 i ≠ (⊤ : EReal))

/-- One head's attention over the rows its table names and its own, as the mathematics has it: `q`, `kn`, `vn` are the head's
query, new key and new value, `K` and `V` the 768 rows the table names. -/
theorem head_eq (x0 : IVec S32x3x8 32) (x1 : IVec S32x128 32) (x2 x3 x4 : FVec Ideal S32x8x1x128 .f32)
    (x5 x6 : FVec Ideal S5120x1x8x128x128 .f32) (b : Fin 32) (h : Fin 8) (d : Fin 128)
    (hr : ∀ i, 0 ≤ (x0 i).toInt ∧ (x0 i).toInt < 64) (hp : ∀ i, 0 ≤ (x1 i).toInt ∧ (x1 i).toInt < 5120)
    (hF : Finite3 x2 x3 x5) (q kn vn : Fin 128 → EReal) (K V : Fin 768 → Fin 128 → EReal)
    (hq : ∀ d, q d = x2 (ix4 b h 0 d)) (hkn : ∀ d, kn d = x3 (ix4 b h 0 d)) (hvn : ∀ d, vn d = x4 (ix4 b h 0 d))
    (hK : ∀ k d, K k d = x5 (ix5 (page x0 x1 b h ⟨k.val / 256, by omega⟩ ⟨k.val / 128 % 2, by omega⟩) 0 h ⟨k.val % 128, by omega⟩ d))
    (hV : ∀ k d, V k d = x6 (ix5 (page x0 x1 b h ⟨k.val / 256, by omega⟩ ⟨k.val / 128 % 2, by omega⟩) 0 h ⟨k.val % 128, by omega⟩ d))
    (s : Fin 768 → EReal) (s0 : EReal)
    (hs : s = fun k => (∑ d : Fin 128, q d * K k d) * Ideal.ofBits .f32 0x3DB504F3#32)
    (hs0 : s0 = (∑ d : Fin 128, q d * kn d) * Ideal.ofBits .f32 0x3DB504F3#32) :
    Ideal.div
        (∑ k, Ideal.exp (s k - max (Finset.univ.fold max ⊥ s) s0) * V k d
          + Ideal.exp (s0 - max (Finset.univ.fold max ⊥ s) s0) * vn d)
        (∑ k, Ideal.exp (s k - max (Finset.univ.fold max ⊥ s) s0) + Ideal.exp (s0 - max (Finset.univ.fold max ⊥ s) s0))
      = Cert.ReferenceIdeal.Read.val_main_v104 (F := Ideal) x0 x1 x2 x3 x4 x5 x6 (ix4 b h 0 d) := by
  have fq : ∀ d : Fin 128, q d ≠ (⊥ : EReal) ∧ q d ≠ (⊤ : EReal) := fun d => by rw [hq d]; exact hF.1 _
  have fk : ∀ d : Fin 128, kn d ≠ (⊥ : EReal) ∧ kn d ≠ (⊤ : EReal) := fun d => by rw [hkn d]; exact hF.2.1 _
  have fp : ∀ (k : Fin 768) (d : Fin 128), K k d ≠ (⊥ : EReal) ∧ K k d ≠ (⊤ : EReal) := fun k d => by rw [hK k d]; exact hF.2.2 _
  rw [Cert.ReferenceIdeal.Attend.v104_apply x0 x1 x2 x3 x4 x5 x6 b h d _ rfl]
  refine softmax_eq s (fun k => V k d) s0 (vn d) _ _ (fun k => ?_) ?_ ?_ ?_ ?_ ?_ ?_
  · rw [hs]
    exact score_fin q (K k) _ scale_fin fq (fp k)
  · rw [hs0]
    exact score_fin q kn _ scale_fin fq fk
  · intro k
    show Cert.ReferenceIdeal.Read.val_main_v92 (F := Ideal) x0 x1 x2 x3 x5 (ix4 b h 0 ⟨k.val, by omega⟩) = s k
    rw [Cert.ReferenceIdeal.Attend.v92_apply, Cert.ReferenceIdeal.Attend.v88_page x0 b h k hr, hs]
    refine congrArg (· * _) (Finset.sum_congr rfl fun x _ => ?_)
    rw [Cert.ReferenceIdeal.Attend.v51_page x0 x1 x3 x5 b h k x hr hp, hq, hK]
  · have e := Cert.ReferenceIdeal.Attend.v88_own x0 b h 0
    show Cert.ReferenceIdeal.Read.val_main_v92 (F := Ideal) x0 x1 x2 x3 x5 (ix4 b h 0 ⟨768, by omega⟩) = s0
    rw [Cert.ReferenceIdeal.Attend.v92_apply, hs0]
    refine (congrArg (fun z => Scalar.select z _ _) e).trans ?_
    refine congrArg (· * _) (Finset.sum_congr rfl fun x _ => ?_)
    rw [Cert.ReferenceIdeal.Attend.v51_own, hq, hkn]
  · intro r hr'
    have e := Cert.ReferenceIdeal.Attend.v88_own x0 b h ⟨r.val - 768, by omega⟩
    rw [if_neg (by show ¬ (r.val - 768 = 0); omega)] at e
    rw [show r = ⟨768 + (r.val - 768), by omega⟩ from Fin.ext (by show r.val = 768 + (r.val - 768); omega)]
    show Cert.ReferenceIdeal.Read.val_main_v92 (F := Ideal) x0 x1 x2 x3 x5 (ix4 b h 0 ⟨768 + (r.val - 768), by omega⟩) = ⊥
    rw [Cert.ReferenceIdeal.Attend.v92_apply]
    exact congrArg (fun z => Scalar.select z _ _) e
  · intro k
    exact (Cert.ReferenceIdeal.Attend.v51_page x0 x1 x4 x6 b h k d hr hp).trans (hV k d).symm
  · exact (Cert.ReferenceIdeal.Attend.v51_own x0 x1 x4 x6 b h d).trans (hvn d).symm

/-- An index of a block of one row. -/
theorem one_row (y : S1x1x1x128.Idx) : ∃ d : Fin 128, y = ix4 0 0 0 d := ⟨y 3, by
  funext a
  match a with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl⟩

/-- The result array after the run is the mathematics' attention. -/
theorem array_eq (hO : Ok m) (hR : InRange m) (c : Dev nD)
    (hF : Finite3 (m ((c : Thread nD τ).loc main_arg2)) (m ((c : Thread nD τ).loc main_arg3)) (m ((c : Thread nD τ).loc main_arg5))) : (dats m hO 0 c).arrAt 15 (cfgM m hO).N
    = Cert.ReferenceIdeal.Read.val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m hO 0 c).arrAt_eq_of_covers 15 _ (covers_15 m hO) fun t hf y => ?_
  blk_simp
  rw [after0_15]
  obtain ⟨d, e⟩ := one_row y
  subst e
  have place := place_15 m hO t d
  rw [place]
  have hc : c = 0 := Subsingleton.elim (α := Fin 1) _ _
  subst hc
  refine (out_at m hO 0 t d _ _ rfl rfl).trans ?_
  exact head_eq _ _ _ _ _ _ _ (grid0.coords t 0) (grid0.coords t 1) d hR.1 hR.2 hF (fun d => qb m hO 0 t (ix4 0 0 0 d))
    (fun d => kb m hO 0 t (ix4 0 0 0 d)) (fun d => vb m hO 0 t (ix4 0 0 0 d)) (row (kp m hO 0 t)) (row (vp m hO 0 t))
    (fun d => blk_0 m hO 0 t d) (fun d => blk_1 m hO 0 t d) (fun d => blk_2 m hO 0 t d)
    (fun k d => row_kp m hO hR 0 t k d) (fun k d => row_vp m hO hR 0 t k d) _ _ rfl rfl

/-- The conjunction of two bits is set when both are. -/
theorem bits_and : ∀ a b : Bool, IntOp.andi (BitVec.ofBool a) (BitVec.ofBool b) = 1#1 → a = true ∧ b = true := by decide

/-- The predicate's first bit: the word is at least 0 and below the bound. -/
theorem word_range (w n : BitVec 32) (N : ℤ) (hn : n.toInt = N)
    (e : IntOp.andi (IntOp.cmpi .sge w 0#32) (IntOp.cmpi .slt w n) = 1#1) : 0 ≤ w.toInt ∧ w.toInt < N := by
  obtain ⟨h1, h2⟩ := bits_and _ _ e
  subst hn
  simp only [BitVec.sle, BitVec.slt, decide_eq_true_eq] at h1 h2
  exact ⟨h1, h2⟩

/-- The tables are in range where the first precondition holds. -/
theorem range_of_pre (h : Cert.Pre_KernelIdeal m) : InRange m := by
  obtain ⟨e1, e2⟩ := h 0
  refine ⟨fun i => ?_, fun i => ?_⟩
  · exact word_range _ 64#32 64 rfl (congrFun e1 i)
  · exact word_range _ 5120#32 5120 rfl (congrFun e2 i)

/-- The tables are in range where the second precondition holds. -/
theorem range_of_pre_inputs (h : Cert.Pre_KernelIdeal_attend_inputs m) : InRange m := by
  obtain ⟨e1, e2, -⟩ := h 0
  refine ⟨fun i => ?_, fun i => ?_⟩
  · exact word_range _ 64#32 64 rfl (congrFun e1 i)
  · exact word_range _ 5120#32 5120 rfl (congrFun e2 i)

/-- A number above minus infinity and below plus infinity is neither. -/
theorem finite_of_bits (x : EReal)
    (e : IntOp.andi (Ideal.cmp .ogt x (Ideal.ofBits .f32 0xFF800000#32)) (Ideal.cmp .olt x (Ideal.ofBits .f32 0x7F800000#32)) = 1#1) :
    x ≠ ⊥ ∧ x ≠ ⊤ := by
  rw [ofBits_bot, ofBits_top] at e
  obtain ⟨h1, h2⟩ := bits_and _ _ e
  exact ⟨(of_decide_eq_true h1).ne', (of_decide_eq_true h2).ne⟩

/-- The scores' operands are finite where the second precondition holds. -/
theorem finite_of_pre (h : Cert.Pre_KernelIdeal_attend_inputs m) :
    Finite3 (m (((0 : Dev nD) : Thread nD τ).loc main_arg2)) (m (((0 : Dev nD) : Thread nD τ).loc main_arg3))
      (m (((0 : Dev nD) : Thread nD τ).loc main_arg5)) := by
  obtain ⟨-, -, e3, e4, e5⟩ := h 0
  exact ⟨fun i => finite_of_bits _ (congrFun e3 i), fun i => finite_of_bits _ (congrFun e4 i), fun i => finite_of_bits _ (congrFun e5 i)⟩

/-- The words the index maps read name pages of the pool where the first precondition holds. -/
theorem ok_of_pre (h : Cert.Pre_KernelIdeal m) : Ok m := ok_of_range m (range_of_pre m h).2

/-- The words the index maps read name pages of the pool where the second precondition holds. -/
theorem ok_of_pre_inputs (h : Cert.Pre_KernelIdeal_attend_inputs m) : Ok m := ok_of_range m (range_of_pre_inputs m h).2

end Cert.KernelIdeal.Attend

namespace Cert.Proof

set_option maxHeartbeats 4000000 in
/-- The kernel's attention and the mathematics' are equal, where the tables are in range and the scores' operands finite. -/
theorem attend_values : Cert.algebraic_KernelIdeal_ReferenceIdeal_pre_attend_inputs := by
  intro m g m' g' hpre hagree
  have hO := Cert.KernelIdeal.Attend.ok_of_pre_inputs m hpre
  have hR := Cert.KernelIdeal.Attend.range_of_pre_inputs m hpre
  refine ⟨fun c => (Cert.KernelIdeal.Gen.dats m hO 0 c).arrAt 15 (Cert.KernelIdeal.Gen.cfgM m hO).N, ?_, ?_⟩
  · exact (θ_run Cert.KernelIdeal.defs _ _).mono (fun r h c => ⟨(h.2 c).1 15, h.1 c⟩)
      (θ_run_and (Cert.KernelIdeal.Gen.unchanged m g hO) (Cert.KernelIdeal.Gen.run_main m g hO))
  · refine (θ_run Cert.ReferenceIdeal.defs _ _).mono (fun r h c => ?_) (Cert.ReferenceIdeal.Value.run m' g')
    refine ⟨(h c).1.trans ?_, (h c).2⟩
    rw [Cert.ReferenceIdeal.Read.val_main_v104_eq, (hagree c).1, (hagree c).2.1, (hagree c).2.2.1, (hagree c).2.2.2.1,
      (hagree c).2.2.2.2.1, (hagree c).2.2.2.2.2.1, (hagree c).2.2.2.2.2.2]
    have hc : c = 0 := Subsingleton.elim (α := Fin 1) _ _
    subst hc
    exact (Cert.KernelIdeal.Attend.array_eq m hO hR 0 (Cert.KernelIdeal.Attend.finite_of_pre m hpre)).symm

end Cert.Proof

end
-- ==== Proof.Up.Value.lean ====
module

public import proofs.«01_k».proof.Defs
public import proofs.«01_k».proof.Proof.Gen.KUpIdeal.Frame
public import proofs.«01_k».proof.Proof.Gen.RUpIdeal.Run
public import Idealize.ShloMosaic.Lib.Pipeline.ValueKit
public import Idealize.ShloMosaic.Lib.Pointwise
public import Idealize.ShloMosaic.Lib.Claim

/-! The first half of the feed-forward part: each grid point multiplies a block of rows by a block of columns, applies
the squared rectifier and writes one block of the result; the whole array is the mathematics' squared rectifier of one
product. -/

@[expose] public section

set_option maxRecDepth 16384

noncomputable section

open Idealize.ShloMosaic Idealize.ShloMosaic.TcCoe Idealize.SL.Sem
open Idealize.ShloMosaic.Pipeline (Dat)

namespace Cert.KUpIdeal.Up

open Cert.KUpIdeal Cert.KUpIdeal.Gen

variable (m : (ℓ : Loc nD τ sig) → Buf (Elt Ideal) ℓ)

/-- The mathematics' result as a function of the two arguments. -/
def hidden (x : FVec Ideal S16384x2048 .bf16) (w : FVec Ideal S1x2048x8192 .f32) : FVec Ideal S16384x8192 .bf16 :=
  truncf .bf16 (mulf (maximumf (Host.dotGeneral Cert.RUpIdeal.dot_S16384x2048_S2048x8192_S16384x8192_1_0_0_1_n_n none (extf .f32 x Cert.RUpIdeal.Gen.bitsLt_bf16_f32) (shapeCast _ w Cert.RUpIdeal.Gen.shapeCasts_S1x2048x8192_S2048x8192)) (broadcastInDim Cert.RUpIdeal.S16384x8192 ![] Cert.RUpIdeal.Gen.bcast_S_S16384x8192 (constant Cert.RUpIdeal.S_ .f32 0x00000000#32))) (maximumf (Host.dotGeneral Cert.RUpIdeal.dot_S16384x2048_S2048x8192_S16384x8192_1_0_0_1_n_n none (extf .f32 x Cert.RUpIdeal.Gen.bitsLt_bf16_f32) (shapeCast _ w Cert.RUpIdeal.Gen.shapeCasts_S1x2048x8192_S2048x8192)) (broadcastInDim Cert.RUpIdeal.S16384x8192 ![] Cert.RUpIdeal.Gen.bcast_S_S16384x8192 (constant Cert.RUpIdeal.S_ .f32 0x00000000#32)))) Cert.RUpIdeal.Gen.bitsLt_bf16_f32

/-- The block each window is on at a grid point: rows by the quotient by 8, columns by the remainder. -/
theorem blocks_at : ∀ t : Fin cfg0.N, win0_0.index t = ![t.val / 8, 0] ∧ win0_1.index t = ![0, t.val % 8]
    ∧ win0_2.index t = ![t.val / 8, t.val % 8] :=
  (by decide +kernel : ∀ t : Fin grid0.N, _)

/-- What a grid point stores at a place of its block is the mathematics' result at that place of the array. -/
theorem stored_eq (c : Dev nD) (t : Fin cfg0.N) (y) :
    k0_pay1 (iblk m c 0 t) (iblk m c 1 t) y
      = hidden (m ((c : Thread nD τ).loc main_arg0)) (m ((c : Thread nD τ).loc main_arg1))
          (((cfg0.win 2).blk t).view.emb y) := by
  pointwise [k0_pay1, hidden]
  blk_point [iblk, V, blocks_at t]

/-- The result array after the run is the mathematics' result. -/
theorem array_eq (c : Dev nD) : (dats m 0 c).arrAt 2 (cfgs 0).N
    = hidden (m ((c : Thread nD τ).loc main_arg0)) (m ((c : Thread nD τ).loc main_arg1)) := by
  refine (dats m 0 c).arrAt_eq_of_covers 2 _ (by decide +kernel) fun t _ y => ?_
  blk_simp
  rw [after0_2]; frame_out
  exact stored_eq m c t y

end Cert.KUpIdeal.Up

namespace Cert.Proof

/-- The kernel's squared rectified product and the mathematics' are equal. -/
theorem up_values : Cert.algebraic_KUpIdeal_RUpIdeal := by
  pair_intro
  · run_from Cert.KUpIdeal.Gen.run_main m g
  · run_from Cert.RUpIdeal.Value.run m' g'
    exact (Cert.KUpIdeal.Up.array_eq m c).symm

end Cert.Proof

end
-- ==== Proof.Down.Value.lean ====
module

public import proofs.«01_k».proof.Defs
public import proofs.«01_k».proof.Proof.Gen.KDownIdeal.Frame
public import proofs.«01_k».proof.Proof.Gen.RDownIdeal.Read
public import Idealize.ShloMosaic.Lib.Pipeline.ValueKit
public import Idealize.ShloMosaic.Lib.Pipeline.ReadBack
public import Idealize.ShloMosaic.Lib.Pointwise
public import Idealize.ShloMosaic.Lib.Claim

/-! The second half of the feed-forward part: four grid points add four partial products into a scratch block, the fourth
normalises the sum and adds it to the input rows. The four parts together are one product over all 8192 columns. -/

@[expose] public section

set_option maxRecDepth 16384

noncomputable section

open Idealize.ShloMosaic Idealize.ShloMosaic.TcCoe Idealize.SL.Sem
open Idealize.ShloMosaic.Pipeline (Dat)

namespace Cert.KDownIdeal.Down

open Cert.KDownIdeal Cert.KDownIdeal.Gen

variable (m : (ℓ : Loc nD τ sig) → Buf (Elt Ideal) ℓ)

/-- The block each window is on at a grid point: rows by the quotient by 4, the contracted axis by the remainder. -/
theorem blocks_at : ∀ t : Fin cfg0.N, win0_0.index t = ![t.val / 4, t.val % 4] ∧ win0_1.index t = ![t.val % 4, 0]
    ∧ win0_2.index t = ![t.val / 4, 0] ∧ win0_3.index t = ![0, 0] ∧ win0_4.index t = ![t.val / 4, 0]
    ∧ t.val / 4 < 32 :=
  (by decide +kernel : ∀ t : Fin grid0.N, _)

/-- The scratch block starts at zero. -/
theorem zero_at (j) : k0_pay1 (F := Ideal) j = 0 := by pointwise [k0_pay1]

/-- A grid point adds its part of the product to the scratch block. -/
theorem step_at (acc : FVec Ideal S512x2048 .f32) (h : FVec Ideal S512x2048 .bf16) (w : FVec Ideal S2048x2048 .bf16) (j) :
    k0_pay2 acc h w j = acc j + ∑ k : Fin 2048, h (ix2 (j 0) k) * w (ix2 k (j 1)) := by pointwise [k0_pay2]

/-- What the scratch block holds after the last of a run of four points, at a row and a column of the block, is the
whole product at that place of the array. -/
theorem acc_sum (c : Dev nD) (t : Fin cfg0.N) (hf : t.val % 4 = 3) (r : Fin 512) (n : Fin 2048) (R : Fin 16384)
    (hR : R.val = t.val / 4 * 512 + r.val) :
    (show FVec Ideal S512x2048 .f32 from (outsAt0 m c t.val t.isLt).2) (ix2 r n)
      = Cert.RDownIdeal.Read.val_main_v2 (F := Ideal) (m ((c : Thread nD τ).loc main_arg0)) (m ((c : Thread nD τ).loc main_arg1)) (ix2 R n) := by
  show (outsAt0 m c t.val t.isLt).2 (ix2 r n) = _
  rw [Pipeline.eq_sum_fin_of_reset_step_apply_of_flush (fun n h => (outsAt0 m c n h).2) 4 (fun _ => 0) _
    (fun t h j => by rw [outsAt0_A m c t h (by omega)]; frame_out; rw [step_at, zero_at])
    (fun t h j => by
      by_cases h3 : t.val % 4 = 3
      · rw [outsAt0_C m c t h h3]; frame_out; simp only [read_unread_whole]; rw [step_at]
      · rw [outsAt0_B m c t h h3]; frame_out; simp only [read_unread_whole]; rw [step_at]) t hf _, zero_add]
  pointwise [Cert.RDownIdeal.Read.val_main_v0, Cert.RDownIdeal.Read.val_main_v1, Cert.RDownIdeal.Read.val_main_v2]
  refine Fin.sum_mul_add_congr fun s k hl => ?_
  blk_point [iblk, V, blocks_at t, blocks_at ⟨_, Pipeline.run_point_lt_of_flush t hf s⟩, hR]

/-- The result array after the run is the mathematics' result. -/
theorem array_eq (c : Dev nD) : (dats m 0 c).arrAt 4 (cfgs 0).N
    = Cert.RDownIdeal.Read.val_main_v17 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have h3 : t.val % 4 = 3 := (flush0_4 t).mp hf
  blk_simp
  rw [after0_4]
  have key := fun r n R hR => acc_sum m c t h3 r n R hR
  rw [outsAt0_C m c t (by omega) h3] at key ⊢
  frame_out
  simp only [read_unread_whole]
  have key' : ∀ (r : Fin 512) (n : Fin 2048) (R : Fin 16384), R.val = t.val / 4 * 512 + r.val →
      k0_pay2 (outsAt0 m c (t.val - 1) (Nat.lt_of_le_of_lt (Nat.sub_le _ _) t.isLt)).2 (iblk m c 0 t) (iblk m c 1 t) (ix2 r n)
        = Cert.RDownIdeal.Read.val_main_v2 (F := Ideal) (m ((c : Thread nD τ).loc main_arg0)) (m ((c : Thread nD τ).loc main_arg1)) (ix2 R n) := by
    intro r n R hR
    rw [← key r n R hR]
    frame_out
    simp only [read_unread_whole]
  clear key
  simp only [Cert.RDownIdeal.Read.val_main_v3, Cert.RDownIdeal.Read.val_main_v4, Cert.RDownIdeal.Read.val_main_v5, Cert.RDownIdeal.Read.val_main_v6, Cert.RDownIdeal.Read.val_main_v7, Cert.RDownIdeal.Read.val_main_v8, Cert.RDownIdeal.Read.val_main_v9, Cert.RDownIdeal.Read.val_main_v10, Cert.RDownIdeal.Read.val_main_v11, Cert.RDownIdeal.Read.val_main_v12, Cert.RDownIdeal.Read.val_main_v13, Cert.RDownIdeal.Read.val_main_v14, Cert.RDownIdeal.Read.val_main_v15, Cert.RDownIdeal.Read.val_main_v16, Cert.RDownIdeal.Read.val_main_v17,
    Cert.RDownIdeal.Read.val_main_cst, Cert.RDownIdeal.Read.val_main_cst_0, Cert.RDownIdeal.Read.val_main_cst_1]
  generalize k0_pay2 (outsAt0 m c (t.val - 1) _).2 (iblk m c 0 t) (iblk m c 1 t) = A at key' ⊢
  generalize Cert.RDownIdeal.Read.val_main_v2 (F := Ideal) _ _ = Z at key' ⊢
  have row : ∀ x, A (ix2 (y 0) x) = Z (ix2 ((((cfg0.win 4).blk t).view.emb y) 0) x) :=
    fun x => key' _ _ _ (by blk_simp [blocks_at t])
  have place : (((cfg0.win 4).blk t).view.emb y) = ix2 ((((cfg0.win 4).blk t).view.emb y) 0) (y 1) := by
    blk_ext [blocks_at t]
  have self : A y = Z (((cfg0.win 4).blk t).view.emb y) := by
    rw [place]; exact (congrArg A (eq_ix2 y)).trans (row (y 1))
  pointwise [k0_pay3]
  simp only [row, self]
  blk_point [iblk, V, blocks_at t]

end Cert.KDownIdeal.Down

namespace Cert.Proof

/-- The kernel's result of the feed-forward part and the mathematics' are equal. -/
theorem down_values : Cert.algebraic_KDownIdeal_RDownIdeal := by
  pair_intro
  · run_from Cert.KDownIdeal.Gen.run_main m g
  · run_from Cert.RDownIdeal.Value.run m' g'
    exact (Cert.KDownIdeal.Down.array_eq m c).symm

end Cert.Proof

end
-- ==== Proof.ProjBits.Frame.lean ====
module

public import proofs.«01_k».proof.Proof.ProjBits.RunB
public import proofs.«01_k».proof.Proof.ProjBits.RunC
public import Idealize.ShloMosaic.Lib.Pipeline.DatRel
public import Idealize.ShloMosaic.Lib.Pipeline.ArrRel

/-! The frame of the projection's call as it is printed, at any number format: what its output buffers hold is not stated. -/

@[expose] public section

set_option maxRecDepth 16384

noncomputable section

namespace Cert.KProj.Proj

open Cert.KProj Cert.KProj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid has 96 points. -/
theorem lt96 (t : Fin cfg0.N) : t.val < 96 := lt_of_lt_of_eq t.isLt (show cfg0.N = 96 from N_0)

/-- The body's first test holds at the points divisible by three. -/
theorem first_iff (t : Fin cfg0.N) : first (grid0.coords t) ↔ t.val % 3 = 0 := by
  have ht := lt96 t
  have e1 : (grid0.coords t 1).val = t.val / 1 % 3 := Pipeline.Grid.coords_val t 1 (by decide) rfl
  simp only [first, e1]
  word_cmp

/-- Its second test holds at the same points. -/
theorem second_iff (t : Fin cfg0.N) : k0_cond2 (grid0.coords t) = 1#1 ↔ t.val % 3 = 0 := by
  have ht := lt96 t
  have e1 : (grid0.coords t 1).val = t.val / 1 % 3 := Pipeline.Grid.coords_val t 1 (by decide) rfl
  simp only [k0_cond2, e1]
  word_cmp

/-- Its third test holds at the points that leave one on division by three. -/
theorem third_iff (t : Fin cfg0.N) : k0_cond3 (grid0.coords t) = 1#1 ↔ t.val % 3 = 1 := by
  have ht := lt96 t
  have e1 : (grid0.coords t 1).val = t.val / 1 % 3 := Pipeline.Grid.coords_val t 1 (by decide) rfl
  simp only [k0_cond3, e1]
  word_cmp

/-- Its fourth test holds at the points that leave two on division by three. -/
theorem fourth_iff (t : Fin cfg0.N) : k0_cond4 (grid0.coords t) = 1#1 ↔ t.val % 3 = 2 := by
  have ht := lt96 t
  have e1 : (grid0.coords t 1).val = t.val / 1 % 3 := Pipeline.Grid.coords_val t 1 (by decide) rfl
  simp only [k0_cond4, e1]
  word_cmp

/-- The windows of which nothing is stated: the outputs. -/
def outs : Fin cfg0.W → Bool := fun w => 3 ≤ w.val

/-- Nothing is known of what an output's buffer holds. -/
def nothing : (w : Fin cfg0.W) → Fin cfg0.N → ((cfg0.win w).block.Idx → Elt F (cfg0.win w).elt) → Prop := fun _ _ _ => True

/-- The carried scratch as a whole buffer. -/
abbrev scratch : Memref sig .tc .vmem S512x2048 .bf16 := Memref.whole cc0_scratch0

/-- The proof data: the arrays as the call finds them, the inputs' blocks left in place, the scratch at anything. -/
def base (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Dat.unnamed (cfg := cfg0) ⟨3, h⟩ t
    | ⟨4, h⟩ => Dat.unnamed (cfg := cfg0) ⟨4, h⟩ t
    | ⟨5, h⟩ => Dat.unnamed (cfg := cfg0) ⟨5, h⟩ t
    | ⟨6, h⟩ => Dat.unnamed (cfg := cfg0) ⟨6, h⟩ t
    | ⟨7, h⟩ => Dat.unnamed (cfg := cfg0) ⟨7, h⟩ t
  Φ _ := Pipeline.ΦA spec0 c
  q _ := fullShare
  owed _ := 0

/-- The data's arrays are the arrays as the call finds them. -/
theorem base_A (c : Dev nD) (w : Fin cfg0.W) : (base m c).A w = V m c (Pipeline.arrRef spec0 w) := by dsimp only [base]
/-- The body finds the rows' block in its window. -/
theorem before_x (c : Dev nD) (t : Fin cfg0.N) (d) : (base m c).before 0 t d = iblk m c 0 t :=
  before0_0_of m (base m c) (base_A m c 0) (fun t => by dsimp only [base]) t d
/-- The body finds the gain's block in its window. -/
theorem before_g (c : Dev nD) (t : Fin cfg0.N) (d) : (base m c).before 1 t d = iblk m c 1 t :=
  before0_1_of m (base m c) (base_A m c 1) (fun t => by dsimp only [base]) t d
/-- The body finds the weights' block in its window. -/
theorem before_w (c : Dev nD) (t : Fin cfg0.N) (d) : (base m c).before 2 t d = iblk m c 2 t :=
  before0_2_of m (base m c) (base_A m c 2) (fun t => by dsimp only [base]) t d

/-- The data with nothing known of the outputs. -/
abbrev data (c : Dev nD) : RDat τ (Elt F) Unit ℕ (UR sig nD τ) ℕ cfg0 c := (base m c).toRRel outs nothing

/-- What the call owns beside its windows: the scratch, holding anything, and the generator's register. -/
theorem scratch_any (c : Dev nD) :
    (Pipeline.ΦA spec0 c : sProp 𝕄) = iprop(iprop((∃ d, owns (c : Thread nD τ) scratch fullShare d)) ∗ (∃ r, prngReg c r)) := by
  unfold Pipeline.ΦA; rw [scopedRest0_eq]; simp only [scratch, owns_whole]; try rfl

/-! ## The body at a point -/

/-- What the body is called with at point `t`. -/
def bodyPre (c : Dev nD) (t : Fin cfg0.N) : sProp 𝕄 :=
  iprop(Pipeline.ΦA spec0 c ∗ (base m c).owesAt () t.castSucc ∗ (∃ d, owns (c : Thread nD τ) (win0_0.stage (cfg0.slots t 0)) fullShare ((base m c).before 0 t d)) ∗ (∃ d, owns (c : Thread nD τ) (win0_1.stage (cfg0.slots t 1)) fullShare ((base m c).before 1 t d)) ∗ (∃ d, owns (c : Thread nD τ) (win0_2.stage (cfg0.slots t 2)) fullShare ((base m c).before 2 t d)) ∗ (∃ Y, ⌜(data m c).Finds 3 t Y⌝ ∗ owns (c : Thread nD τ) (win0_3.stage (cfg0.slots t 3)) fullShare Y) ∗ (∃ Y, ⌜(data m c).Finds 4 t Y⌝ ∗ owns (c : Thread nD τ) (win0_4.stage (cfg0.slots t 4)) fullShare Y) ∗ (∃ Y, ⌜(data m c).Finds 5 t Y⌝ ∗ owns (c : Thread nD τ) (win0_5.stage (cfg0.slots t 5)) fullShare Y) ∗ (∃ Y, ⌜(data m c).Finds 6 t Y⌝ ∗ owns (c : Thread nD τ) (win0_6.stage (cfg0.slots t 6)) fullShare Y) ∗ (∃ Y, ⌜(data m c).Finds 7 t Y⌝ ∗ owns (c : Thread nD τ) (win0_7.stage (cfg0.slots t 7)) fullShare Y))

/-- What it returns. -/
def bodyPost (c : Dev nD) (t : Fin cfg0.N) : sProp 𝕄 :=
  iprop(Pipeline.ΦA spec0 c ∗ (base m c).owesAt () t.succ ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ (∃ X, ⌜nothing (F := F) 3 t X⌝ ∗ owns (c : Thread nD τ) (win0_3.stage (cfg0.slots t 3)) fullShare X) ∗ (∃ X, ⌜nothing (F := F) 4 t X⌝ ∗ owns (c : Thread nD τ) (win0_4.stage (cfg0.slots t 4)) fullShare X) ∗ (∃ X, ⌜nothing (F := F) 5 t X⌝ ∗ owns (c : Thread nD τ) (win0_5.stage (cfg0.slots t 5)) fullShare X) ∗ (∃ X, ⌜nothing (F := F) 6 t X⌝ ∗ owns (c : Thread nD τ) (win0_6.stage (cfg0.slots t 6)) fullShare X) ∗ (∃ X, ⌜nothing (F := F) 7 t X⌝ ∗ owns (c : Thread nD τ) (win0_7.stage (cfg0.slots t 7)) fullShare X))

set_option maxHeartbeats 1000000 in
/-- The body at the first point of a tile. -/
theorem body_first (c : Dev nD) (t : Fin cfg0.N) (h : t.val % 3 = 0) :
    bodyPre m c t ⊢ wp frame (wpE (defs₀ (F := F)) Variants.none c none) Set.univ (bodyAt0 t) (fun _ => bodyPost m c t) := by
  unfold bodyPre bodyPost bodyAt0
  simp only [before_x, before_g, before_w]
  rw [scratch_any, show (base m c).owesAt () t.succ = (base m c).owesAt () t.castSucc from rfl]
  iintro ⟨⟨HS, Hg⟩, Ho, ⟨%d0, H0⟩, ⟨%d1, H1⟩, ⟨%d2, H2⟩, ⟨%y3, %e3, H3⟩, ⟨%y4, %e4, H4⟩, ⟨%y5, %e5, H5⟩, ⟨%y6, %e6, H6⟩, ⟨%y7, %e7, H7⟩⟩
  iapply (((runA c (grid0.coords t) _ _ _ _ _ _ _ _ _ _ _ _ _ _ _ _ _ _ ((first_iff t).mpr h) ((second_iff t).mpr h) (fun e => by have := (third_iff t).mp e; omega) (fun e => by have := (fourth_iff t).mp e; omega) (iblk m c 0 t) (iblk m c 1 t) (iblk m c 2 t)).2.2  Set.univ _))
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [HS]; · iexact HS
  iintro ⟨H0, H1, H2, ⟨%f3, H3⟩, ⟨%z4, H4⟩, ⟨%z5, H5⟩, ⟨%z6, H6⟩, ⟨%z7, H7⟩, ⟨%f8, HS⟩⟩
  isplitl [HS Hg]
  · isplitl [HS]
    · iexists _; unfold owns; iexists _; isplitr; swap; · iexact HS
      ipureintro; rfl
    iexact Hg
  isplitl [Ho]; · iexact Ho
  isplitl [H0]; · iexact H0
  isplitl [H1]; · iexact H1
  isplitl [H2]; · iexact H2
  isplitl [H3]
  · iexists _; isplitr
    swap
    · unfold owns; iexists _; isplitr; swap; · iexact H3
      ipureintro; rfl
    ipureintro; trivial
  isplitl [H4]
  · iexists _; isplitr
    swap
    · iexact H4
    ipureintro; trivial
  isplitl [H5]
  · iexists _; isplitr
    swap
    · iexact H5
    ipureintro; trivial
  isplitl [H6]
  · iexists _; isplitr
    swap
    · iexact H6
    ipureintro; trivial
  iexists _; isplitr
  swap
  · iexact H7
  ipureintro; trivial

set_option maxHeartbeats 1000000 in
/-- The body at the second point of a tile. -/
theorem body_second (c : Dev nD) (t : Fin cfg0.N) (h : t.val % 3 = 1) :
    bodyPre m c t ⊢ wp frame (wpE (defs₀ (F := F)) Variants.none c none) Set.univ (bodyAt0 t) (fun _ => bodyPost m c t) := by
  unfold bodyPre bodyPost bodyAt0
  simp only [before_x, before_g, before_w]
  rw [scratch_any, show (base m c).owesAt () t.succ = (base m c).owesAt () t.castSucc from rfl]
  iintro ⟨⟨⟨%xs, HS⟩, Hg⟩, Ho, ⟨%d0, H0⟩, ⟨%d1, H1⟩, ⟨%d2, H2⟩, ⟨%y3, %e3, H3⟩, ⟨%y4, %e4, H4⟩, ⟨%y5, %e5, H5⟩, ⟨%y6, %e6, H6⟩, ⟨%y7, %e7, H7⟩⟩
  iapply (((runB c (grid0.coords t) _ _ _ _ _ _ _ _ _ _ _ _ _ _ _ _ _ _ (fun e => by have := (first_iff t).mp e; omega) (fun e => by have := (second_iff t).mp e; omega) ((third_iff t).mpr h) (fun e => by have := (fourth_iff t).mp e; omega) (iblk m c 0 t) (iblk m c 1 t) (iblk m c 2 t) xs).2.2 y3 Set.univ _))
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [HS]; · iexact HS
  iintro ⟨H0, H1, H2, H3, ⟨%f4, H4⟩, ⟨%z5, H5⟩, ⟨%f6, H6⟩, ⟨%z7, H7⟩, HS⟩
  isplitl [HS Hg]
  · isplitl [HS]
    · iexists _; iexact HS
    iexact Hg
  isplitl [Ho]; · iexact Ho
  isplitl [H0]; · iexact H0
  isplitl [H1]; · iexact H1
  isplitl [H2]; · iexact H2
  isplitl [H3]
  · iexists _; isplitr
    swap
    · iexact H3
    ipureintro; trivial
  isplitl [H4]
  · iexists _; isplitr
    swap
    · unfold owns; iexists _; isplitr; swap; · iexact H4
      ipureintro; rfl
    ipureintro; trivial
  isplitl [H5]
  · iexists _; isplitr
    swap
    · iexact H5
    ipureintro; trivial
  isplitl [H6]
  · iexists _; isplitr
    swap
    · unfold owns; iexists _; isplitr; swap; · iexact H6
      ipureintro; rfl
    ipureintro; trivial
  iexists _; isplitr
  swap
  · iexact H7
  ipureintro; trivial

set_option maxHeartbeats 1000000 in
/-- The body at the last point of a tile. -/
theorem body_third (c : Dev nD) (t : Fin cfg0.N) (h : t.val % 3 = 2) :
    bodyPre m c t ⊢ wp frame (wpE (defs₀ (F := F)) Variants.none c none) Set.univ (bodyAt0 t) (fun _ => bodyPost m c t) := by
  unfold bodyPre bodyPost bodyAt0
  simp only [before_x, before_g, before_w]
  rw [scratch_any, show (base m c).owesAt () t.succ = (base m c).owesAt () t.castSucc from rfl]
  iintro ⟨⟨⟨%xs, HS⟩, Hg⟩, Ho, ⟨%d0, H0⟩, ⟨%d1, H1⟩, ⟨%d2, H2⟩, ⟨%y3, %e3, H3⟩, ⟨%y4, %e4, H4⟩, ⟨%y5, %e5, H5⟩, ⟨%y6, %e6, H6⟩, ⟨%y7, %e7, H7⟩⟩
  iapply (((runC c (grid0.coords t) _ _ _ _ _ _ _ _ _ _ _ _ _ _ _ _ _ _ (fun e => by have := (first_iff t).mp e; omega) (fun e => by have := (second_iff t).mp e; omega) (fun e => by have := (third_iff t).mp e; omega) ((fourth_iff t).mpr h) (iblk m c 0 t) (iblk m c 1 t) (iblk m c 2 t) xs).2.2 y3 y4 y6 Set.univ _))
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexists _; iexact H7
  isplitl [HS]; · iexact HS
  iintro ⟨H0, H1, H2, H3, H4, ⟨%f5, H5⟩, H6, ⟨%f7, H7⟩, HS⟩
  isplitl [HS Hg]
  · isplitl [HS]
    · iexists _; iexact HS
    iexact Hg
  isplitl [Ho]; · iexact Ho
  isplitl [H0]; · iexact H0
  isplitl [H1]; · iexact H1
  isplitl [H2]; · iexact H2
  isplitl [H3]
  · iexists _; isplitr
    swap
    · iexact H3
    ipureintro; trivial
  isplitl [H4]
  · iexists _; isplitr
    swap
    · iexact H4
    ipureintro; trivial
  isplitl [H5]
  · iexists _; isplitr
    swap
    · unfold owns; iexists _; isplitr; swap; · iexact H5
      ipureintro; rfl
    ipureintro; trivial
  isplitl [H6]
  · iexists _; isplitr
    swap
    · iexact H6
    ipureintro; trivial
  iexists _; isplitr
  swap
  · unfold owns; iexists _; isplitr; swap; · iexact H7
    ipureintro; rfl
  ipureintro; trivial

/-- The body's row in the table at point `t`'s slots is the body. -/
theorem row (t : Fin cfg0.N) : defs₀ (F := F) .tc cfg0.body (cfg0.bodyArgs t (cfg0.slots t)) = bodyAt0 t := by
  unfold defs₀; rw [Defs.onTc_tc]

/-- The body at every point leaves the inputs in place and the scratch at something. -/
theorem body_keeps (c : Dev nD) : BodyObligationRel (base m c) (defs₀ (F := F)) Variants.none () Set.univ outs nothing := fun t => by
  rw [bigSep_W0, bigSep_W0, row]
  have h3 : t.val % 3 = 0 ∨ t.val % 3 = 1 ∨ t.val % 3 = 2 := by omega
  have key : bodyPre m c t ⊢ wp frame (wpE (defs₀ (F := F)) Variants.none c none) Set.univ (bodyAt0 t) (fun _ => bodyPost m c t) := by
    rcases h3 with h | h | h
    · exact body_first m c t h
    · exact body_second m c t h
    · exact body_third m c t h
  exact triple_restated key rfl .rfl fun _ => .rfl

/-! ## The run -/

set_option backward.isDefEq.respectTransparency.types false in
/-- The call ends, from any memory with zero counters, with its inputs as they were, and with every counter at zero. -/
theorem run : θ_run defs (onTc (τ := τ) (main (F := F))) (s₀ m ρ)
    (fun r => RDat.FramePost (cfgs 0) (data m) (V m) r ∧ r.2.sem = fun _ => 0) :=
  RDat.θ_run_frame_track (Q' := _) cfgs (0 : Fin 1) launch0 defs₀ Variants.none (data m) m ρ main
    (hbody := fun c => (body_keeps m c).toRRel) (hshare := fun c => (base m c).share_full fun _ => rfl)
    (howed := fun _ _ => rfl) (V := V m) (hmain := hmain m Variants.none) (hA := base_A m)
    (hin := fun c => .rfl) (hout := fun c => .rfl)

/-- The frame: the argument arrays end as they were, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run m ρ)

end Cert.KProj.Proj

end
-- ==== Proof.Proj.RunA.lean ====
module

public import proofs.«01_k».proof.Proof.Gen.KProjIdeal.Frame
public import proofs.«01_k».proof.Proof.Gen.KProjIdeal.Skeleton

/-! The body at a tile's first point: it stores the normalised rows in the scratch and their first product in the queries' buffer. -/

@[expose] public section

set_option maxRecDepth 16384

noncomputable section

namespace Cert.KProjIdeal.Proj

open Cert.KProjIdeal Cert.KProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body's first test: the point is the first of its row tile. -/
abbrev first (i : grid0.Coords) : Prop :=
  (Scalar.cmpi .ne (Scalar.extui (Scalar.cmpi .eq (BitVec.ofNat 32 (i 1).val) 0#32)) 0#32) = 1#1

set_option maxHeartbeats 2000000 in
/-- The body at the first point of a row tile: it stores the normalised rows in its scratch and their product with the first column block in the first output; the pieces stored are the witness. -/
noncomputable def runA (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x1024 .f32) (harg5 : arg5.IsWhole) (arg6 : Memref sig .tc .vmem S4x8x128x128 .f32) (harg6 : arg6.IsWhole) (arg7 : Memref sig .tc .vmem S4x8x128x128 .f32) (harg7 : arg7.IsWhole) (arg8 : Memref sig .tc .vmem S8x512x256 .bf16) (harg8 : arg8.IsWhole) (arg9 : Memref sig .tc .vmem S8x512x128 .bf16) (harg9 : arg9.IsWhole) (arg10 : Memref sig .tc .vmem S512x2048 .bf16) (harg10 : arg10.IsWhole) (hc0 : first i) (hc1 : k0_cond2 i = 1#1) (hc2 : ¬k0_cond3 i = 1#1) (hc3 : ¬k0_cond4 i = 1#1)
    (x0 : Vec F S512x2048 .f32) (x1 : Vec F S1x2048 .f32) (x2 : Vec F S2048x1024 .bf16) :
    Σ' (L3 : List (View.Piece (Elt F) S512x1024 .f32)), {L8 : List (View.Piece (Elt F) S512x2048 .bf16) //
      ∀  (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f L8)) -∗ K ⟨⟩))
          ⊢ wp frame (wpE (defs₀ (F := F)) Variants.none c none) E (cc0_moba_proj i arg2 harg2 arg3 harg3 arg4 harg4 arg5 harg5 arg6 harg6 arg7 harg7 arg8 harg8 arg9 harg9 arg10 harg10) K } := by
  refine ⟨?_, ?_, fun  E K => ?run⟩
  case run =>
    simp only [cc0_moba_proj_eq_skeleton]; unfold cc0_moba_proj_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    iexists _; iexact H8

end Cert.KProjIdeal.Proj

end
-- ==== Proof.Proj.RunB.lean ====
module

public import proofs.«01_k».proof.Proof.Gen.KProjIdeal.Frame
public import proofs.«01_k».proof.Proof.Gen.KProjIdeal.Skeleton
public import proofs.«01_k».proof.Proof.Proj.RunA

/-! The body at a tile's second point: it stores the second product in the keys' two buffers. -/

@[expose] public section

set_option maxRecDepth 16384

noncomputable section

namespace Cert.KProjIdeal.Proj

open Cert.KProjIdeal Cert.KProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 2000000 in
/-- The body at the second point of a row tile: it keeps the scratch and the first output, and stores the paged keys and the extended keys piece by piece. -/
noncomputable def runB (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x1024 .f32) (harg5 : arg5.IsWhole) (arg6 : Memref sig .tc .vmem S4x8x128x128 .f32) (harg6 : arg6.IsWhole) (arg7 : Memref sig .tc .vmem S4x8x128x128 .f32) (harg7 : arg7.IsWhole) (arg8 : Memref sig .tc .vmem S8x512x256 .bf16) (harg8 : arg8.IsWhole) (arg9 : Memref sig .tc .vmem S8x512x128 .bf16) (harg9 : arg9.IsWhole) (arg10 : Memref sig .tc .vmem S512x2048 .bf16) (harg10 : arg10.IsWhole) (hc0 : ¬first i) (hc1 : ¬k0_cond2 i = 1#1) (hc2 : k0_cond3 i = 1#1) (hc3 : ¬k0_cond4 i = 1#1)
    (x0 : Vec F S512x2048 .f32) (x1 : Vec F S1x2048 .f32) (x2 : Vec F S2048x1024 .bf16) (xs : Vec F S512x2048 .bf16) :
    Σ' (L4 : List (View.Piece (Elt F) S4x8x128x128 .f32)), {L6 : List (View.Piece (Elt F) S8x512x256 .bf16) //
      ∀ (y3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare y3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare y3 ∗ (∃ f, arg6.view.loc (c : Thread nD τ) ↦[arg6.view.set]{fullShare} arg6.view.writes (Elt F) f L4) ∗ (∃ d, owns (c : Thread nD τ) arg7 fullShare d) ∗ (∃ f, arg8.view.loc (c : Thread nD τ) ↦[arg8.view.set]{fullShare} arg8.view.writes (Elt F) f L6) ∗ (∃ d, owns (c : Thread nD τ) arg9 fullShare d) ∗ owns (c : Thread nD τ) arg10 fullShare xs) -∗ K ⟨⟩))
          ⊢ wp frame (wpE (defs₀ (F := F)) Variants.none c none) E (cc0_moba_proj i arg2 harg2 arg3 harg3 arg4 harg4 arg5 harg5 arg6 harg6 arg7 harg7 arg8 harg8 arg9 harg9 arg10 harg10) K } := by
  refine ⟨?_, ?_, fun y3 E K => ?run⟩
  case run =>
    simp only [cc0_moba_proj_eq_skeleton]; unfold cc0_moba_proj_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%f8, %hf8, H8⟩, Hk⟩
    obtain rfl := harg2.eq_unread hf0; obtain rfl := harg3.eq_unread hf1; obtain rfl := harg4.eq_unread hf2; obtain rfl := harg5.eq_unread hf3; obtain rfl := harg10.eq_unread hf8
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _, _; isplitr; swap; · iexact H5
      ipureintro; rfl
    isplitl [H6]
    · iexists _; iexact H6
    isplitl [H7]
    · iexists _, _; isplitr; swap; · iexact H7
      ipureintro; rfl
    iexists _; isplitr; · ipureintro; exact harg10.read_unread _
    iexact H8

end Cert.KProjIdeal.Proj

end
-- ==== Proof.Proj.RunC.lean ====
module

public import proofs.«01_k».proof.Proof.Gen.KProjIdeal.Frame
public import proofs.«01_k».proof.Proof.Gen.KProjIdeal.Skeleton
public import proofs.«01_k».proof.Proof.Proj.RunA

/-! The body at a tile's last point: it stores the third product in the values' two buffers. -/

@[expose] public section

set_option maxRecDepth 16384

noncomputable section

namespace Cert.KProjIdeal.Proj

open Cert.KProjIdeal Cert.KProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 2000000 in
/-- The body at the last point of a row tile: it keeps the scratch, the first output, the paged keys and the extended keys, and stores the paged values and the values by heads. -/
noncomputable def runC (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x1024 .f32) (harg5 : arg5.IsWhole) (arg6 : Memref sig .tc .vmem S4x8x128x128 .f32) (harg6 : arg6.IsWhole) (arg7 : Memref sig .tc .vmem S4x8x128x128 .f32) (harg7 : arg7.IsWhole) (arg8 : Memref sig .tc .vmem S8x512x256 .bf16) (harg8 : arg8.IsWhole) (arg9 : Memref sig .tc .vmem S8x512x128 .bf16) (harg9 : arg9.IsWhole) (arg10 : Memref sig .tc .vmem S512x2048 .bf16) (harg10 : arg10.IsWhole) (hc0 : ¬first i) (hc1 : ¬k0_cond2 i = 1#1) (hc2 : ¬k0_cond3 i = 1#1) (hc3 : k0_cond4 i = 1#1)
    (x0 : Vec F S512x2048 .f32) (x1 : Vec F S1x2048 .f32) (x2 : Vec F S2048x1024 .bf16) (xs : Vec F S512x2048 .bf16) :
    Σ' (L5 : List (View.Piece (Elt F) S4x8x128x128 .f32)), {L7 : List (View.Piece (Elt F) S8x512x128 .bf16) //
      ∀ (y3 : Vec F S512x1024 .f32) (y4 : Vec F S4x8x128x128 .f32) (y6 : Vec F S8x512x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare y4 ∗ (∃ d, owns (c : Thread nD τ) arg7 fullShare d) ∗ owns (c : Thread nD τ) arg8 fullShare y6 ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare y4 ∗ (∃ f, arg7.view.loc (c : Thread nD τ) ↦[arg7.view.set]{fullShare} arg7.view.writes (Elt F) f L5) ∗ owns (c : Thread nD τ) arg8 fullShare y6 ∗ (∃ f, arg9.view.loc (c : Thread nD τ) ↦[arg9.view.set]{fullShare} arg9.view.writes (Elt F) f L7) ∗ owns (c : Thread nD τ) arg10 fullShare xs) -∗ K ⟨⟩))
          ⊢ wp frame (wpE (defs₀ (F := F)) Variants.none c none) E (cc0_moba_proj i arg2 harg2 arg3 harg3 arg4 harg4 arg5 harg5 arg6 harg6 arg7 harg7 arg8 harg8 arg9 harg9 arg10 harg10) K } := by
  refine ⟨?_, ?_, fun y3 y4 y6 E K => ?run⟩
  case run =>
    simp only [cc0_moba_proj_eq_skeleton]; unfold cc0_moba_proj_skel
    simp only [k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg10.eq_unread hf8
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; isplitr; · ipureintro; exact harg8.read_unread _
      iexact H6
    isplitl [H7]
    · iexists _; iexact H7
    iexists _; isplitr; · ipureintro; exact harg10.read_unread _
    iexact H8

end Cert.KProjIdeal.Proj

end
-- ==== Proof.Proj.Tiles.lean ====
module

public import proofs.«01_k».proof.Proof.Proj.RunB
public import proofs.«01_k».proof.Proof.Proj.RunC
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

/-! The pieces that the body stores in each buffer, put together: the product's block in the buffer's layout. -/

@[expose] public section

set_option maxRecDepth 16384

noncomputable section

namespace Cert.KProjIdeal.Proj

open Cert.KProjIdeal Cert.KProjIdeal.Gen
open Idealize.ShloMosaic Idealize.ShloMosaic.TcCoe Idealize.ShloMosaic.Tactic

/-- A product block laid out by pages and heads: page `a`, head `h`, token `r` of the page, channel `d`. -/
def paged (v : FVec Ideal S512x1024 .f32) : Vec Ideal S4x8x128x128 .f32 := fun y =>
  v (ix2 ⟨(y 0).val * 128 + (y 2).val, by
    have h0 : (y 0).val < 4 := (y 0).isLt
    have h2 : (y 2).val < 128 := (y 2).isLt
    omega⟩
    ⟨(y 1).val * 128 + (y 3).val, by
    have h1 : (y 1).val < 8 := (y 1).isLt
    have h3 : (y 3).val < 128 := (y 3).isLt
    omega⟩)

/-- A product block laid out by heads: head `h`, token `r`, channel `d`. -/
def headed (v : FVec Ideal S512x1024 .f32) : Vec Ideal S8x512x128 .bf16 := fun y =>
  v (ix2 (y 1) ⟨(y 0).val * 128 + (y 2).val, by
    have h0 : (y 0).val < 8 := (y 0).isLt
    have h2 : (y 2).val < 128 := (y 2).isLt
    omega⟩)

/-- A product block laid out by heads, each head's channels followed by the same further 128 columns `e`. -/
def extended (v : FVec Ideal S512x1024 .f32) (e : FVec Ideal S512x128 .bf16) : Vec Ideal S8x512x256 .bf16 := fun y =>
  if h : (y 2).val < 128 then
    v (ix2 (y 1) ⟨(y 0).val * 128 + (y 2).val, by
      have h0 : (y 0).val < 8 := (y 0).isLt
      omega⟩)
  else e (ix2 (y 1) ⟨(y 2).val - 128, by
    have h2 : (y 2).val < 256 := (y 2).isLt
    omega⟩)

/-- What the first point of a tile leaves in the first output: the product of the normalised rows with the column block. -/
theorem outA3 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x1024 .f32) (harg5 : arg5.IsWhole) (arg6 : Memref sig .tc .vmem S4x8x128x128 .f32) (harg6 : arg6.IsWhole) (arg7 : Memref sig .tc .vmem S4x8x128x128 .f32) (harg7 : arg7.IsWhole) (arg8 : Memref sig .tc .vmem S8x512x256 .bf16) (harg8 : arg8.IsWhole) (arg9 : Memref sig .tc .vmem S8x512x128 .bf16) (harg9 : arg9.IsWhole) (arg10 : Memref sig .tc .vmem S512x2048 .bf16) (harg10 : arg10.IsWhole) (hc0 : first i) (hc1 : k0_cond2 i = 1#1) (hc2 : ¬k0_cond3 i = 1#1) (hc3 : ¬k0_cond4 i = 1#1)
    (x0 : Vec Ideal S512x2048 .f32) (x1 : Vec Ideal S1x2048 .f32) (x2 : Vec Ideal S2048x1024 .bf16)
    (v : View sig .tc .vmem S512x1024 .f32) (f : v.ty.Contents (Elt Ideal)) :
    v.read (Elt Ideal) (v.writes (Elt Ideal) f (runA c i arg2 harg2 arg3 harg3 arg4 harg4 arg5 harg5 arg6 harg6 arg7 harg7 arg8 harg8 arg9 harg9 arg10 harg10 hc0 hc1 hc2 hc3 x0 x1 x2).1) = k0_pay2 (k0_pay1 x0 x1) x2 := by
  refine (View.read_writes_of_cover v f v v.junk _ fun y => View.cover_of_tiledL
    (runA c i arg2 harg2 arg3 harg3 arg4 harg4 arg5 harg5 arg6 harg6 arg7 harg7 arg8 harg8 arg9 harg9 arg10 harg10 hc0 hc1 hc2 hc3 x0 x1 x2).1 S512x1024.size (by sl_kernel_rfl) y).trans ?_
  rw [View.read_writes_junk_eq_canon]
  frame_out

/-- What the first point of a tile leaves in the scratch: the normalised rows. -/
theorem outA8 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x1024 .f32) (harg5 : arg5.IsWhole) (arg6 : Memref sig .tc .vmem S4x8x128x128 .f32) (harg6 : arg6.IsWhole) (arg7 : Memref sig .tc .vmem S4x8x128x128 .f32) (harg7 : arg7.IsWhole) (arg8 : Memref sig .tc .vmem S8x512x256 .bf16) (harg8 : arg8.IsWhole) (arg9 : Memref sig .tc .vmem S8x512x128 .bf16) (harg9 : arg9.IsWhole) (arg10 : Memref sig .tc .vmem S512x2048 .bf16) (harg10 : arg10.IsWhole) (hc0 : first i) (hc1 : k0_cond2 i = 1#1) (hc2 : ¬k0_cond3 i = 1#1) (hc3 : ¬k0_cond4 i = 1#1)
    (x0 : Vec Ideal S512x2048 .f32) (x1 : Vec Ideal S1x2048 .f32) (x2 : Vec Ideal S2048x1024 .bf16)
    (v : View sig .tc .vmem S512x2048 .bf16) (f : v.ty.Contents (Elt Ideal)) :
    v.read (Elt Ideal) (v.writes (Elt Ideal) f (runA c i arg2 harg2 arg3 harg3 arg4 harg4 arg5 harg5 arg6 harg6 arg7 harg7 arg8 harg8 arg9 harg9 arg10 harg10 hc0 hc1 hc2 hc3 x0 x1 x2).2.1) = k0_pay1 x0 x1 := by
  refine (View.read_writes_of_cover v f v v.junk _ fun y => View.cover_of_tiledL
    (runA c i arg2 harg2 arg3 harg3 arg4 harg4 arg5 harg5 arg6 harg6 arg7 harg7 arg8 harg8 arg9 harg9 arg10 harg10 hc0 hc1 hc2 hc3 x0 x1 x2).2.1 S512x2048.size (by sl_kernel_rfl) y).trans ?_
  rw [View.read_writes_junk_eq_canon]
  frame_out

/-- What the second point of a tile leaves in the paged keys. -/
theorem outB4 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x1024 .f32) (harg5 : arg5.IsWhole) (arg6 : Memref sig .tc .vmem S4x8x128x128 .f32) (harg6 : arg6.IsWhole) (arg7 : Memref sig .tc .vmem S4x8x128x128 .f32) (harg7 : arg7.IsWhole) (arg8 : Memref sig .tc .vmem S8x512x256 .bf16) (harg8 : arg8.IsWhole) (arg9 : Memref sig .tc .vmem S8x512x128 .bf16) (harg9 : arg9.IsWhole) (arg10 : Memref sig .tc .vmem S512x2048 .bf16) (harg10 : arg10.IsWhole) (hc0 : ¬first i) (hc1 : ¬k0_cond2 i = 1#1) (hc2 : k0_cond3 i = 1#1) (hc3 : ¬k0_cond4 i = 1#1)
    (x0 : Vec Ideal S512x2048 .f32) (x1 : Vec Ideal S1x2048 .f32) (x2 : Vec Ideal S2048x1024 .bf16) (xs : Vec Ideal S512x2048 .bf16)
    (v : View sig .tc .vmem S4x8x128x128 .f32) (f : v.ty.Contents (Elt Ideal)) :
    v.read (Elt Ideal) (v.writes (Elt Ideal) f (runB c i arg2 harg2 arg3 harg3 arg4 harg4 arg5 harg5 arg6 harg6 arg7 harg7 arg8 harg8 arg9 harg9 arg10 harg10 hc0 hc1 hc2 hc3 x0 x1 x2 xs).1) = paged (k0_pay2 xs x2) := by
  refine (View.read_writes_of_cover v f v v.junk _ fun y => View.cover_of_tiledL
    (runB c i arg2 harg2 arg3 harg3 arg4 harg4 arg5 harg5 arg6 harg6 arg7 harg7 arg8 harg8 arg9 harg9 arg10 harg10 hc0 hc1 hc2 hc3 x0 x1 x2 xs).1 S4x1x128x128.size (by sl_kernel_rfl) y).trans ?_
  rw [View.read_writes_junk_eq_canon]
  funext y
  frame_out
  canon_tiles x h
  all_goals (pointwise [paged, k0_pay10, k0_pay9, k0_pay15, k0_pay14, k0_pay19, k0_pay18, k0_pay23, k0_pay22, k0_pay27, k0_pay26, k0_pay31, k0_pay30, k0_pay36, k0_pay35, k0_pay40, k0_pay39]; blk_ext)

set_option maxHeartbeats 2000000 in
/-- What the second point of a tile leaves in the extended keys. -/
theorem outB6 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x1024 .f32) (harg5 : arg5.IsWhole) (arg6 : Memref sig .tc .vmem S4x8x128x128 .f32) (harg6 : arg6.IsWhole) (arg7 : Memref sig .tc .vmem S4x8x128x128 .f32) (harg7 : arg7.IsWhole) (arg8 : Memref sig .tc .vmem S8x512x256 .bf16) (harg8 : arg8.IsWhole) (arg9 : Memref sig .tc .vmem S8x512x128 .bf16) (harg9 : arg9.IsWhole) (arg10 : Memref sig .tc .vmem S512x2048 .bf16) (harg10 : arg10.IsWhole) (hc0 : ¬first i) (hc1 : ¬k0_cond2 i = 1#1) (hc2 : k0_cond3 i = 1#1) (hc3 : ¬k0_cond4 i = 1#1)
    (x0 : Vec Ideal S512x2048 .f32) (x1 : Vec Ideal S1x2048 .f32) (x2 : Vec Ideal S2048x1024 .bf16) (xs : Vec Ideal S512x2048 .bf16)
    (v : View sig .tc .vmem S8x512x256 .bf16) (f : v.ty.Contents (Elt Ideal)) :
    v.read (Elt Ideal) (v.writes (Elt Ideal) f (runB c i arg2 harg2 arg3 harg3 arg4 harg4 arg5 harg5 arg6 harg6 arg7 harg7 arg8 harg8 arg9 harg9 arg10 harg10 hc0 hc1 hc2 hc3 x0 x1 x2 xs).2.1) = extended (k0_pay2 xs x2) (k0_pay8 (BitVec.ofNat 32 (i 0).val)) := by
  refine (View.read_writes_of_cover v f v v.junk _ fun y => View.cover_of_tiledL
    (runB c i arg2 harg2 arg3 harg3 arg4 harg4 arg5 harg5 arg6 harg6 arg7 harg7 arg8 harg8 arg9 harg9 arg10 harg10 hc0 hc1 hc2 hc3 x0 x1 x2 xs).2.1 S1x512x128.size (by sl_kernel_rfl) y).trans ?_
  rw [View.read_writes_junk_eq_canon]
  funext y
  frame_out
  generalize k0_pay8 (F := Ideal) (BitVec.ofNat 32 (i 0).val) = e
  canon_tiles x h
  all_goals (pointwise [extended, k0_pay3, k0_pay12, k0_pay11, k0_pay9, k0_pay13, k0_pay16, k0_pay14, k0_pay17, k0_pay20, k0_pay18, k0_pay21, k0_pay24, k0_pay22, k0_pay25, k0_pay28, k0_pay26, k0_pay29, k0_pay33, k0_pay32, k0_pay30, k0_pay34, k0_pay37, k0_pay35, k0_pay38, k0_pay41, k0_pay39, k0_pay42]; split <;> first | (exfalso; omega) | blk_ext)

/-- What the last point of a tile leaves in the paged values. -/
theorem outC5 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x1024 .f32) (harg5 : arg5.IsWhole) (arg6 : Memref sig .tc .vmem S4x8x128x128 .f32) (harg6 : arg6.IsWhole) (arg7 : Memref sig .tc .vmem S4x8x128x128 .f32) (harg7 : arg7.IsWhole) (arg8 : Memref sig .tc .vmem S8x512x256 .bf16) (harg8 : arg8.IsWhole) (arg9 : Memref sig .tc .vmem S8x512x128 .bf16) (harg9 : arg9.IsWhole) (arg10 : Memref sig .tc .vmem S512x2048 .bf16) (harg10 : arg10.IsWhole) (hc0 : ¬first i) (hc1 : ¬k0_cond2 i = 1#1) (hc2 : ¬k0_cond3 i = 1#1) (hc3 : k0_cond4 i = 1#1)
    (x0 : Vec Ideal S512x2048 .f32) (x1 : Vec Ideal S1x2048 .f32) (x2 : Vec Ideal S2048x1024 .bf16) (xs : Vec Ideal S512x2048 .bf16)
    (v : View sig .tc .vmem S4x8x128x128 .f32) (f : v.ty.Contents (Elt Ideal)) :
    v.read (Elt Ideal) (v.writes (Elt Ideal) f (runC c i arg2 harg2 arg3 harg3 arg4 harg4 arg5 harg5 arg6 harg6 arg7 harg7 arg8 harg8 arg9 harg9 arg10 harg10 hc0 hc1 hc2 hc3 x0 x1 x2 xs).1) = paged (k0_pay2 xs x2) := by
  refine (View.read_writes_of_cover v f v v.junk _ fun y => View.cover_of_tiledL
    (runC c i arg2 harg2 arg3 harg3 arg4 harg4 arg5 harg5 arg6 harg6 arg7 harg7 arg8 harg8 arg9 harg9 arg10 harg10 hc0 hc1 hc2 hc3 x0 x1 x2 xs).1 S4x1x128x128.size (by sl_kernel_rfl) y).trans ?_
  rw [View.read_writes_junk_eq_canon]
  funext y
  frame_out
  canon_tiles x h
  all_goals (pointwise [paged, k0_pay42, k0_pay43, k0_pay46, k0_pay45, k0_pay49, k0_pay48, k0_pay53, k0_pay52, k0_pay51, k0_pay56, k0_pay55, k0_pay59, k0_pay58, k0_pay62, k0_pay61, k0_pay6, k0_pay5]; blk_ext)

/-- What the last point of a tile leaves in the values by heads. -/
theorem outC7 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x1024 .f32) (harg5 : arg5.IsWhole) (arg6 : Memref sig .tc .vmem S4x8x128x128 .f32) (harg6 : arg6.IsWhole) (arg7 : Memref sig .tc .vmem S4x8x128x128 .f32) (harg7 : arg7.IsWhole) (arg8 : Memref sig .tc .vmem S8x512x256 .bf16) (harg8 : arg8.IsWhole) (arg9 : Memref sig .tc .vmem S8x512x128 .bf16) (harg9 : arg9.IsWhole) (arg10 : Memref sig .tc .vmem S512x2048 .bf16) (harg10 : arg10.IsWhole) (hc0 : ¬first i) (hc1 : ¬k0_cond2 i = 1#1) (hc2 : ¬k0_cond3 i = 1#1) (hc3 : k0_cond4 i = 1#1)
    (x0 : Vec Ideal S512x2048 .f32) (x1 : Vec Ideal S1x2048 .f32) (x2 : Vec Ideal S2048x1024 .bf16) (xs : Vec Ideal S512x2048 .bf16)
    (v : View sig .tc .vmem S8x512x128 .bf16) (f : v.ty.Contents (Elt Ideal)) :
    v.read (Elt Ideal) (v.writes (Elt Ideal) f (runC c i arg2 harg2 arg3 harg3 arg4 harg4 arg5 harg5 arg6 harg6 arg7 harg7 arg8 harg8 arg9 harg9 arg10 harg10 hc0 hc1 hc2 hc3 x0 x1 x2 xs).2.1) = headed (k0_pay2 xs x2) := by
  refine (View.read_writes_of_cover v f v v.junk _ fun y => View.cover_of_tiledL
    (runC c i arg2 harg2 arg3 harg3 arg4 harg4 arg5 harg5 arg6 harg6 arg7 harg7 arg8 harg8 arg9 harg9 arg10 harg10 hc0 hc1 hc2 hc3 x0 x1 x2 xs).2.1 S1x512x128.size (by sl_kernel_rfl) y).trans ?_
  rw [View.read_writes_junk_eq_canon]
  funext y
  frame_out
  canon_tiles x h
  all_goals (pointwise [headed, k0_pay42, k0_pay44, k0_pay47, k0_pay45, k0_pay50, k0_pay48, k0_pay54, k0_pay51, k0_pay57, k0_pay55, k0_pay60, k0_pay58, k0_pay4, k0_pay63, k0_pay61, k0_pay7, k0_pay5]; blk_ext)

end Cert.KProjIdeal.Proj

end
-- ==== Proof.Proj.Frame.lean ====
module

public import proofs.«01_k».proof.Proof.Proj.Tiles
public import Idealize.ShloMosaic.Lib.Pipeline.DatRel
public import Idealize.ShloMosaic.Lib.Pipeline.ArrRel

/-! The projection's call, run with what its output buffers are known to hold: a tile takes three grid points, and each output
is stored at one of the three and kept in its buffer until the tile's end. -/

@[expose] public section

set_option maxRecDepth 16384

noncomputable section

namespace Cert.KProjIdeal.Proj

open Cert.KProjIdeal Cert.KProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel RDat)

local notation "𝕄" => MT nD τ sig Unit (Elt Ideal) ℕ (UR sig nD τ) ℕ

variable (m : (ℓ : Loc nD τ sig) → Buf (Elt Ideal) ℓ) (ρ : Dev nD → PrngReg)

/-! ## Where a point stands in its row tile -/

/-- The grid has 96 points. -/
theorem lt96 (t : Fin cfg0.N) : t.val < 96 := lt_of_lt_of_eq t.isLt (show cfg0.N = 96 from N_0)

/-- The `j`-th point of the row tile that point `t` belongs to. -/
def pt (t : Fin cfg0.N) (j : Fin 3) : Fin cfg0.N :=
  ⟨3 * (t.val / 3) + j.val, by have := lt96 t; have := j.isLt; have : cfg0.N = 96 := N_0; omega⟩

/-- A point of the tile is its own `t % 3`-th point. -/
theorem pt_self (t : Fin cfg0.N) (j : Fin 3) (h : t.val % 3 = j.val) : pt t j = t := Fin.ext (by simp only [pt]; omega)

/-- Two points with the same quotient by three stand in the same tile. -/
theorem pt_congr (t u : Fin cfg0.N) (h : t.val / 3 = u.val / 3) (j : Fin 3) : pt t j = pt u j := Fin.ext (by simp only [pt, h])

/-- The body's first test holds at the points divisible by three. -/
theorem first_iff (t : Fin cfg0.N) : first (grid0.coords t) ↔ t.val % 3 = 0 := by
  have ht := lt96 t
  have e1 : (grid0.coords t 1).val = t.val / 1 % 3 := Pipeline.Grid.coords_val t 1 (by decide) rfl
  simp only [first, e1]
  word_cmp

/-- Its second test holds at the same points. -/
theorem second_iff (t : Fin cfg0.N) : k0_cond2 (grid0.coords t) = 1#1 ↔ t.val % 3 = 0 := by
  have ht := lt96 t
  have e1 : (grid0.coords t 1).val = t.val / 1 % 3 := Pipeline.Grid.coords_val t 1 (by decide) rfl
  simp only [k0_cond2, e1]
  word_cmp

/-- Its third test holds at the points that leave one on division by three. -/
theorem third_iff (t : Fin cfg0.N) : k0_cond3 (grid0.coords t) = 1#1 ↔ t.val % 3 = 1 := by
  have ht := lt96 t
  have e1 : (grid0.coords t 1).val = t.val / 1 % 3 := Pipeline.Grid.coords_val t 1 (by decide) rfl
  simp only [k0_cond3, e1]
  word_cmp

/-- Its fourth test holds at the points that leave two on division by three. -/
theorem fourth_iff (t : Fin cfg0.N) : k0_cond4 (grid0.coords t) = 1#1 ↔ t.val % 3 = 2 := by
  have ht := lt96 t
  have e1 : (grid0.coords t 1).val = t.val / 1 % 3 := Pipeline.Grid.coords_val t 1 (by decide) rfl
  simp only [k0_cond4, e1]
  word_cmp

/-! ## What the tile computes -/

/-- The normalised rows of `t`'s tile. -/
def rows (c : Dev nD) (t : Fin cfg0.N) : Vec Ideal S512x2048 .bf16 := k0_pay1 (iblk m c 0 (pt t 0)) (iblk m c 1 (pt t 0))

/-- Their product with the `j`-th column block. -/
def product (c : Dev nD) (t : Fin cfg0.N) (j : Fin 3) : FVec Ideal S512x1024 .f32 := k0_pay2 (rows m c t) (iblk m c 2 (pt t j))

/-- Two points of one tile have the same normalised rows. -/
theorem rows_congr (c : Dev nD) (t u : Fin cfg0.N) (h : t.val / 3 = u.val / 3) : rows m c t = rows m c u := by
  unfold rows; rw [pt_congr t u h]

/-- Two points of one tile have the same products. -/
theorem product_congr (c : Dev nD) (t u : Fin cfg0.N) (h : t.val / 3 = u.val / 3) (j : Fin 3) : product m c t j = product m c u j := by
  unfold product; rw [rows_congr m c t u h, pt_congr t u h]

/-- What is known of the outputs' staging buffers after point `t`: the first output holds the first product from the tile's first
    point on, the keys their layouts of the second from its second point on, the values theirs of the third after its last. -/
def known (c : Dev nD) : (w : Fin cfg0.W) → Fin cfg0.N → ((cfg0.win w).block.Idx → Elt Ideal (cfg0.win w).elt) → Prop
  | ⟨0, _⟩, _, _ => True
  | ⟨1, _⟩, _, _ => True
  | ⟨2, _⟩, _, _ => True
  | ⟨3, _⟩, t, X => X = product m c t 0
  | ⟨4, _⟩, t, X => t.val % 3 ≠ 0 → X = paged (product m c t 1)
  | ⟨5, _⟩, t, X => t.val % 3 = 2 → X = paged (product m c t 2)
  | ⟨6, _⟩, t, X => t.val % 3 ≠ 0 → X = extended (product m c t 1) (k0_pay8 (BitVec.ofNat 32 (t.val / 3)))
  | ⟨7, _⟩, t, X => t.val % 3 = 2 → X = headed (product m c t 2)

/-- The windows that are held to `known`: the outputs. -/
def outs : Fin cfg0.W → Bool := fun w => 3 ≤ w.val

/-- The carried scratch as a whole buffer. -/
abbrev scratch : Memref sig .tc .vmem S512x2048 .bf16 := Memref.whole cc0_scratch0

/-- Before the first point the scratch holds anything; after point `n` it holds the rows of `n`'s tile. -/
def inv (c : Dev nD) (t : Fin (cfg0.N + 1)) : sProp 𝕄 :=
  if h : t.val = 0 then Pipeline.ΦA spec0 c
  else iprop(owns (c : Thread nD τ) scratch fullShare (rows m c ⟨t.val - 1, by have := t.isLt; omega⟩) ∗ (∃ r, prngReg c r))

/-- The proof data: the arrays as the call finds them, the inputs' blocks left in place, the scratch by `inv`. -/
def base (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Dat.unnamed (cfg := cfg0) ⟨3, h⟩ t
    | ⟨4, h⟩ => Dat.unnamed (cfg := cfg0) ⟨4, h⟩ t
    | ⟨5, h⟩ => Dat.unnamed (cfg := cfg0) ⟨5, h⟩ t
    | ⟨6, h⟩ => Dat.unnamed (cfg := cfg0) ⟨6, h⟩ t
    | ⟨7, h⟩ => Dat.unnamed (cfg := cfg0) ⟨7, h⟩ t
  Φ t := inv m c t
  q _ := fullShare
  owed _ := 0

/-- The data's arrays are the arrays as the call finds them. -/
theorem base_A (c : Dev nD) (w : Fin cfg0.W) : (base m c).A w = V m c (Pipeline.arrRef spec0 w) := by dsimp only [base]
/-- The body finds the rows' block in its window. -/
theorem before_x (c : Dev nD) (t : Fin cfg0.N) (d) : (base m c).before 0 t d = iblk m c 0 t :=
  before0_0_of m (base m c) (base_A m c 0) (fun t => by dsimp only [base]) t d
/-- The body finds the gain's block in its window. -/
theorem before_g (c : Dev nD) (t : Fin cfg0.N) (d) : (base m c).before 1 t d = iblk m c 1 t :=
  before0_1_of m (base m c) (base_A m c 1) (fun t => by dsimp only [base]) t d
/-- The body finds the weights' block in its window. -/
theorem before_w (c : Dev nD) (t : Fin cfg0.N) (d) : (base m c).before 2 t d = iblk m c 2 t :=
  before0_2_of m (base m c) (base_A m c 2) (fun t => by dsimp only [base]) t d

/-- The data with the outputs held to `known`. -/
abbrev data (c : Dev nD) : RDat τ (Elt Ideal) Unit ℕ (UR sig nD τ) ℕ cfg0 c := (base m c).toRRel outs (known m c)

/-- Inside a tile, what an output's buffer holds is what the point before is known to have left. -/
theorem held (c : Dev nD) (w : Fin cfg0.W) (hw : outs w = true) (hf : ∀ t, (cfg0.win w).fetch t = false)
    (hl : ∀ t, (cfg0.win w).flush t = true ↔ t.val % 3 = 2) (t : Fin cfg0.N) (h : t.val % 3 ≠ 0) (Y)
    (hY : (data m c).Finds w t Y) : known m c w ⟨t.val - 1, Nat.lt_of_le_of_lt (Nat.sub_le _ _) t.isLt⟩ Y := by
  rcases ((data m c).finds_of_pos (hf t) (by omega) Y).mp hY with h' | h'
  · have := (hl _).mp h'
    dsimp only at this
    omega
  · exact (base m c).toRRel_leaves hw h'

/-- Inside a tile the queries' buffer still holds the product with the first column block. -/
theorem held_q (c : Dev nD) (t : Fin cfg0.N) (h : t.val % 3 ≠ 0) (Y) (hY : (data m c).Finds 3 t Y) : Y = product m c t 0 :=
  (held m c 3 rfl (fun _ => rfl) flush0_3 t h Y hY).trans (product_congr m c _ _ (by dsimp only; omega) 0)

/-- At a tile's last point the key pages' buffer still holds the product with the second column block. -/
theorem held_k (c : Dev nD) (t : Fin cfg0.N) (h : t.val % 3 = 2) (Y) (hY : (data m c).Finds 4 t Y) : Y = paged (product m c t 1) :=
  (held m c 4 rfl (fun _ => rfl) flush0_4 t (by omega) Y hY (by dsimp only; omega)).trans
    (congrArg _ (product_congr m c _ _ (by dsimp only; omega) 1))

/-- At a tile's last point the key heads' buffer still holds the same product with the marks beside it. -/
theorem held_e (c : Dev nD) (t : Fin cfg0.N) (h : t.val % 3 = 2) (Y) (hY : (data m c).Finds 6 t Y) :
    Y = extended (product m c t 1) (k0_pay8 (BitVec.ofNat 32 (t.val / 3))) :=
  (held m c 6 rfl (fun _ => rfl) flush0_6 t (by omega) Y hY (by dsimp only; omega)).trans (by
    rw [product_congr m c _ t (by dsimp only; omega) 1]
    congr 3
    dsimp only; omega)

/-- What the call owns beside its windows: the scratch, holding anything, and the generator's register. -/
theorem scratch_any (c : Dev nD) :
    (Pipeline.ΦA spec0 c : sProp 𝕄) = iprop(iprop((∃ d, owns (c : Thread nD τ) scratch fullShare d)) ∗ (∃ r, prngReg c r)) := by
  unfold Pipeline.ΦA; rw [scopedRest0_eq]; simp only [scratch, owns_whole]; try rfl

/-- After a point the scratch holds the rows of the point's tile. -/
theorem inv_succ (c : Dev nD) (t : Fin cfg0.N) :
    (base m c).Φ t.succ = iprop(owns (c : Thread nD τ) scratch fullShare (rows m c t) ∗ (∃ r, prngReg c r)) := by
  show inv m c t.succ = _
  unfold inv
  rw [dif_neg (by simp)]
  rfl

/-- Inside a tile the scratch holds the tile's rows before the point too. -/
theorem inv_inside (c : Dev nD) (t : Fin cfg0.N) (h : t.val % 3 ≠ 0) :
    (base m c).Φ t.castSucc = iprop(owns (c : Thread nD τ) scratch fullShare (rows m c t) ∗ (∃ r, prngReg c r)) := by
  show inv m c t.castSucc = _
  unfold inv
  rw [dif_neg (by simp; omega), rows_congr m c _ t (by simp only [Fin.val_castSucc]; omega)]

/-- At any point the scratch holds something. -/
theorem inv_any (c : Dev nD) (t : Fin (cfg0.N + 1)) : inv m c t
    ⊢ (iprop(iprop((∃ d, owns (c : Thread nD τ) scratch fullShare d)) ∗ (∃ r, prngReg c r)) : sProp 𝕄) := by
  unfold inv
  split
  · rw [scratch_any]
  · iintro ⟨H, Hg⟩
    isplitl [H]
    · iexists _; iexact H
    iexact Hg

/-! ## The body at a point -/

/-- What the body is called with at point `t`. -/
def bodyPre (c : Dev nD) (t : Fin cfg0.N) : sProp 𝕄 :=
  iprop((base m c).Φ t.castSucc ∗ (base m c).owesAt () t.castSucc ∗ (∃ d, owns (c : Thread nD τ) (win0_0.stage (cfg0.slots t 0)) fullShare ((base m c).before 0 t d)) ∗ (∃ d, owns (c : Thread nD τ) (win0_1.stage (cfg0.slots t 1)) fullShare ((base m c).before 1 t d)) ∗ (∃ d, owns (c : Thread nD τ) (win0_2.stage (cfg0.slots t 2)) fullShare ((base m c).before 2 t d)) ∗ (∃ Y, ⌜(data m c).Finds 3 t Y⌝ ∗ owns (c : Thread nD τ) (win0_3.stage (cfg0.slots t 3)) fullShare Y) ∗ (∃ Y, ⌜(data m c).Finds 4 t Y⌝ ∗ owns (c : Thread nD τ) (win0_4.stage (cfg0.slots t 4)) fullShare Y) ∗ (∃ Y, ⌜(data m c).Finds 5 t Y⌝ ∗ owns (c : Thread nD τ) (win0_5.stage (cfg0.slots t 5)) fullShare Y) ∗ (∃ Y, ⌜(data m c).Finds 6 t Y⌝ ∗ owns (c : Thread nD τ) (win0_6.stage (cfg0.slots t 6)) fullShare Y) ∗ (∃ Y, ⌜(data m c).Finds 7 t Y⌝ ∗ owns (c : Thread nD τ) (win0_7.stage (cfg0.slots t 7)) fullShare Y))

/-- What it returns. -/
def bodyPost (c : Dev nD) (t : Fin cfg0.N) : sProp 𝕄 :=
  iprop((base m c).Φ t.succ ∗ (base m c).owesAt () t.succ ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ (∃ X, ⌜known m c 3 t X⌝ ∗ owns (c : Thread nD τ) (win0_3.stage (cfg0.slots t 3)) fullShare X) ∗ (∃ X, ⌜known m c 4 t X⌝ ∗ owns (c : Thread nD τ) (win0_4.stage (cfg0.slots t 4)) fullShare X) ∗ (∃ X, ⌜known m c 5 t X⌝ ∗ owns (c : Thread nD τ) (win0_5.stage (cfg0.slots t 5)) fullShare X) ∗ (∃ X, ⌜known m c 6 t X⌝ ∗ owns (c : Thread nD τ) (win0_6.stage (cfg0.slots t 6)) fullShare X) ∗ (∃ X, ⌜known m c 7 t X⌝ ∗ owns (c : Thread nD τ) (win0_7.stage (cfg0.slots t 7)) fullShare X))

set_option maxHeartbeats 1000000 in
/-- The body at the first point of a tile. -/
theorem body_first (c : Dev nD) (t : Fin cfg0.N) (h : t.val % 3 = 0) :
    bodyPre m c t ⊢ wp frame (wpE (defs₀ (F := Ideal)) Variants.none c none) Set.univ (bodyAt0 t) (fun _ => bodyPost m c t) := by
  unfold bodyPre bodyPost bodyAt0
  simp only [before_x, before_g, before_w]
  rw [inv_succ, show (base m c).owesAt () t.succ = (base m c).owesAt () t.castSucc from rfl]
  refine (sep_mono (inv_any m c t.castSucc) .rfl).trans ?_
  iintro ⟨⟨HS, Hg⟩, Ho, ⟨%d0, H0⟩, ⟨%d1, H1⟩, ⟨%d2, H2⟩, ⟨%y3, %e3, H3⟩, ⟨%y4, %e4, H4⟩, ⟨%y5, %e5, H5⟩, ⟨%y6, %e6, H6⟩, ⟨%y7, %e7, H7⟩⟩
  iapply (((runA c (grid0.coords t) _ _ _ _ _ _ _ _ _ _ _ _ _ _ _ _ _ _ ((first_iff t).mpr h) ((second_iff t).mpr h) (fun e => by have := (third_iff t).mp e; omega) (fun e => by have := (fourth_iff t).mp e; omega) (iblk m c 0 t) (iblk m c 1 t) (iblk m c 2 t)).2.2  Set.univ _))
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [HS]; · iexact HS
  iintro ⟨H0, H1, H2, ⟨%f3, H3⟩, ⟨%z4, H4⟩, ⟨%z5, H5⟩, ⟨%z6, H6⟩, ⟨%z7, H7⟩, ⟨%f8, HS⟩⟩
  isplitl [HS Hg]
  · isplitl [HS]
    · unfold owns; iexists _; isplitr
      swap; · iexact HS
      ipureintro
      refine (outA8 c _ _ _ _ _ _ _ _ _ _ _ _ _ _ _ _ _ _ _ _ _ _ _ _ _ _ _ _).trans ?_
      unfold rows; rw [pt_self t 0 h]
    iexact Hg
  isplitl [Ho]; · iexact Ho
  isplitl [H0]; · iexact H0
  isplitl [H1]; · iexact H1
  isplitl [H2]; · iexact H2
  isplitl [H3]
  · iexists _; isplitr
    swap
    · unfold owns; iexists _; isplitr; swap; · iexact H3
      ipureintro; rfl
    ipureintro
    show _ = product m c t 0
    refine (outA3 c _ _ _ _ _ _ _ _ _ _ _ _ _ _ _ _ _ _ _ _ _ _ _ _ _ _ _ _).trans ?_
    unfold product rows; rw [pt_self t 0 h]
  isplitl [H4]
  · iexists _; isplitr
    swap
    · iexact H4
    ipureintro
    intro e; omega
  isplitl [H5]
  · iexists _; isplitr
    swap
    · iexact H5
    ipureintro
    intro e; omega
  isplitl [H6]
  · iexists _; isplitr
    swap
    · iexact H6
    ipureintro
    intro e; omega
  iexists _; isplitr
  swap
  · iexact H7
  ipureintro
  intro e; omega

set_option maxHeartbeats 1000000 in
/-- The body at the second point of a tile. -/
theorem body_second (c : Dev nD) (t : Fin cfg0.N) (h : t.val % 3 = 1) :
    bodyPre m c t ⊢ wp frame (wpE (defs₀ (F := Ideal)) Variants.none c none) Set.univ (bodyAt0 t) (fun _ => bodyPost m c t) := by
  unfold bodyPre bodyPost bodyAt0
  simp only [before_x, before_g, before_w]
  rw [inv_succ, show (base m c).owesAt () t.succ = (base m c).owesAt () t.castSucc from rfl]
  rw [inv_inside m c t (by omega)]
  iintro ⟨⟨HS, Hg⟩, Ho, ⟨%d0, H0⟩, ⟨%d1, H1⟩, ⟨%d2, H2⟩, ⟨%y3, %e3, H3⟩, ⟨%y4, %e4, H4⟩, ⟨%y5, %e5, H5⟩, ⟨%y6, %e6, H6⟩, ⟨%y7, %e7, H7⟩⟩
  have k3 := held_q m c t (by omega) y3 e3
  iapply (((runB c (grid0.coords t) _ _ _ _ _ _ _ _ _ _ _ _ _ _ _ _ _ _ (fun e => by have := (first_iff t).mp e; omega) (fun e => by have := (second_iff t).mp e; omega) ((third_iff t).mpr h) (fun e => by have := (fourth_iff t).mp e; omega) (iblk m c 0 t) (iblk m c 1 t) (iblk m c 2 t) (rows m c t)).2.2 y3 Set.univ _))
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [HS]; · iexact HS
  iintro ⟨H0, H1, H2, H3, ⟨%f4, H4⟩, ⟨%z5, H5⟩, ⟨%f6, H6⟩, ⟨%z7, H7⟩, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]
  · iexists _; isplitr
    swap
    · iexact H3
    ipureintro
    exact k3
  isplitl [H4]
  · iexists _; isplitr
    swap
    · unfold owns; iexists _; isplitr; swap; · iexact H4
      ipureintro; rfl
    ipureintro
    intro _; show _ = paged (product m c t 1)
    refine (outB4 c _ _ _ _ _ _ _ _ _ _ _ _ _ _ _ _ _ _ _ _ _ _ _ _ _ _ _ _ _).trans ?_
    unfold product; rw [pt_self t 1 h]
  isplitl [H5]
  · iexists _; isplitr
    swap
    · iexact H5
    ipureintro
    intro e; omega
  isplitl [H6]
  · iexists _; isplitr
    swap
    · unfold owns; iexists _; isplitr; swap; · iexact H6
      ipureintro; rfl
    ipureintro
    intro _; show _ = extended (product m c t 1) (k0_pay8 (BitVec.ofNat 32 (t.val / 3)))
    refine (outB6 c _ _ _ _ _ _ _ _ _ _ _ _ _ _ _ _ _ _ _ _ _ _ _ _ _ _ _ _ _).trans ?_
    unfold product; rw [pt_self t 1 h]
    have e0 : (grid0.coords t 0).val = t.val / 3 % 32 := Pipeline.Grid.coords_val t 0 (by decide) rfl
    rw [e0, Nat.mod_eq_of_lt (by have := lt96 t; omega)]
  iexists _; isplitr
  swap
  · iexact H7
  ipureintro
  intro e; omega

set_option maxHeartbeats 1000000 in
/-- The body at the last point of a tile. -/
theorem body_third (c : Dev nD) (t : Fin cfg0.N) (h : t.val % 3 = 2) :
    bodyPre m c t ⊢ wp frame (wpE (defs₀ (F := Ideal)) Variants.none c none) Set.univ (bodyAt0 t) (fun _ => bodyPost m c t) := by
  unfold bodyPre bodyPost bodyAt0
  simp only [before_x, before_g, before_w]
  rw [inv_succ, show (base m c).owesAt () t.succ = (base m c).owesAt () t.castSucc from rfl]
  rw [inv_inside m c t (by omega)]
  iintro ⟨⟨HS, Hg⟩, Ho, ⟨%d0, H0⟩, ⟨%d1, H1⟩, ⟨%d2, H2⟩, ⟨%y3, %e3, H3⟩, ⟨%y4, %e4, H4⟩, ⟨%y5, %e5, H5⟩, ⟨%y6, %e6, H6⟩, ⟨%y7, %e7, H7⟩⟩
  have k3 := held_q m c t (by omega) y3 e3
  have k4 := held_k m c t h y4 e4
  have k6 := held_e m c t h y6 e6
  iapply (((runC c (grid0.coords t) _ _ _ _ _ _ _ _ _ _ _ _ _ _ _ _ _ _ (fun e => by have := (first_iff t).mp e; omega) (fun e => by have := (second_iff t).mp e; omega) (fun e => by have := (third_iff t).mp e; omega) ((fourth_iff t).mpr h) (iblk m c 0 t) (iblk m c 1 t) (iblk m c 2 t) (rows m c t)).2.2 y3 y4 y6 Set.univ _))
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexists _; iexact H7
  isplitl [HS]; · iexact HS
  iintro ⟨H0, H1, H2, H3, H4, ⟨%f5, H5⟩, H6, ⟨%f7, H7⟩, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]
  · iexists _; isplitr
    swap
    · iexact H3
    ipureintro
    exact k3
  isplitl [H4]
  · iexists _; isplitr
    swap
    · iexact H4
    ipureintro
    intro _; exact k4
  isplitl [H5]
  · iexists _; isplitr
    swap
    · unfold owns; iexists _; isplitr; swap; · iexact H5
      ipureintro; rfl
    ipureintro
    intro _; show _ = paged (product m c t 2)
    refine (outC5 c _ _ _ _ _ _ _ _ _ _ _ _ _ _ _ _ _ _ _ _ _ _ _ _ _ _ _ _ _).trans ?_
    unfold product; rw [pt_self t 2 h]
  isplitl [H6]
  · iexists _; isplitr
    swap
    · iexact H6
    ipureintro
    intro _; exact k6
  iexists _; isplitr
  swap
  · unfold owns; iexists _; isplitr; swap; · iexact H7
    ipureintro; rfl
  ipureintro
  intro _; show _ = headed (product m c t 2)
  refine (outC7 c _ _ _ _ _ _ _ _ _ _ _ _ _ _ _ _ _ _ _ _ _ _ _ _ _ _ _ _ _).trans ?_
  unfold product; rw [pt_self t 2 h]

/-- The body's row in the table at point `t`'s slots is the body. -/
theorem row (t : Fin cfg0.N) : defs₀ (F := Ideal) .tc cfg0.body (cfg0.bodyArgs t (cfg0.slots t)) = bodyAt0 t := by
  unfold defs₀; rw [Defs.onTc_tc]

/-- The body at every point keeps what is known of the outputs and the invariant. -/
theorem body_keeps (c : Dev nD) : BodyObligationRel (base m c) (defs₀ (F := Ideal)) Variants.none () Set.univ outs (known m c) := fun t => by
  rw [bigSep_W0, bigSep_W0, row]
  have h3 : t.val % 3 = 0 ∨ t.val % 3 = 1 ∨ t.val % 3 = 2 := by omega
  have key : bodyPre m c t ⊢ wp frame (wpE (defs₀ (F := Ideal)) Variants.none c none) Set.univ (bodyAt0 t) (fun _ => bodyPost m c t) := by
    rcases h3 with h | h | h
    · exact body_first m c t h
    · exact body_second m c t h
    · exact body_third m c t h
  exact triple_restated key rfl .rfl fun _ => .rfl

/-! ## The run -/

set_option backward.isDefEq.respectTransparency.types false in
/-- The call ends, from any memory with zero counters, with its arrays as the data say, and with every counter at zero. -/
theorem run : θ_run defs (onTc (τ := τ) (main (F := Ideal))) (s₀ m ρ)
    (fun r => RDat.FramePost (cfgs 0) (data m) (V m) r ∧ r.2.sem = fun _ => 0) :=
  RDat.θ_run_frame_track (Q' := _) cfgs (0 : Fin 1) launch0 defs₀ Variants.none (data m) m ρ main
    (hbody := fun c => (body_keeps m c).toRRel) (hshare := fun c => (base m c).share_full fun _ => rfl)
    (howed := fun _ _ => rfl) (V := V m) (hmain := hmain m Variants.none) (hA := base_A m)
    (hin := fun c => by show _ ⊢ inv m c 0; unfold inv; rw [dif_pos (by rfl)])
    (hout := fun c => by rw [scratch_any]; exact inv_any m c (Fin.last cfg0.N))

/-- The frame: the argument arrays end as they were, and every counter ends at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run m ρ)

end Cert.KProjIdeal.Proj

end
-- ==== Proof.Proj.Words.lean ====
module

public import Idealize.ShloMosaic.Lib.Pointwise

/-! The floor division of a prompt position by the block length 256, as the kernel and as the mathematics compute it in
32-bit words: both are the division of natural numbers. -/

@[expose] public section

open Idealize.ShloMosaic

namespace Cert.KProjIdeal.Proj

/-- The kernel's word arithmetic of a floor division by 256, at the words that a position of the prompt may have. -/
theorem floor_kernel : ∀ n : Fin 16384, Scalar.select (IntOp.andi (IntOp.cmpi .ne (IntOp.subi (BitVec.setWidth 32 (IntOp.cmpi .sgt (BitVec.ofNat 32 n.val) 0#32))
      (BitVec.setWidth 32 (IntOp.cmpi .slt (BitVec.ofNat 32 n.val) 0#32))) 1#32) (IntOp.cmpi .ne (IntOp.remsi .vector (BitVec.ofNat 32 n.val) 256#32) 0#32))
      (IntOp.subi (IntOp.divsi .vector (BitVec.ofNat 32 n.val) 256#32) 1#32) (IntOp.divsi .vector (BitVec.ofNat 32 n.val) 256#32)
    = BitVec.ofNat 32 (n.val / 256) := by
  decide +kernel

/-- The mathematics' word arithmetic of the same division. -/
theorem floor_host : ∀ n : Fin 16384, Scalar.select (IntOp.andi (IntOp.cmpi .ne (if BitVec.ofNat 32 n.val = 0 then 0 else if (BitVec.ofNat 32 n.val).msb = true then -1 else 1) (1 : BitVec 32))
      (IntOp.cmpi .ne (IntOp.remsi .host (BitVec.ofNat 32 n.val) 256#32) 0#32))
      (IntOp.subi (IntOp.divsi .host (BitVec.ofNat 32 n.val) 256#32) 1#32) (IntOp.divsi .host (BitVec.ofNat 32 n.val) 256#32)
    = BitVec.ofNat 32 (n.val / 256) := by
  decide +kernel

end Cert.KProjIdeal.Proj

end
-- ==== Proof.Proj.Value.lean ====
module

public import proofs.«01_k».proof.Defs
public import proofs.«01_k».proof.Proof.Proj.Frame
public import proofs.«01_k».proof.Proof.Proj.Words
public import proofs.«01_k».proof.Proof.Gen.RProjIdeal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.RunRead

/-! The prompt's projection to the attention's queries, keys and values: the five arrays that the call leaves, read at an
index, are the mathematics' arrays. -/

@[expose] public section

set_option maxRecDepth 16384

noncomputable section

open Idealize.ShloMosaic Idealize.ShloMosaic.TcCoe Idealize.SL.Sem
open Idealize.ShloMosaic.Pipeline (Dat RDat)

namespace Cert.KProjIdeal.Proj

open Cert.KProjIdeal Cert.KProjIdeal.Gen

variable (m : (ℓ : Loc nD τ sig) → Buf (Elt Ideal) ℓ)

/-- The block each window is on at a grid point. -/
theorem blocks_at : ∀ t : Fin cfg0.N, win0_0.index t = ![t.val / 3, 0] ∧ win0_1.index t = ![0, 0] ∧ win0_2.index t = ![0, t.val % 3]
    ∧ win0_3.index t = ![t.val / 3, 0] ∧ win0_4.index t = ![t.val / 3, 0, 0, 0] ∧ win0_5.index t = ![t.val / 3, 0, 0, 0]
    ∧ win0_6.index t = ![0, t.val / 3, 0] ∧ win0_7.index t = ![0, t.val / 3, 0] :=
  (by decide +kernel : ∀ t : Fin grid0.N, _)

/-- The quotient and the remainder by three of the `j`-th point of a tile. -/
theorem pt_val (t : Fin cfg0.N) (j : Fin 3) : (pt t j).val / 3 = t.val / 3 ∧ (pt t j).val % 3 = j.val := by
  have := j.isLt
  simp only [pt]
  omega

/-- The projection that the mathematics computes, of the call's arguments. -/
abbrev projection (c : Dev nD) := Cert.RProjIdeal.Read.val_main_v17 (F := Ideal) (m ((c : Thread nD τ).loc main_arg0)) (m ((c : Thread nD τ).loc main_arg1)) (m ((c : Thread nD τ).loc main_arg2))

/-- A tile's product with a column block, at an index, is the projection at the block's place. -/
theorem product_at (c : Dev nD) (t : Fin cfg0.N) (j : Fin 3) (r : Fin 512) (k : Fin 1024) (R : Fin 16384) (N : Fin 3072)
    (hR : R.val = t.val / 3 * 512 + r.val) (hN : N.val = j.val * 1024 + k.val) :
    product m c t j (ix2 r k) = projection m c (ix2 R N) := by
  unfold product rows
  pointwise [k0_pay1, k0_pay2, Cert.RProjIdeal.Read.val_main_v0, Cert.RProjIdeal.Read.val_main_v1, Cert.RProjIdeal.Read.val_main_v2, Cert.RProjIdeal.Read.val_main_v3, Cert.RProjIdeal.Read.val_main_v4, Cert.RProjIdeal.Read.val_main_v5, Cert.RProjIdeal.Read.val_main_v6, Cert.RProjIdeal.Read.val_main_v7, Cert.RProjIdeal.Read.val_main_v8, Cert.RProjIdeal.Read.val_main_v9, Cert.RProjIdeal.Read.val_main_v10, Cert.RProjIdeal.Read.val_main_v11, Cert.RProjIdeal.Read.val_main_v12, Cert.RProjIdeal.Read.val_main_v13, Cert.RProjIdeal.Read.val_main_v14, Cert.RProjIdeal.Read.val_main_v15, Cert.RProjIdeal.Read.val_main_v16, Cert.RProjIdeal.Read.val_main_v17, Cert.RProjIdeal.Read.val_main_cst, Cert.RProjIdeal.Read.val_main_cst_0, Cert.RProjIdeal.Read.val_main_cst_1]
  blk_point [iblk, V, blocks_at (pt t 0), blocks_at (pt t j), pt_val t 0, pt_val t j, hR, hN]

/-- The further columns of the keys: one at the column of the row's block, zero elsewhere. -/
theorem marks_at (t : Fin cfg0.N) (r : Fin 512) (e : Fin 128) (R : Fin 16384) (hR : R.val = t.val / 3 * 512 + r.val) :
    k0_pay8 (F := Ideal) (BitVec.ofNat 32 (t.val / 3)) (ix2 r e) = Cert.RProjIdeal.Read.val_main_v23 (F := Ideal) (ix2 R e) := by
  pointwise [k0_pay8, Cert.RProjIdeal.Read.val_main_v21, Cert.RProjIdeal.Read.val_main_v22, Cert.RProjIdeal.Read.val_main_v23, Cert.RProjIdeal.Read.val_main_c, Cert.RProjIdeal.Read.val_main_call0_v0, Cert.RProjIdeal.Read.val_main_call0_v1, Cert.RProjIdeal.Read.val_main_call0_v2, Cert.RProjIdeal.Read.val_main_call0_v3, Cert.RProjIdeal.Read.val_main_call0_v4, Cert.RProjIdeal.Read.val_main_call0_v5, Cert.RProjIdeal.Read.val_main_call0_v6, Cert.RProjIdeal.Read.val_main_call0_v7, Cert.RProjIdeal.Read.val_main_call0_v8, Cert.RProjIdeal.Read.val_main_call0_v9, Cert.RProjIdeal.Read.val_main_call0_v10, Cert.RProjIdeal.Read.val_main_call0_v11, Cert.RProjIdeal.Read.val_main_call0_v12, Cert.RProjIdeal.Read.val_main_call0_v13, Cert.RProjIdeal.Read.val_main_call0_c, Cert.RProjIdeal.Read.val_main_call0_c_0, Cert.RProjIdeal.Read.val_main_call1_v0, Cert.RProjIdeal.Read.val_main_call1_v1, Cert.RProjIdeal.Read.val_main_call1_v2, Cert.RProjIdeal.Read.val_main_call1_v3, Cert.RProjIdeal.Read.val_main_call1_v4]
  have hw : IntOp.addi (Scalar.muli (BitVec.ofNat 32 (t.val / 3)) 512#32) (BitVec.ofNat 32 r.val) = BitVec.ofNat 32 R.val := by
    rw [hR, BitVec.ofNat_add, BitVec.ofNat_mul]; rfl
  rw [hw]
  refine (congrArg (fun w => Scalar.select (IntOp.cmpi .eq (BitVec.ofNat 32 e.val) w) (1 : EReal) 0) (floor_kernel R)).trans ?_
  refine Eq.trans ?_ (congrArg (fun w => FloatOps.uitofp (F := Ideal) FTy.f32 (IntOp.cmpi .eq w (BitVec.ofNat 32 e.val))) (floor_host R)).symm
  by_cases h : BitVec.ofNat 32 e.val = BitVec.ofNat 32 (R.val / 256)
  · rw [h]
    simp [IntOp.cmpi, Scalar.select, FloatOps.uitofp]
  · have h1 : (BitVec.ofNat 32 e.val == BitVec.ofNat 32 (R.val / 256)) = false := by simpa using h
    have h2 : (BitVec.ofNat 32 (R.val / 256) == BitVec.ofNat 32 e.val) = false := by simpa using Ne.symm h
    simp [IntOp.cmpi, Scalar.select, FloatOps.uitofp, h1, h2]

/-- The queries' array after the run is the mathematics' queries. -/
theorem queries (c : Dev nD) (after : (w : Fin cfg0.W) → Fin cfg0.N → (cfg0.win w).block.Idx → Elt Ideal (cfg0.win w).elt)
    (h : ∀ t, (cfg0.win 3).flush t = true → after 3 t = product m c t 0) :
    ((data m c).withAfter after).arrAt 3 cfg0.N = Cert.RProjIdeal.Read.val_main_v18 (F := Ideal) (m ((c : Thread nD τ).loc main_arg0)) (m ((c : Thread nD τ).loc main_arg1)) (m ((c : Thread nD τ).loc main_arg2)) := by
  refine ((data m c).withAfter after).arrAt_eq_of_covers 3 _ (by decide +kernel) fun t hf y => ?_
  blk_simp
  rw [RDat.withAfter_after, h t hf]
  obtain ⟨R, hR⟩ : ∃ R : Fin 16384, R.val = t.val / 3 * 512 + (y 0).val :=
    ⟨(((cfg0.win 3).blk t).view.emb y) 0, by blk_simp [blocks_at t]⟩
  obtain ⟨N, hN⟩ : ∃ N : Fin 1024, N.val = (y 1).val :=
    ⟨(((cfg0.win 3).blk t).view.emb y) 1, by blk_simp [blocks_at t]⟩
  have place : (((cfg0.win 3).blk t).view.emb y) = ix2 R N := by blk_ext [blocks_at t, hN, hR]
  rw [place]
  pointwise [Cert.RProjIdeal.Read.val_main_v18]
  exact (congrArg (product m c t 0) (show y = ix2 (⟨(y 0).val, (y 0).isLt⟩ : Fin 512) (⟨(y 1).val, (y 1).isLt⟩ : Fin 1024) by blk_ext)).trans
    (product_at m c t 0 _ _ R _ hR (by show _ = 0 * 1024 + _; dsimp only; omega))

/-- The keys' array by pages after the run is the mathematics'. -/
theorem key_pages (c : Dev nD) (after : (w : Fin cfg0.W) → Fin cfg0.N → (cfg0.win w).block.Idx → Elt Ideal (cfg0.win w).elt)
    (h : ∀ t, (cfg0.win 4).flush t = true → after 4 t = paged (product m c t 1)) :
    ((data m c).withAfter after).arrAt 4 cfg0.N = Cert.RProjIdeal.Read.val_main_v29 (F := Ideal) (m ((c : Thread nD τ).loc main_arg0)) (m ((c : Thread nD τ).loc main_arg1)) (m ((c : Thread nD τ).loc main_arg2)) := by
  refine ((data m c).withAfter after).arrAt_eq_of_covers 4 _ (by decide +kernel) fun t hf y => ?_
  blk_simp
  rw [RDat.withAfter_after, h t hf]
  unfold paged
  obtain ⟨a, ha⟩ : ∃ a : Fin 128, a.val = t.val / 3 * 4 + (y 0).val :=
    ⟨(((cfg0.win 4).blk t).view.emb y) 0, by blk_simp [blocks_at t]⟩
  obtain ⟨b, hb⟩ : ∃ b : Fin 8, b.val = (y 1).val := ⟨y 1, rfl⟩
  obtain ⟨d, hd⟩ : ∃ d : Fin 128, d.val = (y 2).val := ⟨y 2, rfl⟩
  obtain ⟨e, he⟩ : ∃ e : Fin 128, e.val = (y 3).val := ⟨y 3, rfl⟩
  have place : (((cfg0.win 4).blk t).view.emb y) = ix4 a b d e := by blk_ext [blocks_at t, ha, hb, hd, he]
  rw [place]
  pointwise [Cert.RProjIdeal.Read.val_main_v19, Cert.RProjIdeal.Read.val_main_v28, Cert.RProjIdeal.Read.val_main_v29]
  exact product_at m c t 1 _ _ _ _ (by dsimp only; omega) (by show _ = 1 * 1024 + _; dsimp only; omega)

/-- The values' array by pages after the run is the mathematics'. -/
theorem value_pages (c : Dev nD) (after : (w : Fin cfg0.W) → Fin cfg0.N → (cfg0.win w).block.Idx → Elt Ideal (cfg0.win w).elt)
    (h : ∀ t, (cfg0.win 5).flush t = true → after 5 t = paged (product m c t 2)) :
    ((data m c).withAfter after).arrAt 5 cfg0.N = Cert.RProjIdeal.Read.val_main_v31 (F := Ideal) (m ((c : Thread nD τ).loc main_arg0)) (m ((c : Thread nD τ).loc main_arg1)) (m ((c : Thread nD τ).loc main_arg2)) := by
  refine ((data m c).withAfter after).arrAt_eq_of_covers 5 _ (by decide +kernel) fun t hf y => ?_
  blk_simp
  rw [RDat.withAfter_after, h t hf]
  unfold paged
  obtain ⟨a, ha⟩ : ∃ a : Fin 128, a.val = t.val / 3 * 4 + (y 0).val :=
    ⟨(((cfg0.win 5).blk t).view.emb y) 0, by blk_simp [blocks_at t]⟩
  obtain ⟨b, hb⟩ : ∃ b : Fin 8, b.val = (y 1).val := ⟨y 1, rfl⟩
  obtain ⟨d, hd⟩ : ∃ d : Fin 128, d.val = (y 2).val := ⟨y 2, rfl⟩
  obtain ⟨e, he⟩ : ∃ e : Fin 128, e.val = (y 3).val := ⟨y 3, rfl⟩
  have place : (((cfg0.win 5).blk t).view.emb y) = ix4 a b d e := by blk_ext [blocks_at t, ha, hb, hd, he]
  rw [place]
  pointwise [Cert.RProjIdeal.Read.val_main_v20, Cert.RProjIdeal.Read.val_main_v30, Cert.RProjIdeal.Read.val_main_v31]
  exact product_at m c t 2 _ _ _ _ (by dsimp only; omega) (by show _ = 2 * 1024 + _; dsimp only; omega)

/-- The keys' array by heads with the marks of their blocks after the run is the mathematics'. -/
theorem key_heads (c : Dev nD) (after : (w : Fin cfg0.W) → Fin cfg0.N → (cfg0.win w).block.Idx → Elt Ideal (cfg0.win w).elt)
    (h : ∀ t, (cfg0.win 6).flush t = true → after 6 t = extended (product m c t 1) (k0_pay8 (BitVec.ofNat 32 (t.val / 3)))) :
    ((data m c).withAfter after).arrAt 6 cfg0.N = Cert.RProjIdeal.Read.val_main_v32 (F := Ideal) (m ((c : Thread nD τ).loc main_arg0)) (m ((c : Thread nD τ).loc main_arg1)) (m ((c : Thread nD τ).loc main_arg2)) := by
  refine ((data m c).withAfter after).arrAt_eq_of_covers 6 _ (by decide +kernel) fun t hf y => ?_
  blk_simp
  rw [RDat.withAfter_after, h t hf]
  unfold extended
  obtain ⟨a, ha⟩ : ∃ a : Fin 8, a.val = (y 0).val := ⟨y 0, rfl⟩
  obtain ⟨R, hR⟩ : ∃ R : Fin 16384, R.val = t.val / 3 * 512 + (y 1).val :=
    ⟨(((cfg0.win 6).blk t).view.emb y) 1, by blk_simp [blocks_at t]⟩
  obtain ⟨d, hd⟩ : ∃ d : Fin 256, d.val = (y 2).val := ⟨y 2, rfl⟩
  have place : (((cfg0.win 6).blk t).view.emb y) = ix3 a R d := by blk_ext [blocks_at t, ha, hR, hd]
  rw [place]
  pointwise [Cert.RProjIdeal.Read.val_main_v19, Cert.RProjIdeal.Read.val_main_v24, Cert.RProjIdeal.Read.val_main_v25, Cert.RProjIdeal.Read.val_main_v26, Cert.RProjIdeal.Read.val_main_v27, Cert.RProjIdeal.Read.val_main_v32]
  by_cases hy : d.val < 128
  · rw [dif_pos hy, dif_pos (hd ▸ hy)]
    exact product_at m c t 1 _ _ _ _ hR (by show _ = 1 * 1024 + _; dsimp only; omega)
  · rw [dif_neg hy, dif_neg (hd ▸ hy)]
    exact (congrArg _ (congrArg (ix2 _) (Fin.ext (by dsimp only; omega)))).trans (marks_at t _ _ R hR)

/-- The values' array by heads after the run is the mathematics'. -/
theorem value_heads (c : Dev nD) (after : (w : Fin cfg0.W) → Fin cfg0.N → (cfg0.win w).block.Idx → Elt Ideal (cfg0.win w).elt)
    (h : ∀ t, (cfg0.win 7).flush t = true → after 7 t = headed (product m c t 2)) :
    ((data m c).withAfter after).arrAt 7 cfg0.N = Cert.RProjIdeal.Read.val_main_v35 (F := Ideal) (m ((c : Thread nD τ).loc main_arg0)) (m ((c : Thread nD τ).loc main_arg1)) (m ((c : Thread nD τ).loc main_arg2)) := by
  refine ((data m c).withAfter after).arrAt_eq_of_covers 7 _ (by decide +kernel) fun t hf y => ?_
  blk_simp
  rw [RDat.withAfter_after, h t hf]
  unfold headed
  obtain ⟨a, ha⟩ : ∃ a : Fin 8, a.val = (y 0).val := ⟨y 0, rfl⟩
  obtain ⟨R, hR⟩ : ∃ R : Fin 16384, R.val = t.val / 3 * 512 + (y 1).val :=
    ⟨(((cfg0.win 7).blk t).view.emb y) 1, by blk_simp [blocks_at t]⟩
  obtain ⟨d, hd⟩ : ∃ d : Fin 128, d.val = (y 2).val := ⟨y 2, rfl⟩
  have place : (((cfg0.win 7).blk t).view.emb y) = ix3 a R d := by blk_ext [blocks_at t, ha, hR, hd]
  rw [place]
  pointwise [Cert.RProjIdeal.Read.val_main_v20, Cert.RProjIdeal.Read.val_main_v33, Cert.RProjIdeal.Read.val_main_v34, Cert.RProjIdeal.Read.val_main_v35]
  exact product_at m c t 2 _ _ _ _ hR (by show _ = 2 * 1024 + _; dsimp only; omega)

end Cert.KProjIdeal.Proj

namespace Cert.Proof

open Cert.KProjIdeal.Gen Cert.KProjIdeal.Proj in
/-- The kernel's queries, keys and values, with the keys and values in the layouts the layer asks for, and the mathematics'
    are equal. -/
theorem proj_values : Cert.algebraic_KProjIdeal_RProjIdeal := by
  intro m g m' g' _ hagree
  refine ⟨fun c => Cert.RProjIdeal.Read.val_main_v18 (F := Ideal) (m ((c.tc : Thread Cert.KProjIdeal.nD Cert.KProjIdeal.τ).loc Cert.KProjIdeal.main_arg0)) (m ((c.tc : Thread Cert.KProjIdeal.nD Cert.KProjIdeal.τ).loc Cert.KProjIdeal.main_arg1)) (m ((c.tc : Thread Cert.KProjIdeal.nD Cert.KProjIdeal.τ).loc Cert.KProjIdeal.main_arg2)), fun c => Cert.RProjIdeal.Read.val_main_v29 (F := Ideal) (m ((c.tc : Thread Cert.KProjIdeal.nD Cert.KProjIdeal.τ).loc Cert.KProjIdeal.main_arg0)) (m ((c.tc : Thread Cert.KProjIdeal.nD Cert.KProjIdeal.τ).loc Cert.KProjIdeal.main_arg1)) (m ((c.tc : Thread Cert.KProjIdeal.nD Cert.KProjIdeal.τ).loc Cert.KProjIdeal.main_arg2)), fun c => Cert.RProjIdeal.Read.val_main_v31 (F := Ideal) (m ((c.tc : Thread Cert.KProjIdeal.nD Cert.KProjIdeal.τ).loc Cert.KProjIdeal.main_arg0)) (m ((c.tc : Thread Cert.KProjIdeal.nD Cert.KProjIdeal.τ).loc Cert.KProjIdeal.main_arg1)) (m ((c.tc : Thread Cert.KProjIdeal.nD Cert.KProjIdeal.τ).loc Cert.KProjIdeal.main_arg2)), fun c => Cert.RProjIdeal.Read.val_main_v32 (F := Ideal) (m ((c.tc : Thread Cert.KProjIdeal.nD Cert.KProjIdeal.τ).loc Cert.KProjIdeal.main_arg0)) (m ((c.tc : Thread Cert.KProjIdeal.nD Cert.KProjIdeal.τ).loc Cert.KProjIdeal.main_arg1)) (m ((c.tc : Thread Cert.KProjIdeal.nD Cert.KProjIdeal.τ).loc Cert.KProjIdeal.main_arg2)), fun c => Cert.RProjIdeal.Read.val_main_v35 (F := Ideal) (m ((c.tc : Thread Cert.KProjIdeal.nD Cert.KProjIdeal.τ).loc Cert.KProjIdeal.main_arg0)) (m ((c.tc : Thread Cert.KProjIdeal.nD Cert.KProjIdeal.τ).loc Cert.KProjIdeal.main_arg1)) (m ((c.tc : Thread Cert.KProjIdeal.nD Cert.KProjIdeal.τ).loc Cert.KProjIdeal.main_arg2)), ?_, ?_⟩
  · refine (θ_run _ _ _).mono (fun r h c => ?_) (run m g)
    obtain ⟨after, hL, hA⟩ := h.1.exists_exact c
    have known_at := fun w ho u hf => (base m c).toRRel_leaves (w := w) ho (hL w u hf)
    exact ⟨(hA 3).trans (queries m c after fun t ht => known_at 3 rfl t ht),
      (hA 4).trans (key_pages m c after fun t ht => known_at 4 rfl t ht (by have := (flush0_4 t).mp ht; omega)),
      (hA 5).trans (value_pages m c after fun t ht => known_at 5 rfl t ht (by have := (flush0_5 t).mp ht; omega)),
      (hA 6).trans (key_heads m c after fun t ht => known_at 6 rfl t ht (by have := (flush0_6 t).mp ht; omega)),
      (hA 7).trans (value_heads m c after fun t ht => known_at 7 rfl t ht (by have := (flush0_7 t).mp ht; omega)),
      ((h.1 c).2 Cert.KProjIdeal.main_arg0 (Pipeline.mem_restRefs_of Cert.KProjIdeal.main_arg0 (by decide) (by decide))).trans (V_main_arg0 m c),
      ((h.1 c).2 Cert.KProjIdeal.main_arg1 (Pipeline.mem_restRefs_of Cert.KProjIdeal.main_arg1 (by decide) (by decide))).trans (V_main_arg1 m c),
      ((h.1 c).2 Cert.KProjIdeal.main_arg2 (Pipeline.mem_restRefs_of Cert.KProjIdeal.main_arg2 (by decide) (by decide))).trans (V_main_arg2 m c)⟩
  · refine (θ_run _ _ _).mono (fun r h c => ?_) (Cert.RProjIdeal.Value.run m' g')
    obtain ⟨h0, h1, h2, h3, h4, harg⟩ := h c
    simp only [← (hagree c).1, ← (hagree c).2.1, ← (hagree c).2.2]
    exact ⟨h0, h1.trans (Cert.RProjIdeal.Read.val_main_v29_eq _ _ _), h2.trans (Cert.RProjIdeal.Read.val_main_v31_eq _ _ _), h3.trans (Cert.RProjIdeal.Read.val_main_v32_eq _ _ _), h4.trans (Cert.RProjIdeal.Read.val_main_v35_eq _ _ _), harg⟩

end Cert.Proof

end
-- ==== Proof.Zm.Value.lean ====
module

public import proofs.«01_k».proof.Defs
public import proofs.«01_k».proof.Proof.Gen.KZmIdeal.Frame
public import proofs.«01_k».proof.Proof.Gen.RZmIdeal.Read
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

/-! The sample group's projection to queries, keys and values: 32 normalised rows, held in a scratch block while three grid
points each multiply them by 1024 columns of the weights. -/

@[expose] public section

set_option maxRecDepth 16384

noncomputable section

open Idealize.ShloMosaic Idealize.ShloMosaic.TcCoe Idealize.SL.Sem
open Idealize.ShloMosaic.Pipeline (Dat)

namespace Cert.KZmIdeal.Zm

open Cert.KZmIdeal Cert.KZmIdeal.Gen

variable (m : (ℓ : Loc nD τ sig) → Buf (Elt Ideal) ℓ)

/-- The block each window is on at a grid point. -/
theorem blocks_at : ∀ t : Fin cfg0.N, win0_0.index t = ![0, 0] ∧ win0_1.index t = ![0, 0] ∧ win0_2.index t = ![0, t.val % 3]
    ∧ win0_3.index t = ![0, t.val % 3] :=
  (by decide +kernel : ∀ t : Fin grid0.N, _)

/-- The scratch block holds, at every grid point, the normalised rows that the run's first point stored. -/
theorem held_eq (c : Dev nD) (t : Fin cfg0.N) : (outsAt0 m c t.val t.isLt).2
    = k0_pay1 (F := Ideal) (iblk m c 0 ⟨3 * (t.val / 3), Pipeline.run_start_lt t⟩) (iblk m c 1 ⟨3 * (t.val / 3), Pipeline.run_start_lt t⟩) :=
  Pipeline.eq_of_write_hold (fun n h => (outsAt0 m c n h).2) 3 (fun t => k0_pay1 (F := Ideal) (iblk m c 0 t) (iblk m c 1 t))
    (fun t h => by rw [outsAt0_A m c t h]; frame_out)
    (fun t h => by rw [outsAt0_B m c t h]; rfl) t

/-- A grid point stores the product of the scratch block and its block of the weights. -/
theorem stored_eq (c : Dev nD) (t : Fin cfg0.N) : (outsAt0 m c t.val t.isLt).1
    = k0_pay2 (F := Ideal) (k0_pay1 (F := Ideal) (iblk m c 0 ⟨3 * (t.val / 3), Pipeline.run_start_lt t⟩) (iblk m c 1 ⟨3 * (t.val / 3), Pipeline.run_start_lt t⟩)) (iblk m c 2 t) := by
  rw [← held_eq m c t]
  by_cases h : t.val % 3 = 0
  · rw [outsAt0_A m c t h]; frame_out
  · rw [outsAt0_B m c t h]; frame_out; simp only [read_unread_whole]; rfl

/-- The result array after the run is the mathematics' result. -/
theorem array_eq (c : Dev nD) : (dats m 0 c).arrAt 3 (cfgs 0).N
    = Cert.RZmIdeal.Read.val_main_v17 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, stored_eq]
  pointwise [k0_pay1, k0_pay2, Cert.RZmIdeal.Read.val_main_v0, Cert.RZmIdeal.Read.val_main_v1, Cert.RZmIdeal.Read.val_main_v2, Cert.RZmIdeal.Read.val_main_v3, Cert.RZmIdeal.Read.val_main_v4, Cert.RZmIdeal.Read.val_main_v5, Cert.RZmIdeal.Read.val_main_v6, Cert.RZmIdeal.Read.val_main_v7, Cert.RZmIdeal.Read.val_main_v8, Cert.RZmIdeal.Read.val_main_v9, Cert.RZmIdeal.Read.val_main_v10, Cert.RZmIdeal.Read.val_main_v11, Cert.RZmIdeal.Read.val_main_v12, Cert.RZmIdeal.Read.val_main_v13, Cert.RZmIdeal.Read.val_main_v14, Cert.RZmIdeal.Read.val_main_v15, Cert.RZmIdeal.Read.val_main_v16, Cert.RZmIdeal.Read.val_main_v17, Cert.RZmIdeal.Read.val_main_cst, Cert.RZmIdeal.Read.val_main_cst_0, Cert.RZmIdeal.Read.val_main_cst_1]
  blk_point [iblk, V, blocks_at t, blocks_at ⟨3 * (t.val / 3), Pipeline.run_start_lt t⟩]

end Cert.KZmIdeal.Zm

namespace Cert.Proof

/-- The kernel's product of the normalised rows and the weights and the mathematics' are equal. -/
theorem zm_values : Cert.algebraic_KZmIdeal_RZmIdeal := by
  pair_intro
  · run_from Cert.KZmIdeal.Gen.run_main m g
  · run_from Cert.RZmIdeal.Value.run m' g'
    exact (Cert.KZmIdeal.Zm.array_eq m c).symm

end Cert.Proof

end
-- ==== Proof.Zs.Value.lean ====
module

public import proofs.«01_k».proof.Defs
public import proofs.«01_k».proof.Proof.Gen.KZsIdeal.Frame
public import proofs.«01_k».proof.Proof.Gen.RZsIdeal.Read
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim
public import Idealize.ShloMosaic.Lib.StableHlo.RunRead

/-! The sample group's projection to the recurrence's columns: 32 normalised rows, held in a scratch block while seven grid
points each multiply them by 512 columns of the weights, zero columns set between the groups of columns. -/

@[expose] public section

set_option maxRecDepth 16384

noncomputable section

open Idealize.ShloMosaic Idealize.ShloMosaic.TcCoe Idealize.SL.Sem
open Idealize.ShloMosaic.Pipeline (Dat)

namespace Cert.KZsIdeal.Zs

open Cert.KZsIdeal Cert.KZsIdeal.Gen

variable (m : (ℓ : Loc nD τ sig) → Buf (Elt Ideal) ℓ)

/-- The block each window is on at a grid point. -/
theorem blocks_at : ∀ t : Fin cfg0.N, win0_0.index t = ![0, 0] ∧ win0_1.index t = ![0, 0] ∧ win0_2.index t = ![0, t.val % 7]
    ∧ win0_3.index t = ![0, t.val % 7] :=
  (by decide +kernel : ∀ t : Fin grid0.N, _)

/-- The scratch block holds, at every grid point, the normalised rows that the run's first point stored. -/
theorem held_eq (c : Dev nD) (t : Fin cfg0.N) : (outsAt0 m c t.val t.isLt).2
    = k0_pay1 (F := Ideal) (iblk m c 0 ⟨7 * (t.val / 7), Pipeline.run_start_lt t⟩) (iblk m c 1 ⟨7 * (t.val / 7), Pipeline.run_start_lt t⟩) :=
  Pipeline.eq_of_write_hold (fun n h => (outsAt0 m c n h).2) 7 (fun t => k0_pay1 (F := Ideal) (iblk m c 0 t) (iblk m c 1 t))
    (fun t h => by rw [outsAt0_A m c t h]; frame_out)
    (fun t h => by rw [outsAt0_B m c t h]; rfl) t

/-- A grid point stores the product of the scratch block and its block of the weights. -/
theorem stored_eq (c : Dev nD) (t : Fin cfg0.N) : (outsAt0 m c t.val t.isLt).1
    = k0_pay2 (F := Ideal) (k0_pay1 (F := Ideal) (iblk m c 0 ⟨7 * (t.val / 7), Pipeline.run_start_lt t⟩) (iblk m c 1 ⟨7 * (t.val / 7), Pipeline.run_start_lt t⟩)) (iblk m c 2 t) := by
  rw [← held_eq m c t]
  by_cases h : t.val % 7 = 0
  · rw [outsAt0_A m c t h]; frame_out
  · rw [outsAt0_B m c t h]; frame_out; simp only [read_unread_whole]; rfl

set_option maxHeartbeats 2000000 in
/-- The arranged weights at a column: the layer's weights at the column's place, or zero in the columns set between. -/
theorem weight_at (c : Dev nD) (k : Fin 2048) (n : Fin 3584) (x : FVec Ideal S1x2048x6432 .f32) (hx : x = m ((c : Thread nD τ).loc main_arg2)) :
    (show EReal from V m c main_v10 (ix2 k n))
    = if h : n.val < 3136 then x (ix3 0 k ⟨n.val, by omega⟩) else if n.val < 3200 then 0
      else if h : n.val < 3264 then x (ix3 0 k ⟨n.val - 64, by omega⟩) else if n.val < 3328 then 0
      else if h : n.val < 3488 then x (ix3 0 k ⟨n.val - 128, by omega⟩) else 0 := by
  show StableHlo.after hostOps0 (fun b => m (c, b)) (Proc.devRef .tc main_v10) (ix2 k n) = _
  after_reads_simp
  dsimp only [Matrix.cons_val]
  pointwise
  after_reads_simp
  pointwise
  rw [hx]
  (repeat' split) <;> first | omega | rfl | blk_ext

/-- A block of the arranged weights at a column: `weight_at` at the column's place in the array. -/
theorem block_at (c : Dev nD) (t : Fin cfg0.N) (k : Fin 2048) (j : Fin 512) (n : Fin 3584) (hn : n.val = t.val % 7 * 512 + j.val)
    (x : FVec Ideal S1x2048x6432 .f32) (hx : x = m ((c : Thread nD τ).loc main_arg2)) :
    (show FVec Ideal S2048x512 .bf16 from iblk m c 2 t) (ix2 k j)
    = if h : n.val < 3136 then x (ix3 0 k ⟨n.val, by omega⟩) else if n.val < 3200 then 0
      else if h : n.val < 3264 then x (ix3 0 k ⟨n.val - 64, by omega⟩) else if n.val < 3328 then 0
      else if h : n.val < 3488 then x (ix3 0 k ⟨n.val - 128, by omega⟩) else 0 := by
  rw [← weight_at m c k n x hx]
  show iblk m c 2 t (ix2 k j) = V m c main_v10 (ix2 k n)
  blk_ext [iblk, blocks_at t, hn]

set_option maxHeartbeats 2000000 in
/-- The result array after the run is the mathematics' result. -/
theorem array_eq (c : Dev nD) : (dats m 0 c).arrAt 3 (cfgs 0).N
    = Cert.RZsIdeal.Read.val_main_v24 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, stored_eq]
  obtain ⟨N, hN⟩ : ∃ N : Fin 3584, N.val = t.val % 7 * 512 + (y 1).val :=
    ⟨(((cfg0.win 3).blk t).view.emb y) 1, by blk_simp [blocks_at t]⟩
  obtain ⟨R, hR⟩ : ∃ R : Fin 32, R.val = (y 0).val :=
    ⟨(((cfg0.win 3).blk t).view.emb y) 0, by blk_simp [blocks_at t]⟩
  have place : (((cfg0.win 3).blk t).view.emb y) = ix2 R N := by blk_ext [blocks_at t, hN, hR]
  rw [place]
  pointwise [k0_pay1, k0_pay2, Cert.RZsIdeal.Read.val_main_v0, Cert.RZsIdeal.Read.val_main_v1, Cert.RZsIdeal.Read.val_main_v2, Cert.RZsIdeal.Read.val_main_v3, Cert.RZsIdeal.Read.val_main_v4, Cert.RZsIdeal.Read.val_main_v5, Cert.RZsIdeal.Read.val_main_v6, Cert.RZsIdeal.Read.val_main_v7, Cert.RZsIdeal.Read.val_main_v8, Cert.RZsIdeal.Read.val_main_v9, Cert.RZsIdeal.Read.val_main_v10, Cert.RZsIdeal.Read.val_main_v11, Cert.RZsIdeal.Read.val_main_v12, Cert.RZsIdeal.Read.val_main_v13, Cert.RZsIdeal.Read.val_main_v14, Cert.RZsIdeal.Read.val_main_v15, Cert.RZsIdeal.Read.val_main_v16, Cert.RZsIdeal.Read.val_main_v17, Cert.RZsIdeal.Read.val_main_v18, Cert.RZsIdeal.Read.val_main_v19, Cert.RZsIdeal.Read.val_main_v20, Cert.RZsIdeal.Read.val_main_v21, Cert.RZsIdeal.Read.val_main_v22, Cert.RZsIdeal.Read.val_main_v23, Cert.RZsIdeal.Read.val_main_v24, Cert.RZsIdeal.Read.val_main_cst, Cert.RZsIdeal.Read.val_main_cst_0, Cert.RZsIdeal.Read.val_main_cst_1, Cert.RZsIdeal.Read.val_main_cst_2, Cert.RZsIdeal.Read.val_main_cst_3, Cert.RZsIdeal.Read.val_main_cst_4]
  have hw : ∀ x : Fin 2048, iblk m c 2 t (ix2 x (y 1)) = _ := fun x => block_at m c t x (y 1) N hN _ rfl
  simp only [hw]
  clear hw
  split_ifs <;> first
    | (exfalso; omega)
    | (simp only [mul_zero, Finset.sum_const_zero]; done)
    | blk_point [iblk, V, blocks_at t, blocks_at ⟨7 * (t.val / 7), Pipeline.run_start_lt t⟩, hR]

end Cert.KZsIdeal.Zs

namespace Cert.Proof

/-- The kernel's product of the normalised rows and the weights and the mathematics' are equal. -/
theorem zs_values : Cert.algebraic_KZsIdeal_RZsIdeal := by
  pair_intro
  · run_from Cert.KZsIdeal.Gen.run_main m g
  · run_from Cert.RZsIdeal.Value.run m' g'
    rw [Cert.RZsIdeal.Read.val_main_v24_eq, (hagree c).1, (hagree c).2.1, (hagree c).2.2]
    exact (Cert.KZsIdeal.Zs.array_eq m c).symm

end Cert.Proof

end
-- ==== Proof.Zp.Value.lean ====
module

public import proofs.«01_k».proof.Defs
public import proofs.«01_k».proof.Proof.Gen.KZpIdeal.Frame
public import proofs.«01_k».proof.Proof.Gen.RZpIdeal.Read
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim
public import Idealize.ShloMosaic.Lib.StableHlo.RunRead

/-! The prompt's projection to the recurrence's columns: 512 normalised rows, held in a scratch block while two grid points
each multiply them by 1792 columns of the weights, zero columns set between the groups of columns. -/

@[expose] public section

set_option maxRecDepth 16384

noncomputable section

open Idealize.ShloMosaic Idealize.ShloMosaic.TcCoe Idealize.SL.Sem
open Idealize.ShloMosaic.Pipeline (Dat)

namespace Cert.KZpIdeal.Zp

open Cert.KZpIdeal Cert.KZpIdeal.Gen

variable (m : (ℓ : Loc nD τ sig) → Buf (Elt Ideal) ℓ)

/-- The block each window is on at a grid point. -/
theorem blocks_at : ∀ t : Fin cfg0.N, win0_0.index t = ![t.val / 2, 0] ∧ win0_1.index t = ![0, 0] ∧ win0_2.index t = ![0, t.val % 2]
    ∧ win0_3.index t = ![t.val / 2, t.val % 2] :=
  (by decide +kernel : ∀ t : Fin grid0.N, _)

/-- The scratch block holds, at every grid point, the normalised rows that the run's first point stored. -/
theorem held_eq (c : Dev nD) (t : Fin cfg0.N) : (outsAt0 m c t.val t.isLt).2
    = k0_pay1 (F := Ideal) (iblk m c 0 ⟨2 * (t.val / 2), Pipeline.run_start_lt t⟩) (iblk m c 1 ⟨2 * (t.val / 2), Pipeline.run_start_lt t⟩) :=
  Pipeline.eq_of_write_hold (fun n h => (outsAt0 m c n h).2) 2 (fun t => k0_pay1 (F := Ideal) (iblk m c 0 t) (iblk m c 1 t))
    (fun t h => by rw [outsAt0_A m c t h]; frame_out)
    (fun t h => by rw [outsAt0_B m c t h]; rfl) t

/-- A grid point stores the product of the scratch block and its block of the weights. -/
theorem stored_eq (c : Dev nD) (t : Fin cfg0.N) : (outsAt0 m c t.val t.isLt).1
    = k0_pay2 (F := Ideal) (k0_pay1 (F := Ideal) (iblk m c 0 ⟨2 * (t.val / 2), Pipeline.run_start_lt t⟩) (iblk m c 1 ⟨2 * (t.val / 2), Pipeline.run_start_lt t⟩)) (iblk m c 2 t) := by
  rw [← held_eq m c t]
  by_cases h : t.val % 2 = 0
  · rw [outsAt0_A m c t h]; frame_out
  · rw [outsAt0_B m c t h]; frame_out; simp only [read_unread_whole]; rfl

set_option maxHeartbeats 2000000 in
/-- The arranged weights at a column: the layer's weights at the column's place, or zero in the columns set between. -/
theorem weight_at (c : Dev nD) (k : Fin 2048) (n : Fin 3584) (x : FVec Ideal S1x2048x6432 .f32) (hx : x = m ((c : Thread nD τ).loc main_arg2)) :
    (show EReal from V m c main_v10 (ix2 k n))
    = if h : n.val < 3136 then x (ix3 0 k ⟨n.val, by omega⟩) else if n.val < 3200 then 0
      else if h : n.val < 3264 then x (ix3 0 k ⟨n.val - 64, by omega⟩) else if n.val < 3328 then 0
      else if h : n.val < 3488 then x (ix3 0 k ⟨n.val - 128, by omega⟩) else 0 := by
  show StableHlo.after hostOps0 (fun b => m (c, b)) (Proc.devRef .tc main_v10) (ix2 k n) = _
  after_reads_simp
  dsimp only [Matrix.cons_val]
  pointwise
  after_reads_simp
  pointwise
  rw [hx]
  (repeat' split) <;> first | omega | rfl | blk_ext

/-- A block of the arranged weights at a column: `weight_at` at the column's place in the array. -/
theorem block_at (c : Dev nD) (t : Fin cfg0.N) (k : Fin 2048) (j : Fin 1792) (n : Fin 3584) (hn : n.val = t.val % 2 * 1792 + j.val)
    (x : FVec Ideal S1x2048x6432 .f32) (hx : x = m ((c : Thread nD τ).loc main_arg2)) :
    (show FVec Ideal S2048x1792 .bf16 from iblk m c 2 t) (ix2 k j)
    = if h : n.val < 3136 then x (ix3 0 k ⟨n.val, by omega⟩) else if n.val < 3200 then 0
      else if h : n.val < 3264 then x (ix3 0 k ⟨n.val - 64, by omega⟩) else if n.val < 3328 then 0
      else if h : n.val < 3488 then x (ix3 0 k ⟨n.val - 128, by omega⟩) else 0 := by
  rw [← weight_at m c k n x hx]
  show iblk m c 2 t (ix2 k j) = V m c main_v10 (ix2 k n)
  blk_ext [iblk, blocks_at t, hn]

set_option maxHeartbeats 2000000 in
/-- The result array after the run is the mathematics' result. -/
theorem array_eq (c : Dev nD) : (dats m 0 c).arrAt 3 (cfgs 0).N
    = Cert.RZpIdeal.Read.val_main_v24 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, stored_eq]
  obtain ⟨N, hN⟩ : ∃ N : Fin 3584, N.val = t.val % 2 * 1792 + (y 1).val :=
    ⟨(((cfg0.win 3).blk t).view.emb y) 1, by blk_simp [blocks_at t]⟩
  obtain ⟨R, hR⟩ : ∃ R : Fin 16384, R.val = t.val / 2 * 512 + (y 0).val :=
    ⟨(((cfg0.win 3).blk t).view.emb y) 0, by blk_simp [blocks_at t]⟩
  have place : (((cfg0.win 3).blk t).view.emb y) = ix2 R N := by blk_ext [blocks_at t, hN, hR]
  rw [place]
  pointwise [k0_pay1, k0_pay2, Cert.RZpIdeal.Read.val_main_v0, Cert.RZpIdeal.Read.val_main_v1, Cert.RZpIdeal.Read.val_main_v2, Cert.RZpIdeal.Read.val_main_v3, Cert.RZpIdeal.Read.val_main_v4, Cert.RZpIdeal.Read.val_main_v5, Cert.RZpIdeal.Read.val_main_v6, Cert.RZpIdeal.Read.val_main_v7, Cert.RZpIdeal.Read.val_main_v8, Cert.RZpIdeal.Read.val_main_v9, Cert.RZpIdeal.Read.val_main_v10, Cert.RZpIdeal.Read.val_main_v11, Cert.RZpIdeal.Read.val_main_v12, Cert.RZpIdeal.Read.val_main_v13, Cert.RZpIdeal.Read.val_main_v14, Cert.RZpIdeal.Read.val_main_v15, Cert.RZpIdeal.Read.val_main_v16, Cert.RZpIdeal.Read.val_main_v17, Cert.RZpIdeal.Read.val_main_v18, Cert.RZpIdeal.Read.val_main_v19, Cert.RZpIdeal.Read.val_main_v20, Cert.RZpIdeal.Read.val_main_v21, Cert.RZpIdeal.Read.val_main_v22, Cert.RZpIdeal.Read.val_main_v23, Cert.RZpIdeal.Read.val_main_v24, Cert.RZpIdeal.Read.val_main_cst, Cert.RZpIdeal.Read.val_main_cst_0, Cert.RZpIdeal.Read.val_main_cst_1, Cert.RZpIdeal.Read.val_main_cst_2, Cert.RZpIdeal.Read.val_main_cst_3, Cert.RZpIdeal.Read.val_main_cst_4]
  have hw : ∀ x : Fin 2048, iblk m c 2 t (ix2 x (y 1)) = _ := fun x => block_at m c t x (y 1) N hN _ rfl
  simp only [hw]
  clear hw
  split_ifs <;> first
    | (exfalso; omega)
    | (simp only [mul_zero, Finset.sum_const_zero]; done)
    | blk_point [iblk, V, blocks_at t, blocks_at ⟨2 * (t.val / 2), Pipeline.run_start_lt t⟩, hR]

end Cert.KZpIdeal.Zp

namespace Cert.Proof

/-- The kernel's product of the normalised rows and the weights and the mathematics' are equal. -/
theorem zp_values : Cert.algebraic_KZpIdeal_RZpIdeal := by
  pair_intro
  · run_from Cert.KZpIdeal.Gen.run_main m g
  · run_from Cert.RZpIdeal.Value.run m' g'
    rw [Cert.RZpIdeal.Read.val_main_v24_eq, (hagree c).1, (hagree c).2.1, (hagree c).2.2]
    exact (Cert.KZpIdeal.Zp.array_eq m c).symm

end Cert.Proof

end
-- ==== Proof.Out.Value.lean ====
module

public import proofs.«01_k».proof.Defs
public import proofs.«01_k».proof.Proof.Gen.KOutIdeal.Frame
public import proofs.«01_k».proof.Proof.Gen.ROutIdeal.Read
public import Idealize.ShloMosaic.Lib.Pipeline.ValueKit
public import Idealize.ShloMosaic.Lib.Pipeline.ReadBack
public import Idealize.ShloMosaic.Lib.Pointwise
public import Idealize.ShloMosaic.Lib.Claim

/-! The output projection of the prompt: each grid point multiplies 512 rows of the two heads' outputs by the two halves of
the projection, normalises the sum, adds the layer's input (the first result) and normalises again (the second result).
Both result arrays are the mathematics'. -/

@[expose] public section

set_option maxRecDepth 16384

noncomputable section

open Idealize.ShloMosaic Idealize.ShloMosaic.TcCoe Idealize.SL.Sem
open Idealize.ShloMosaic.Pipeline (Dat)

namespace Cert.KOutIdeal.Out

open Cert.KOutIdeal Cert.KOutIdeal.Gen

variable (m : (ℓ : Loc nD τ sig) → Buf (Elt Ideal) ℓ)

/-- The block each window is on at a grid point: the arrays of rows move with the point, the weights stay. -/
theorem blocks_at : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![0, 0] ∧ win0_6.index t = ![t.val, 0]
    ∧ win0_7.index t = ![t.val, 0] :=
  (by decide +kernel : ∀ t : Fin grid0.N, _)

/-- The first result array after the run is the layer's input plus the normalised projection. -/
theorem residual_eq (c : Dev nD) : (dats m 0 c).arrAt 6 (cfgs 0).N
    = Cert.ROutIdeal.Read.val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; frame_out
  pointwise [k0_pay2, Cert.ROutIdeal.Read.val_main_v0, Cert.ROutIdeal.Read.val_main_v1, Cert.ROutIdeal.Read.val_main_v2, Cert.ROutIdeal.Read.val_main_v3, Cert.ROutIdeal.Read.val_main_v4, Cert.ROutIdeal.Read.val_main_v5, Cert.ROutIdeal.Read.val_main_v6, Cert.ROutIdeal.Read.val_main_v7, Cert.ROutIdeal.Read.val_main_v8, Cert.ROutIdeal.Read.val_main_v9, Cert.ROutIdeal.Read.val_main_v10, Cert.ROutIdeal.Read.val_main_v11, Cert.ROutIdeal.Read.val_main_v12, Cert.ROutIdeal.Read.val_main_v13, Cert.ROutIdeal.Read.val_main_v14, Cert.ROutIdeal.Read.val_main_v15, Cert.ROutIdeal.Read.val_main_v16, Cert.ROutIdeal.Read.val_main_v17, Cert.ROutIdeal.Read.val_main_v18, Cert.ROutIdeal.Read.val_main_v19,
    Cert.ROutIdeal.Read.val_main_cst, Cert.ROutIdeal.Read.val_main_cst_0, Cert.ROutIdeal.Read.val_main_cst_1]
  blk_point [iblk, V, blocks_at t]

/-- The second result array after the run is the normalised first result. -/
theorem normed_eq (c : Dev nD) : (dats m 0 c).arrAt 7 (cfgs 0).N
    = Cert.ROutIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]; frame_out
  pointwise [k0_pay1, k0_pay2, k0_pay3, Cert.ROutIdeal.Read.val_main_v0, Cert.ROutIdeal.Read.val_main_v1, Cert.ROutIdeal.Read.val_main_v2, Cert.ROutIdeal.Read.val_main_v3, Cert.ROutIdeal.Read.val_main_v4, Cert.ROutIdeal.Read.val_main_v5, Cert.ROutIdeal.Read.val_main_v6, Cert.ROutIdeal.Read.val_main_v7, Cert.ROutIdeal.Read.val_main_v8, Cert.ROutIdeal.Read.val_main_v9, Cert.ROutIdeal.Read.val_main_v10, Cert.ROutIdeal.Read.val_main_v11, Cert.ROutIdeal.Read.val_main_v12, Cert.ROutIdeal.Read.val_main_v13, Cert.ROutIdeal.Read.val_main_v14, Cert.ROutIdeal.Read.val_main_v15, Cert.ROutIdeal.Read.val_main_v16, Cert.ROutIdeal.Read.val_main_v17, Cert.ROutIdeal.Read.val_main_v18, Cert.ROutIdeal.Read.val_main_v19,
    Cert.ROutIdeal.Read.val_main_cst, Cert.ROutIdeal.Read.val_main_cst_0, Cert.ROutIdeal.Read.val_main_cst_1,
    Cert.ROutIdeal.Read.val_main_v20, Cert.ROutIdeal.Read.val_main_v21, Cert.ROutIdeal.Read.val_main_v22, Cert.ROutIdeal.Read.val_main_v23, Cert.ROutIdeal.Read.val_main_v24, Cert.ROutIdeal.Read.val_main_v25, Cert.ROutIdeal.Read.val_main_v26, Cert.ROutIdeal.Read.val_main_v27, Cert.ROutIdeal.Read.val_main_v28, Cert.ROutIdeal.Read.val_main_v29, Cert.ROutIdeal.Read.val_main_v30, Cert.ROutIdeal.Read.val_main_v31, Cert.ROutIdeal.Read.val_main_v32, Cert.ROutIdeal.Read.val_main_v33, Cert.ROutIdeal.Read.val_main_v34,
    Cert.ROutIdeal.Read.val_main_cst_2, Cert.ROutIdeal.Read.val_main_cst_3, Cert.ROutIdeal.Read.val_main_cst_4]
  blk_point [iblk, V, blocks_at t]

end Cert.KOutIdeal.Out

namespace Cert.Proof

/-- The projection's two results and the mathematics' are equal. -/
theorem out_values : Cert.algebraic_KOutIdeal_ROutIdeal := by
  pair_intro
  · run_from Cert.KOutIdeal.Gen.run_main m g
  · run_from Cert.ROutIdeal.Value.run m' g'
    · exact (Cert.KOutIdeal.Out.residual_eq m c).symm
    · rw [Cert.ROutIdeal.Read.val_main_v34_eq, (hagree c).1, (hagree c).2.1, (hagree c).2.2.1, (hagree c).2.2.2.1,
        (hagree c).2.2.2.2.1, (hagree c).2.2.2.2.2]
      exact (Cert.KOutIdeal.Out.normed_eq m c).symm

end Cert.Proof

end
-- ==== Proof.UpS.Value.lean ====
module

public import proofs.«01_k».proof.Defs
public import proofs.«01_k».proof.Proof.Gen.KUpSIdeal.Frame
public import proofs.«01_k».proof.Proof.Gen.RUpSIdeal.Run
public import Idealize.ShloMosaic.Lib.Pipeline.ValueKit
public import Idealize.ShloMosaic.Lib.Pointwise
public import Idealize.ShloMosaic.Lib.Claim

/-! The first half of the sample's feed-forward part: each grid point multiplies the 32 rows by a block of columns, applies
the squared rectifier and writes one block of the result; the whole array is the mathematics' squared rectifier of one
product. -/

@[expose] public section

set_option maxRecDepth 16384

noncomputable section

open Idealize.ShloMosaic Idealize.ShloMosaic.TcCoe Idealize.SL.Sem
open Idealize.ShloMosaic.Pipeline (Dat)

namespace Cert.KUpSIdeal.UpS

open Cert.KUpSIdeal Cert.KUpSIdeal.Gen

variable (m : (ℓ : Loc nD τ sig) → Buf (Elt Ideal) ℓ)

/-- The mathematics' result as a function of the two arguments. -/
def hidden (x : FVec Ideal S32x2048 .bf16) (w : FVec Ideal S1x2048x8192 .f32) : FVec Ideal S32x8192 .bf16 :=
  truncf .bf16 (mulf (maximumf (Host.dotGeneral Cert.RUpSIdeal.dot_S32x2048_S2048x8192_S32x8192_1_0_0_1_n_n none (extf .f32 x Cert.RUpSIdeal.Gen.bitsLt_bf16_f32) (shapeCast _ w Cert.RUpSIdeal.Gen.shapeCasts_S1x2048x8192_S2048x8192)) (broadcastInDim Cert.RUpSIdeal.S32x8192 ![] Cert.RUpSIdeal.Gen.bcast_S_S32x8192 (constant Cert.RUpSIdeal.S_ .f32 0x00000000#32))) (maximumf (Host.dotGeneral Cert.RUpSIdeal.dot_S32x2048_S2048x8192_S32x8192_1_0_0_1_n_n none (extf .f32 x Cert.RUpSIdeal.Gen.bitsLt_bf16_f32) (shapeCast _ w Cert.RUpSIdeal.Gen.shapeCasts_S1x2048x8192_S2048x8192)) (broadcastInDim Cert.RUpSIdeal.S32x8192 ![] Cert.RUpSIdeal.Gen.bcast_S_S32x8192 (constant Cert.RUpSIdeal.S_ .f32 0x00000000#32)))) Cert.RUpSIdeal.Gen.bitsLt_bf16_f32

/-- The block each window is on at a grid point: all 32 rows, and the columns move with the point. -/
theorem blocks_at : ∀ t : Fin cfg0.N, win0_0.index t = ![0, 0] ∧ win0_1.index t = ![0, t.val]
    ∧ win0_2.index t = ![0, t.val] :=
  (by decide +kernel : ∀ t : Fin grid0.N, _)

/-- What a grid point stores at a place of its block is the mathematics' result at that place of the array. -/
theorem stored_eq (c : Dev nD) (t : Fin cfg0.N) (y) :
    k0_pay1 (iblk m c 0 t) (iblk m c 1 t) y
      = hidden (m ((c : Thread nD τ).loc main_arg0)) (m ((c : Thread nD τ).loc main_arg1))
          (((cfg0.win 2).blk t).view.emb y) := by
  pointwise [k0_pay1, hidden]
  blk_point [iblk, V, blocks_at t]

/-- The result array after the run is the mathematics' result. -/
theorem array_eq (c : Dev nD) : (dats m 0 c).arrAt 2 (cfgs 0).N
    = hidden (m ((c : Thread nD τ).loc main_arg0)) (m ((c : Thread nD τ).loc main_arg1)) := by
  refine (dats m 0 c).arrAt_eq_of_covers 2 _ (by decide +kernel) fun t _ y => ?_
  blk_simp
  rw [after0_2]; frame_out
  exact stored_eq m c t y

end Cert.KUpSIdeal.UpS

namespace Cert.Proof

/-- The sample kernel's squared rectified product and the mathematics' are equal. -/
theorem ups_values : Cert.algebraic_KUpSIdeal_RUpSIdeal := by
  pair_intro
  · run_from Cert.KUpSIdeal.Gen.run_main m g
  · run_from Cert.RUpSIdeal.Value.run m' g'
    exact (Cert.KUpSIdeal.UpS.array_eq m c).symm

end Cert.Proof

end
-- ==== Proof.DownS.Value.lean ====
module

public import proofs.«01_k».proof.Defs
public import proofs.«01_k».proof.Proof.Gen.KDownSIdeal.Frame
public import proofs.«01_k».proof.Proof.Gen.RDownSIdeal.Read
public import Idealize.ShloMosaic.Lib.Pipeline.ValueKit
public import Idealize.ShloMosaic.Lib.Pipeline.ReadBack
public import Idealize.ShloMosaic.Lib.Pointwise
public import Idealize.ShloMosaic.Lib.Claim

/-! The second half of the sample's feed-forward part: eight grid points add eight partial products into a scratch block, the
eighth normalises the sum and adds it to the input rows. The eight parts together are one product over all 8192 columns. -/

@[expose] public section

set_option maxRecDepth 16384

noncomputable section

open Idealize.ShloMosaic Idealize.ShloMosaic.TcCoe Idealize.SL.Sem
open Idealize.ShloMosaic.Pipeline (Dat)

namespace Cert.KDownSIdeal.DownS

open Cert.KDownSIdeal Cert.KDownSIdeal.Gen

variable (m : (ℓ : Loc nD τ sig) → Buf (Elt Ideal) ℓ)

/-- The block each window is on at a grid point: all 32 rows, and the contracted axis moves with the point. -/
theorem blocks_at : ∀ t : Fin cfg0.N, win0_0.index t = ![0, t.val] ∧ win0_1.index t = ![t.val, 0]
    ∧ win0_2.index t = ![0, 0] ∧ win0_3.index t = ![0, 0] ∧ win0_4.index t = ![0, 0]
    ∧ t.val < 8 :=
  (by decide +kernel : ∀ t : Fin grid0.N, _)

/-- The scratch block starts at zero. -/
theorem zero_at (j) : k0_pay1 (F := Ideal) j = 0 := by pointwise [k0_pay1]

/-- A grid point adds its part of the product to the scratch block. -/
theorem step_at (acc : FVec Ideal S32x2048 .f32) (h : FVec Ideal S32x1024 .bf16) (w : FVec Ideal S1024x2048 .bf16) (j) :
    k0_pay2 acc h w j = acc j + ∑ k : Fin 1024, h (ix2 (j 0) k) * w (ix2 k (j 1)) := by pointwise [k0_pay2]

/-- What the scratch block holds after the last of the eight points, at a row and a column of the block, is the
whole product at that place of the array. -/
theorem acc_sum (c : Dev nD) (t : Fin cfg0.N) (hf : t.val % 8 = 7) (r : Fin 32) (n : Fin 2048) (R : Fin 32)
    (hR : R.val = r.val) :
    (show FVec Ideal S32x2048 .f32 from (outsAt0 m c t.val t.isLt).2) (ix2 r n)
      = Cert.RDownSIdeal.Read.val_main_v2 (F := Ideal) (m ((c : Thread nD τ).loc main_arg0)) (m ((c : Thread nD τ).loc main_arg1)) (ix2 R n) := by
  show (outsAt0 m c t.val t.isLt).2 (ix2 r n) = _
  rw [Pipeline.eq_sum_fin_of_reset_step_apply_of_flush (fun n h => (outsAt0 m c n h).2) 8 (fun _ => 0) _
    (fun t h j => by rw [outsAt0_A m c t h (by omega)]; frame_out; rw [step_at, zero_at])
    (fun t h j => by
      by_cases h3 : t.val % 8 = 7
      · rw [outsAt0_C m c t h h3]; frame_out; simp only [read_unread_whole]; rw [step_at]
      · rw [outsAt0_B m c t h h3]; frame_out; simp only [read_unread_whole]; rw [step_at]) t hf _, zero_add]
  pointwise [Cert.RDownSIdeal.Read.val_main_v0, Cert.RDownSIdeal.Read.val_main_v1, Cert.RDownSIdeal.Read.val_main_v2]
  refine Fin.sum_mul_add_congr fun s k hl => ?_
  blk_point [iblk, V, blocks_at t, blocks_at ⟨_, Pipeline.run_point_lt_of_flush t hf s⟩, hR]

/-- The result array after the run is the mathematics' result. -/
theorem array_eq (c : Dev nD) : (dats m 0 c).arrAt 4 (cfgs 0).N
    = Cert.RDownSIdeal.Read.val_main_v17 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have h3 : t.val % 8 = 7 := (flush0_4 t).mp hf
  blk_simp
  rw [after0_4]
  have key := fun r n R hR => acc_sum m c t h3 r n R hR
  rw [outsAt0_C m c t (by omega) h3] at key ⊢
  frame_out
  simp only [read_unread_whole]
  have key' : ∀ (r : Fin 32) (n : Fin 2048) (R : Fin 32), R.val = r.val →
      k0_pay2 (outsAt0 m c (t.val - 1) (Nat.lt_of_le_of_lt (Nat.sub_le _ _) t.isLt)).2 (iblk m c 0 t) (iblk m c 1 t) (ix2 r n)
        = Cert.RDownSIdeal.Read.val_main_v2 (F := Ideal) (m ((c : Thread nD τ).loc main_arg0)) (m ((c : Thread nD τ).loc main_arg1)) (ix2 R n) := by
    intro r n R hR
    rw [← key r n R hR]
    frame_out
    simp only [read_unread_whole]
  clear key
  simp only [Cert.RDownSIdeal.Read.val_main_v3, Cert.RDownSIdeal.Read.val_main_v4, Cert.RDownSIdeal.Read.val_main_v5, Cert.RDownSIdeal.Read.val_main_v6, Cert.RDownSIdeal.Read.val_main_v7, Cert.RDownSIdeal.Read.val_main_v8, Cert.RDownSIdeal.Read.val_main_v9, Cert.RDownSIdeal.Read.val_main_v10, Cert.RDownSIdeal.Read.val_main_v11, Cert.RDownSIdeal.Read.val_main_v12, Cert.RDownSIdeal.Read.val_main_v13, Cert.RDownSIdeal.Read.val_main_v14, Cert.RDownSIdeal.Read.val_main_v15, Cert.RDownSIdeal.Read.val_main_v16, Cert.RDownSIdeal.Read.val_main_v17,
    Cert.RDownSIdeal.Read.val_main_cst, Cert.RDownSIdeal.Read.val_main_cst_0, Cert.RDownSIdeal.Read.val_main_cst_1]
  generalize k0_pay2 (outsAt0 m c (t.val - 1) _).2 (iblk m c 0 t) (iblk m c 1 t) = A at key' ⊢
  generalize Cert.RDownSIdeal.Read.val_main_v2 (F := Ideal) _ _ = Z at key' ⊢
  have row : ∀ x, A (ix2 (y 0) x) = Z (ix2 ((((cfg0.win 4).blk t).view.emb y) 0) x) :=
    fun x => key' _ _ _ (by blk_simp [blocks_at t])
  have place : (((cfg0.win 4).blk t).view.emb y) = ix2 ((((cfg0.win 4).blk t).view.emb y) 0) (y 1) := by
    blk_ext [blocks_at t]
  have self : A y = Z (((cfg0.win 4).blk t).view.emb y) := by
    rw [place]; exact (congrArg A (eq_ix2 y)).trans (row (y 1))
  pointwise [k0_pay3]
  simp only [row, self]
  blk_point [iblk, V, blocks_at t]

end Cert.KDownSIdeal.DownS

namespace Cert.Proof

/-- The sample kernel's result of the feed-forward part and the mathematics' are equal. -/
theorem downs_values : Cert.algebraic_KDownSIdeal_RDownSIdeal := by
  pair_intro
  · run_from Cert.KDownSIdeal.Gen.run_main m g
  · run_from Cert.RDownSIdeal.Value.run m' g'
    exact (Cert.KDownSIdeal.DownS.array_eq m c).symm

end Cert.Proof

end
-- ==== Proof.OutS.Value.lean ====
module

public import proofs.«01_k».proof.Defs
public import proofs.«01_k».proof.Proof.Gen.KOutSIdeal.Frame
public import proofs.«01_k».proof.Proof.Gen.ROutSIdeal.Read
public import Idealize.ShloMosaic.Lib.Pipeline.ValueKit
public import Idealize.ShloMosaic.Lib.Pipeline.ReadBack
public import Idealize.ShloMosaic.Lib.Pointwise
public import Idealize.ShloMosaic.Lib.Claim

/-! The output projection of the sample: one grid point multiplies the 32 rows of the two heads' outputs by the two halves of
the projection, normalises the sum, adds the layer's input (the first result) and normalises again (the second result).
Both result arrays are the mathematics'. -/

@[expose] public section

set_option maxRecDepth 16384

noncomputable section

open Idealize.ShloMosaic Idealize.ShloMosaic.TcCoe Idealize.SL.Sem
open Idealize.ShloMosaic.Pipeline (Dat)

namespace Cert.KOutSIdeal.OutS

open Cert.KOutSIdeal Cert.KOutSIdeal.Gen

variable (m : (ℓ : Loc nD τ sig) → Buf (Elt Ideal) ℓ)

/-- The block each window is on at a grid point: each is its whole array. -/
theorem blocks_at : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

/-- The first result array after the run is the layer's input plus the normalised projection. -/
theorem residual_eq (c : Dev nD) : (dats m 0 c).arrAt 6 (cfgs 0).N
    = Cert.ROutSIdeal.Read.val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; frame_out
  pointwise [k0_pay2, Cert.ROutSIdeal.Read.val_main_v0, Cert.ROutSIdeal.Read.val_main_v1, Cert.ROutSIdeal.Read.val_main_v2, Cert.ROutSIdeal.Read.val_main_v3, Cert.ROutSIdeal.Read.val_main_v4, Cert.ROutSIdeal.Read.val_main_v5, Cert.ROutSIdeal.Read.val_main_v6, Cert.ROutSIdeal.Read.val_main_v7, Cert.ROutSIdeal.Read.val_main_v8, Cert.ROutSIdeal.Read.val_main_v9, Cert.ROutSIdeal.Read.val_main_v10, Cert.ROutSIdeal.Read.val_main_v11, Cert.ROutSIdeal.Read.val_main_v12, Cert.ROutSIdeal.Read.val_main_v13, Cert.ROutSIdeal.Read.val_main_v14, Cert.ROutSIdeal.Read.val_main_v15, Cert.ROutSIdeal.Read.val_main_v16, Cert.ROutSIdeal.Read.val_main_v17, Cert.ROutSIdeal.Read.val_main_v18, Cert.ROutSIdeal.Read.val_main_v19,
    Cert.ROutSIdeal.Read.val_main_cst, Cert.ROutSIdeal.Read.val_main_cst_0, Cert.ROutSIdeal.Read.val_main_cst_1]
  blk_point [iblk, V, blocks_at t]

/-- The second result array after the run is the normalised first result. -/
theorem normed_eq (c : Dev nD) : (dats m 0 c).arrAt 7 (cfgs 0).N
    = Cert.ROutSIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]; frame_out
  pointwise [k0_pay1, k0_pay2, k0_pay3, Cert.ROutSIdeal.Read.val_main_v0, Cert.ROutSIdeal.Read.val_main_v1, Cert.ROutSIdeal.Read.val_main_v2, Cert.ROutSIdeal.Read.val_main_v3, Cert.ROutSIdeal.Read.val_main_v4, Cert.ROutSIdeal.Read.val_main_v5, Cert.ROutSIdeal.Read.val_main_v6, Cert.ROutSIdeal.Read.val_main_v7, Cert.ROutSIdeal.Read.val_main_v8, Cert.ROutSIdeal.Read.val_main_v9, Cert.ROutSIdeal.Read.val_main_v10, Cert.ROutSIdeal.Read.val_main_v11, Cert.ROutSIdeal.Read.val_main_v12, Cert.ROutSIdeal.Read.val_main_v13, Cert.ROutSIdeal.Read.val_main_v14, Cert.ROutSIdeal.Read.val_main_v15, Cert.ROutSIdeal.Read.val_main_v16, Cert.ROutSIdeal.Read.val_main_v17, Cert.ROutSIdeal.Read.val_main_v18, Cert.ROutSIdeal.Read.val_main_v19,
    Cert.ROutSIdeal.Read.val_main_cst, Cert.ROutSIdeal.Read.val_main_cst_0, Cert.ROutSIdeal.Read.val_main_cst_1,
    Cert.ROutSIdeal.Read.val_main_v20, Cert.ROutSIdeal.Read.val_main_v21, Cert.ROutSIdeal.Read.val_main_v22, Cert.ROutSIdeal.Read.val_main_v23, Cert.ROutSIdeal.Read.val_main_v24, Cert.ROutSIdeal.Read.val_main_v25, Cert.ROutSIdeal.Read.val_main_v26, Cert.ROutSIdeal.Read.val_main_v27, Cert.ROutSIdeal.Read.val_main_v28, Cert.ROutSIdeal.Read.val_main_v29, Cert.ROutSIdeal.Read.val_main_v30, Cert.ROutSIdeal.Read.val_main_v31, Cert.ROutSIdeal.Read.val_main_v32, Cert.ROutSIdeal.Read.val_main_v33, Cert.ROutSIdeal.Read.val_main_v34,
    Cert.ROutSIdeal.Read.val_main_cst_2, Cert.ROutSIdeal.Read.val_main_cst_3, Cert.ROutSIdeal.Read.val_main_cst_4]
  blk_point [iblk, V, blocks_at t]

end Cert.KOutSIdeal.OutS

namespace Cert.Proof

/-- The sample projection's two results and the mathematics' are equal. -/
theorem outs_values : Cert.algebraic_KOutSIdeal_ROutSIdeal := by
  pair_intro
  · run_from Cert.KOutSIdeal.Gen.run_main m g
  · run_from Cert.ROutSIdeal.Value.run m' g'
    · exact (Cert.KOutSIdeal.OutS.residual_eq m c).symm
    · rw [Cert.ROutSIdeal.Read.val_main_v34_eq, (hagree c).1, (hagree c).2.1, (hagree c).2.2.1, (hagree c).2.2.2.1,
        (hagree c).2.2.2.2.1, (hagree c).2.2.2.2.2]
      exact (Cert.KOutSIdeal.OutS.normed_eq m c).symm

end Cert.Proof

end
-- ==== Proof.Sel.Rounds.lean ====
module

public import Idealize.ShloMosaic.Lib.SortFacts
public import Idealize.ShloMosaic.Lib.Pointwise

/-! The three greatest of a list of extended reals, taken two ways: as the first three places of a stable sort, greater first,
and by three rounds that each take the first place of the greatest value and overwrite it by minus infinity. -/

@[expose] public section

noncomputable section

open Idealize.ShloMosaic

namespace Cert.Sel

variable {n : ℕ}

/-- Place `a` comes before place `b`: its value is greater, or equal and the place is lower. -/
abbrev Above (g : Fin n → EReal) (a b : Fin n) : Prop := g b < g a ∨ (g b = g a ∧ a < b)

/-- Inserting a place lower than all of an ordered list's leaves the list ordered. -/
theorem insert_ordered (g : Fin n → EReal) (R : Fin n → Fin n → Bool) (hR : ∀ a b, R a b = true ↔ g b < g a) (a : Fin n)
    (l : List (Fin n)) (ha : ∀ b ∈ l, a < b) (hl : l.Pairwise (Above g)) : (insertBefore R a l).Pairwise (Above g) := by
  induction l with
  | nil => exact List.pairwise_singleton _ _
  | cons b l ih =>
    rw [List.pairwise_cons] at hl
    unfold insertBefore
    split
    · rename_i h
      refine List.pairwise_cons.2 ⟨fun c hc => ?_, ih (fun c hc => ha c (List.mem_cons_of_mem b hc)) hl.2⟩
      rcases List.mem_cons.1 ((perm_insertBefore R a l).mem_iff.1 hc) with rfl | hc'
      · exact .inl ((hR _ _).1 h)
      · exact hl.1 c hc'
    · rename_i h
      have hba : g b ≤ g a := not_lt.1 fun q => h ((hR _ _).2 q)
      have step : ∀ c ∈ b :: l, g c ≤ g b → Above g a c := fun c hc hcb =>
        (lt_or_eq_of_le (hcb.trans hba)).imp id fun e => ⟨e, ha c hc⟩
      refine List.pairwise_cons.2 ⟨fun c hc => step c hc ?_, List.pairwise_cons.2 hl⟩
      rcases List.mem_cons.1 hc with rfl | hc'
      · exact le_rfl
      · rcases hl.1 c hc' with q | q
        · exact q.le
        · exact q.1.le

/-- A stable sort of an ascending list of places is ordered. -/
theorem sort_ordered (g : Fin n → EReal) (R : Fin n → Fin n → Bool) (hR : ∀ a b, R a b = true ↔ g b < g a)
    (l : List (Fin n)) (hl : l.Pairwise (· < ·)) : (stableSort R l).Pairwise (Above g) := by
  induction l with
  | nil => exact List.Pairwise.nil
  | cons a l ih =>
    rw [List.pairwise_cons] at hl
    unfold stableSort
    exact insert_ordered g R hR a _ (fun b hb => hl.1 b ((perm_stableSort R l).mem_iff.1 hb)) (ih hl.2)

/-- An earlier place of the sort comes before a later one. -/
theorem sorted_above (g : Fin n → EReal) (R : Fin n → Fin n → Bool) (hR : ∀ a b, R a b = true ↔ g b < g a) (i j : Fin n)
    (hij : i < j) : Above g (sortedFrom R i) (sortedFrom R j) := by
  have hp : ∀ a b : Fin (sortPositions n R).length, a < b → Above g ((sortPositions n R).get a) ((sortPositions n R).get b) :=
    List.pairwise_iff_get.1 (sort_ordered g R hR (List.finRange n) (List.pairwise_lt_finRange n))
  unfold sortedFrom
  exact hp _ _ (by simp only [Fin.lt_def, Fin.val_cast]; exact hij)

/-- The place the sort puts at `k` is above every place not put at or before `k`. -/
theorem above_rest (g : Fin n → EReal) (R : Fin n → Fin n → Bool) (hR : ∀ a b, R a b = true ↔ g b < g a) (k j : Fin n)
    (hj : ∀ i, i ≤ k → j ≠ sortedFrom R i) : Above g (sortedFrom R k) j := by
  obtain ⟨i, rfl⟩ := sortedFrom_surjective R j
  refine sorted_above g R hR k i (not_le.1 fun q => hj i q rfl)

/-- The first place of the greatest value is the one above all others: what a round takes. -/
theorem round_eq (g : Fin 64 → EReal) (p : Fin 64) (hp : ∀ j, j ≠ p → Above g p j) (w : Fin 64 → BitVec 32)
    (hw : ∀ k, w k = if g k = Finset.univ.fold max ⊥ g then BitVec.ofNat 32 k.val else 64#32) :
    Finset.univ.fold IntOp.minsi 2147483647#32 w = BitVec.ofNat 32 p.val := by
  have hM : Finset.univ.fold max ⊥ g = g p := by
    refine le_antisymm ?_ ((Finset.le_fold_max _).2 (.inr ⟨p, Finset.mem_univ _, le_rfl⟩))
    refine (Finset.fold_max_le _).2 ⟨bot_le, fun j _ => ?_⟩
    by_cases e : j = p
    · rw [e]
    · rcases hp j e with q | q
      · exact q.le
      · exact q.1.le
  have hn : ∀ k : Fin 64, (BitVec.ofNat 32 k.val).toInt = (k.val : ℤ) := by decide
  have hi : ∀ x y : BitVec 32, (IntOp.minsi x y).toInt = min x.toInt y.toInt := fun x y => by
    unfold IntOp.minsi
    by_cases q : x.slt y
    · rw [if_pos q]; simp only [BitVec.slt, decide_eq_true_eq] at q; omega
    · rw [if_neg q]; simp only [BitVec.slt, decide_eq_true_eq] at q; omega
  apply BitVec.eq_of_toInt_eq
  rw [← Finset.fold_hom (op' := min) hi, hn]
  have hv : ∀ k, (w k).toInt = if g k = g p then (k.val : ℤ) else 64 := fun k => by
    rw [hw, hM]; split
    · exact hn k
    · rfl
  refine le_antisymm ?_ ?_
  · exact (Finset.fold_min_le _).2 (.inr ⟨p, Finset.mem_univ _, by rw [hv, if_pos rfl]⟩)
  · refine (Finset.le_fold_min _).2 ⟨by have := p.isLt; show (p.val : ℤ) ≤ 2147483647; omega, fun k _ => ?_⟩
    rw [hv]
    have := p.isLt
    split
    · rename_i e
      by_cases ek : k = p
      · rw [ek]
      · rcases hp k ek with q | q
        · exact absurd e q.ne
        · have := Fin.lt_def.1 q.2; omega
    · omega

/-- What the three rounds take are the first three places of the sort, where no value is minus infinity. -/
theorem rounds_eq (g g₁ g₂ : Fin 64 → EReal) (R : Fin 64 → Fin 64 → Bool) (hR : ∀ a b, R a b = true ↔ g b < g a)
    (hg : ∀ j, g j ≠ ⊥) (s : Fin 64 → Fin 64) (hs : sortedFrom R = s)
    (h₁ : ∀ j, g₁ j = if j = s 0 then ⊥ else g j) (h₂ : ∀ j, g₂ j = if j = s 1 then ⊥ else g₁ j) :
    (∀ j, j ≠ s 0 → Above g (s 0) j) ∧ (∀ j, j ≠ s 1 → Above g₁ (s 1) j) ∧ (∀ j, j ≠ s 2 → Above g₂ (s 2) j) := by
  have inj : Function.Injective s := hs ▸ sortedFrom_injective R
  have rest : ∀ k j : Fin 64, (∀ i, i ≤ k → j ≠ s i) → Above g (s k) j := fun k j h => by
    subst hs; exact above_rest g R hR k j h
  clear hs hR
  have n10 : s 1 ≠ s 0 := fun e => absurd (inj e) (by decide)
  have n20 : s 2 ≠ s 0 := fun e => absurd (inj e) (by decide)
  have n21 : s 2 ≠ s 1 := fun e => absurd (inj e) (by decide)
  have le0 : ∀ i : Fin 64, i ≤ 0 → i = 0 := by decide
  have le1 : ∀ i : Fin 64, i ≤ 1 → i = 0 ∨ i = 1 := by decide
  have le2 : ∀ i : Fin 64, i ≤ 2 → i = 0 ∨ i = 1 ∨ i = 2 := by decide
  have v1 : g₁ (s 1) = g (s 1) := by rw [h₁, if_neg n10]
  have v2 : g₂ (s 2) = g (s 2) := by rw [h₂, if_neg n21, h₁, if_neg n20]
  refine ⟨fun j hj => rest 0 j fun i hi => ?_, fun j hj => ?_, fun j hj => ?_⟩
  · rw [le0 i hi]; exact hj
  · by_cases e0 : j = s 0
    · exact .inl (by rw [v1, h₁, if_pos e0]; exact bot_lt_iff_ne_bot.2 (hg _))
    · have e : g₁ j = g j := by rw [h₁, if_neg e0]
      unfold Above
      rw [v1, e]
      refine rest 1 j fun i hi => ?_
      rcases le1 i hi with rfl | rfl <;> assumption
  · by_cases e1 : j = s 1
    · exact .inl (by rw [v2, h₂, if_pos e1]; exact bot_lt_iff_ne_bot.2 (hg _))
    · by_cases e0 : j = s 0
      · exact .inl (by rw [v2, h₂, if_neg e1, h₁, if_pos e0]; exact bot_lt_iff_ne_bot.2 (hg _))
      · have e : g₂ j = g j := by rw [h₂, if_neg e1, h₁, if_neg e0]
        unfold Above
        rw [v2, e]
        refine rest 2 j fun i hi => ?_
        rcases le2 i hi with rfl | rfl | rfl <;> assumption

end Cert.Sel

end
-- ==== Proof.Sel.Value.lean ====
module

public import proofs.«01_k».proof.Defs
public import proofs.«01_k».proof.Proof.Gen.KSelIdeal.Frame
public import proofs.«01_k».proof.Proof.Gen.RSelIdeal.Read
public import proofs.«01_k».proof.Proof.Gen.Pre_select_inputs
public import proofs.«01_k».proof.Proof.Attend.Value
public import proofs.«01_k».proof.Proof.Sel.Rounds
public import Idealize.ShloMosaic.Lib.Pipeline.ValueKit
public import Idealize.ShloMosaic.Lib.Pipeline.ReadBack
public import Idealize.ShloMosaic.Lib.Pointwise
public import Idealize.ShloMosaic.Lib.Claim

/-! The sample group's selection of past blocks: each grid point scores one batch entry's 64 blocks against its query, head by
head, and takes the three greatest by three rounds. The mathematics sorts the scores and keeps the first three places. -/

@[expose] public section

set_option maxRecDepth 16384

noncomputable section

open Idealize.ShloMosaic Idealize.ShloMosaic.TcCoe Idealize.SL.Sem
open Idealize.ShloMosaic.Pipeline (Dat)

namespace Cert.KSelIdeal.Sel

open Cert.KSelIdeal Cert.KSelIdeal.Gen Cert.Sel

variable (m : (ℓ : Loc nD τ sig) → Buf (Elt Ideal) ℓ)

/-- The block each window is on at a grid point: the point's batch entry. -/
theorem blocks_at : ∀ t : Fin cfg0.N, win0_0.index t = ![t.val, 0, 0, 0] ∧ win0_1.index t = ![t.val, 0, 0]
    ∧ win0_2.index t = ![t.val, 0, 0] :=
  (by decide +kernel : ∀ t : Fin grid0.N, _)

/-- The mathematics' score of a block for a batch entry and a head. -/
def gate (x0 : FVec Ideal S32x128x8x128 .f32) (x1 : FVec Ideal S32x8x128 .f32) (n : Fin 32) (h : Fin 8) (j : Fin 64) : EReal :=
  ∑ d : Fin 128, x1 (ix3 n h d) * Ideal.div (∑ e : Fin 2, x0 (ix4 n ⟨j.val * 2 + e.val, by omega⟩ h d)) (Ideal.ofBits .f32 0x43800000#32)

/-- The order the mathematics sorts a batch entry's and a head's blocks by: the greater score first. -/
def before (x0 : FVec Ideal S32x128x8x128 .f32) (x1 : FVec Ideal S32x8x128 .f32) (n : Fin 32) (h : Fin 8) (a b : Fin 64) : Bool :=
  Ideal.cmp .ogt (gate x0 x1 n h a) (gate x0 x1 n h b) == 1#1

/-- The order is that of the scores. -/
theorem before_iff (x0 : FVec Ideal S32x128x8x128 .f32) (x1 : FVec Ideal S32x8x128 .f32) (n : Fin 32) (h : Fin 8) (a b : Fin 64) :
    before x0 x1 n h a b = true ↔ gate x0 x1 n h b < gate x0 x1 n h a := by
  simp only [before, Ideal.cmp, beq_iff_eq]
  by_cases q : gate x0 x1 n h b < gate x0 x1 n h a <;> simp [q]

/-- The word of 256, and that of its inverse. -/
theorem ofBits_256 : Ideal.ofBits .f32 0x43800000#32 = ((256 : ℝ) : EReal) := by
  simp [Ideal.ofBits, Ideal.ieee, -EReal.coe_mul]; norm_num
@[inherit_doc ofBits_256] theorem ofBits_inv : Ideal.ofBits .f32 0x3B800000#32 = ((1 / 256 : ℝ) : EReal) := by
  simp [Ideal.ofBits, Ideal.ieee, -EReal.coe_mul]; norm_num

/-- Dividing by 256 is multiplying by its inverse. -/
theorem div_256 (x : EReal) : Ideal.div x (Ideal.ofBits .f32 0x43800000#32) = x * Ideal.ofBits .f32 0x3B800000#32 := by
  rw [ofBits_256, ofBits_inv, Ideal.div_coe (by norm_num)]

/-- The mathematics' scores are the reference's product, read at a place. -/
theorem gate_eq (x0 : FVec Ideal S32x128x8x128 .f32) (x1 : FVec Ideal S32x8x128 .f32) (n : Fin 32) (h : Fin 8) (j : Fin 64) :
    Cert.RSelIdeal.Read.val_main_v5 (F := Ideal) x0 x1 (ix3 n h j) = gate x0 x1 n h j := by
  unfold gate
  pointwise [Cert.RSelIdeal.Read.val_main_v0, Cert.RSelIdeal.Read.val_main_v1, Cert.RSelIdeal.Read.val_main_v2,
    Cert.RSelIdeal.Read.val_main_v3, Cert.RSelIdeal.Read.val_main_v4, Cert.RSelIdeal.Read.val_main_v5,
    Cert.RSelIdeal.Read.val_main_cst, Cert.RSelIdeal.Read.val_main_cst_0]

/-- A place of the fiber along the last axis. -/
theorem along_last {s : Fin 64} (n : Fin 32) (h : Fin 8) (k : Fin 64) :
    (ix3 n h s : Cert.RSelIdeal.S32x8x64.Idx).along 2 k = ix3 n h k := by
  funext a; fin_cases a <;> rfl

/-- The mathematics' result is the place its sort puts first, second and third. -/
theorem result_eq (x0 : FVec Ideal S32x128x8x128 .f32) (x1 : FVec Ideal S32x8x128 .f32) (n : Fin 32) (s : Fin 3) (h : Fin 8) :
    Cert.RSelIdeal.Read.val_main_v6 (F := Ideal) x0 x1 (ix3 n s h)
      = BitVec.ofNat 32 (sortedFrom (before x0 x1 n h) ⟨s.val, by omega⟩).val := by
  pointwise [Cert.RSelIdeal.Read.val_main_v6, Cert.RSelIdeal.Read.val_main_indices, Host.topK, Host.sort2]
  simp only [along_last, gate_eq]
  rfl

/-- The kernel's scores of a block of page sums and a block of queries are the mathematics'. -/
theorem scores_eq (x0 : FVec Ideal S32x128x8x128 .f32) (x1 : FVec Ideal S32x8x128 .f32) (n : Fin 32)
    (v0 : Vec Ideal S1x128x8x128 .f32) (v6 : Vec Ideal S1x8x128 .f32)
    (h0 : ∀ p h d, v0 (ix4 0 p h d) = x0 (ix4 n p h d)) (h6 : ∀ h d, v6 (ix3 0 h d) = x1 (ix3 n h d)) (j : Fin 64) (h : Fin 8) :
    k0_pay2 (F := Ideal) v0 v6 (ix2 j h) = gate x0 x1 n h j := by
  unfold gate
  pointwise [k0_pay2]
  refine Finset.sum_congr rfl fun d _ => ?_
  rw [div_256, mul_comm (x1 _), h6]
  simp only [h0]

/-- Three rounds of the kernel on a block of scores take the first three places of the sort. -/
theorem picks_eq (x0 : FVec Ideal S32x128x8x128 .f32) (x1 : FVec Ideal S32x8x128 .f32) (n : Fin 32)
    (v0 : Vec Ideal S1x128x8x128 .f32) (v6 : Vec Ideal S1x8x128 .f32)
    (h0 : ∀ p h d, v0 (ix4 0 p h d) = x0 (ix4 n p h d)) (h6 : ∀ h d, v6 (ix3 0 h d) = x1 (ix3 n h d)) (h : Fin 8)
    (hg : ∀ j, gate x0 x1 n h j ≠ ⊥) (s : Fin 3) :
    k0_pay1 (F := Ideal) (iota .tc S64x8 32 [0] iota_S64x8_d0_w32) (k0_pay3 v0 v6) (k0_pay5 v0 v6) (k0_pay6 v0 v6) (k0_pay7 v0 v6) (ix3 0 s h)
      = BitVec.ofNat 32 (sortedFrom (before x0 x1 n h) ⟨s.val, by omega⟩).val := by
  obtain ⟨σ, hσ⟩ : ∃ σ, sortedFrom (before x0 x1 n h) = σ := ⟨_, rfl⟩
  have word : ∀ a b : Fin 64, IntOp.cmpi .eq (BitVec.ofNat 32 a.val) (BitVec.ofNat 32 b.val) = if a = b then 1#1 else 0#1 := by decide
  have pick : ∀ (a b : Fin 64) (x y : EReal), Scalar.select (IntOp.cmpi .eq (BitVec.ofNat 32 a.val) (BitVec.ofNat 32 b.val)) x y
      = if a = b then x else y := fun a b x y => by
    rw [word]; split <;> rfl
  have e2 : ∀ j, k0_pay2 (F := Ideal) v0 v6 (ix2 j h) = gate x0 x1 n h j := fun j => scores_eq x0 x1 n v0 v6 h0 h6 j h
  obtain ⟨b0, b1, b2⟩ := rounds_eq (gate x0 x1 n h) (fun j => if j = σ 0 then ⊥ else gate x0 x1 n h j)
    (fun j => if j = σ 1 then ⊥ else if j = σ 0 then ⊥ else gate x0 x1 n h j) (before x0 x1 n h) (before_iff x0 x1 n h) hg σ hσ
    (fun _ => rfl) (fun _ => rfl)
  have e3 : k0_pay3 (F := Ideal) v0 v6 (ix2 0 h) = BitVec.ofNat 32 (σ 0).val := by
    pointwise [k0_pay3]
    simp only [e2, Cert.Attend.ofBits_bot]
    exact round_eq _ _ b0 _ fun _ => rfl
  have e4 : ∀ j, k0_pay4 (F := Ideal) v0 v6 (ix2 j h) = if j = σ 0 then ⊥ else gate x0 x1 n h j := fun j => by
    pointwise [k0_pay4]
    rw [e3, e2, pick, Cert.Attend.ofBits_bot]
  have e5 : k0_pay5 (F := Ideal) v0 v6 (ix2 0 h) = BitVec.ofNat 32 (σ 1).val := by
    pointwise [k0_pay5]
    simp only [e4, Cert.Attend.ofBits_bot]
    exact round_eq _ _ b1 _ fun _ => rfl
  have e6 : ∀ j, k0_pay6 (F := Ideal) v0 v6 (ix2 j h) = if j = σ 1 then ⊥ else if j = σ 0 then ⊥ else gate x0 x1 n h j := fun j => by
    pointwise [k0_pay6]
    rw [e5, e4, pick, Cert.Attend.ofBits_bot]
  rw [hσ]
  pointwise [k0_pay1, k0_pay7]
  simp only [e6, Cert.Attend.ofBits_bot]
  fin_cases s
  · exact e3
  · exact e5
  · rw [dif_neg (by decide), dif_neg (by decide)]
    exact round_eq _ _ b2 _ fun _ => rfl

/-- The arguments are finite. -/
abbrev Finite2 (x0 : FVec Ideal S32x128x8x128 .f32) (x1 : FVec Ideal S32x8x128 .f32) : Prop :=
  (∀ i, x0 i ≠ (⊥ : EReal) ∧ x0 i ≠ (⊤ : EReal)) ∧ (∀ i, x1 i ≠ (⊥ : EReal) ∧ x1 i ≠ (⊤ : EReal))

/-- Finite arguments have finite scores. -/
theorem gate_fin (x0 : FVec Ideal S32x128x8x128 .f32) (x1 : FVec Ideal S32x8x128 .f32) (hF : Finite2 x0 x1) (n : Fin 32) (h : Fin 8)
    (j : Fin 64) : gate x0 x1 n h j ≠ ⊥ := by
  have one : (1 : EReal) ≠ ⊥ ∧ (1 : EReal) ≠ ⊤ := ⟨EReal.coe_ne_bot 1, EReal.coe_ne_top 1⟩
  have inv : Ideal.ofBits .f32 0x3B800000#32 ≠ ⊥ ∧ Ideal.ofBits .f32 0x3B800000#32 ≠ ⊤ := by
    rw [ofBits_inv]; exact ⟨EReal.coe_ne_bot _, EReal.coe_ne_top _⟩
  have mean : ∀ f : Fin 2 → EReal, (∀ e, f e ≠ ⊥ ∧ f e ≠ ⊤) →
      Ideal.div (∑ e, f e) (Ideal.ofBits .f32 0x43800000#32) ≠ ⊥ ∧ Ideal.div (∑ e, f e) (Ideal.ofBits .f32 0x43800000#32) ≠ ⊤ := fun f hf => by
    have := Cert.Attend.score_fin f (fun _ => 1) _ inv hf fun _ => one
    simp only [mul_one] at this
    rw [div_256]; exact this
  have := (Cert.Attend.score_fin _ _ 1 one (fun d => hF.2 (ix3 n h d))
    fun d => mean (fun e => x0 (ix4 n ⟨j.val * 2 + e.val, by omega⟩ h d)) fun e => hF.1 _).1
  rwa [mul_one] at this

/-- The result array after the run is the mathematics' result, where the arguments are finite. -/
theorem array_eq (c : Dev nD) (hF : Finite2 (m ((c : Thread nD τ).loc main_arg0)) (m ((c : Thread nD τ).loc main_arg1))) :
    (dats m 0 c).arrAt 2 (cfgs 0).N
      = Cert.RSelIdeal.Read.val_main_v6 (F := Ideal) (m ((c : Thread nD τ).loc main_arg0)) (m ((c : Thread nD τ).loc main_arg1)) := by
  refine (dats m 0 c).arrAt_eq_of_covers 2 _ (by decide +kernel) fun t _ y => ?_
  have ht : t.val < 32 := lt_of_lt_of_eq t.isLt (by decide +kernel : grid0.N = 32)
  blk_simp
  rw [after0_2]; frame_out
  have place : ((cfg0.win 2).blk t).view.emb y = ix3 (⟨t.val, ht⟩ : Fin 32) (y 1) (y 2) := by
    blk_ext [blocks_at t]
  have at_y : y = ix3 0 (y 1) (y 2) := by
    funext a; fin_cases a
    · exact Subsingleton.elim (α := Fin 1) _ _
    · rfl
    · rfl
  have all : ∀ (s : Fin 3) (h : Fin 8), k0_pay1 (F := Ideal) (iota .tc S64x8 32 [0] iota_S64x8_d0_w32) (k0_pay3 (iblk m c 0 t) (iblk m c 1 t))
      (k0_pay5 (iblk m c 0 t) (iblk m c 1 t)) (k0_pay6 (iblk m c 0 t) (iblk m c 1 t)) (k0_pay7 (iblk m c 0 t) (iblk m c 1 t)) (ix3 0 s h)
      = Cert.RSelIdeal.Read.val_main_v6 (F := Ideal) (m ((c : Thread nD τ).loc main_arg0)) (m ((c : Thread nD τ).loc main_arg1))
        (ix3 ⟨t.val, ht⟩ s h) := fun s h => by
    rw [result_eq]
    refine picks_eq _ _ ⟨t.val, ht⟩ _ _ (fun p h d => ?_) (fun h d => ?_) h (fun j => gate_fin _ _ hF _ _ _) s
    · blk_point [iblk, V, blocks_at t]
    · blk_point [iblk, V, blocks_at t]
  rw [place]
  exact (congrArg _ at_y).trans (all (y 1) (y 2))

/-- The arguments are finite where the precondition holds. -/
theorem finite_of_pre (h : Cert.Pre_KSelIdeal_select_inputs m) (c : Dev nD) :
    Finite2 (m ((c : Thread nD τ).loc main_arg0)) (m ((c : Thread nD τ).loc main_arg1)) := by
  obtain ⟨e0, e1⟩ := h c
  exact ⟨fun i => Cert.KernelIdeal.Attend.finite_of_bits _ (congrFun e0 i), fun i => Cert.KernelIdeal.Attend.finite_of_bits _ (congrFun e1 i)⟩

end Cert.KSelIdeal.Sel

namespace Cert.Proof

/-- The kernel's selection and the mathematics' are equal, where the arguments are finite. -/
theorem sel_values : Cert.algebraic_KSelIdeal_RSelIdeal_pre_select_inputs := by
  intro m g m' g' hpre hagree
  refine ⟨fun c => (Cert.KSelIdeal.Gen.dats m 0 c).arrAt 2 (Cert.KSelIdeal.cfgs 0).N, ?_, ?_⟩
  · run_from Cert.KSelIdeal.Gen.run_main m g
  · refine (θ_run Cert.RSelIdeal.defs _ _).mono (fun r h c => ?_) (Cert.RSelIdeal.Value.run m' g')
    refine ⟨(h c).1.trans ?_, (h c).2⟩
    rw [Cert.RSelIdeal.Read.val_main_v6_eq, (hagree c).1, (hagree c).2]
    exact (Cert.KSelIdeal.Sel.array_eq m c (Cert.KSelIdeal.Sel.finite_of_pre m hpre c)).symm

end Cert.Proof

end
-- ==== Proof.Attend.RangeBits.lean ====
module

public import proofs.«01_k».proof.Proof.Attend.TablesBits
public import proofs.«01_k».proof.Proof.Attend.Value

/-! The tables' ranges from the precondition, for the program on machine numbers. -/

@[expose] public section

noncomputable section

open Idealize.ShloMosaic Idealize.ShloMosaic.TcCoe Idealize.SL.Sem

namespace Cert.Kernel.Attend

open Cert.Kernel Cert.Kernel.Gen

/-- The words the index maps read name pages of the pool where the precondition holds. -/
theorem ok_of_pre (m : (ℓ : Loc nD τ sig) → Buf (Elt Bits) ℓ) (h : Cert.Pre_Kernel m) : Ok m := by
  obtain ⟨-, e2⟩ := h 0
  exact ok_of_range m fun i => Cert.KernelIdeal.Attend.word_range _ 5120#32 5120 rfl (congrFun e2 i)

end Cert.Kernel.Attend

end
-- ==== Proof.lean ====
module

public import proofs.«01_k».proof.Defs
public import proofs.«01_k».proof.Proof.Gen.Kernel.Frame
public import proofs.«01_k».proof.Proof.Gen.ReferenceIdeal.Run
public import proofs.«01_k».proof.Proof.Attend.Value
public import proofs.«01_k».proof.Proof.Gen.KernelIdeal.Frame
public import proofs.«01_k».proof.Proof.Gen.KUp.Frame
public import proofs.«01_k».proof.Proof.Gen.RUpIdeal.Run
public import proofs.«01_k».proof.Proof.Up.Value
public import proofs.«01_k».proof.Proof.Gen.KUpIdeal.Frame
public import proofs.«01_k».proof.Proof.Gen.KDown.Frame
public import proofs.«01_k».proof.Proof.Gen.RDownIdeal.Run
public import proofs.«01_k».proof.Proof.Down.Value
public import proofs.«01_k».proof.Proof.Gen.KDownIdeal.Frame
public import proofs.«01_k».proof.Proof.ProjBits.Frame
public import proofs.«01_k».proof.Proof.Gen.RProjIdeal.Run
public import proofs.«01_k».proof.Proof.Proj.Value
public import proofs.«01_k».proof.Proof.Gen.KZm.Frame
public import proofs.«01_k».proof.Proof.Gen.RZmIdeal.Run
public import proofs.«01_k».proof.Proof.Zm.Value
public import proofs.«01_k».proof.Proof.Gen.KZmIdeal.Frame
public import proofs.«01_k».proof.Proof.Gen.KZs.Frame
public import proofs.«01_k».proof.Proof.Gen.RZsIdeal.Run
public import proofs.«01_k».proof.Proof.Zs.Value
public import proofs.«01_k».proof.Proof.Gen.KZsIdeal.Frame
public import proofs.«01_k».proof.Proof.Gen.KZp.Frame
public import proofs.«01_k».proof.Proof.Gen.RZpIdeal.Run
public import proofs.«01_k».proof.Proof.Zp.Value
public import proofs.«01_k».proof.Proof.Gen.KZpIdeal.Frame
public import proofs.«01_k».proof.Proof.Gen.KOut.Frame
public import proofs.«01_k».proof.Proof.Gen.ROutIdeal.Run
public import proofs.«01_k».proof.Proof.Out.Value
public import proofs.«01_k».proof.Proof.Gen.KOutIdeal.Frame
public import proofs.«01_k».proof.Proof.Gen.KUpS.Frame
public import proofs.«01_k».proof.Proof.Gen.RUpSIdeal.Run
public import proofs.«01_k».proof.Proof.UpS.Value
public import proofs.«01_k».proof.Proof.Gen.KUpSIdeal.Frame
public import proofs.«01_k».proof.Proof.Gen.KDownS.Frame
public import proofs.«01_k».proof.Proof.Gen.RDownSIdeal.Run
public import proofs.«01_k».proof.Proof.DownS.Value
public import proofs.«01_k».proof.Proof.Gen.KDownSIdeal.Frame
public import proofs.«01_k».proof.Proof.Gen.KOutS.Frame
public import proofs.«01_k».proof.Proof.Gen.ROutSIdeal.Run
public import proofs.«01_k».proof.Proof.OutS.Value
public import proofs.«01_k».proof.Proof.Gen.KOutSIdeal.Frame
public import proofs.«01_k».proof.Proof.Gen.KSel.Frame
public import proofs.«01_k».proof.Proof.Gen.RSelIdeal.Run
public import proofs.«01_k».proof.Proof.Sel.Value
public import proofs.«01_k».proof.Proof.Gen.KSelIdeal.Frame
public import proofs.«01_k».proof.Proof.Gen.Pre_tables_in_range
public import proofs.«01_k».proof.Proof.Gen.Pre_attend_inputs
public import proofs.«01_k».proof.Proof.Gen.Pre_select_inputs
public import proofs.«01_k».proof.Proof.Attend.RangeBits
public import Idealize.ShloMosaic.Lib.Claim

/-! The claim's parts put together: for each program its frames, that idealizing preserved it, and the equality of its
results and the mathematics'. -/

@[expose] public section

namespace Cert.Proof

open Idealize.ShloMosaic Idealize.ShloMosaic.TcCoe Idealize.SL.Sem

/-- The reference program `ReferenceIdeal` runs to its end and leaves its arguments as they were. -/
theorem attend_reference_frame : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run m g)

/-- The reference program `RUpIdeal` runs to its end and leaves its arguments as they were. -/
theorem up_reference_frame : Cert.quiescent_RUpIdeal := fun m g _ =>
  (θ_run Cert.RUpIdeal.defs _ _).mono
    (fun r h => ⟨fun c => (h c).2, sem_eq_zero_of_no_sems (by decide) r.2⟩) (Cert.RUpIdeal.Value.run m g)

/-- The reference program `RDownIdeal` runs to its end and leaves its arguments as they were. -/
theorem down_reference_frame : Cert.quiescent_RDownIdeal := fun m g _ =>
  (θ_run Cert.RDownIdeal.defs _ _).mono
    (fun r h => ⟨fun c => (h c).2, sem_eq_zero_of_no_sems (by decide) r.2⟩) (Cert.RDownIdeal.Value.run m g)

/-- The reference program `RProjIdeal` runs to its end and leaves its arguments as they were. -/
theorem proj_reference_frame : Cert.quiescent_RProjIdeal := fun m g _ =>
  (θ_run Cert.RProjIdeal.defs _ _).mono
    (fun r h => ⟨fun c => (h c).2.2.2.2.2, sem_eq_zero_of_no_sems (by decide) r.2⟩) (Cert.RProjIdeal.Value.run m g)

/-- The reference program `RZmIdeal` runs to its end and leaves its arguments as they were. -/
theorem zm_reference_frame : Cert.quiescent_RZmIdeal := fun m g _ =>
  (θ_run Cert.RZmIdeal.defs _ _).mono
    (fun r h => ⟨fun c => (h c).2, sem_eq_zero_of_no_sems (by decide) r.2⟩) (Cert.RZmIdeal.Value.run m g)

/-- The reference program `RZsIdeal` runs to its end and leaves its arguments as they were. -/
theorem zs_reference_frame : Cert.quiescent_RZsIdeal := fun m g _ =>
  (θ_run Cert.RZsIdeal.defs _ _).mono
    (fun r h => ⟨fun c => (h c).2, sem_eq_zero_of_no_sems (by decide) r.2⟩) (Cert.RZsIdeal.Value.run m g)

/-- The reference program `RZpIdeal` runs to its end and leaves its arguments as they were. -/
theorem zp_reference_frame : Cert.quiescent_RZpIdeal := fun m g _ =>
  (θ_run Cert.RZpIdeal.defs _ _).mono
    (fun r h => ⟨fun c => (h c).2, sem_eq_zero_of_no_sems (by decide) r.2⟩) (Cert.RZpIdeal.Value.run m g)

/-- The reference program `ROutIdeal` runs to its end and leaves its arguments as they were. -/
theorem out_reference_frame : Cert.quiescent_ROutIdeal := fun m g _ =>
  (θ_run Cert.ROutIdeal.defs _ _).mono
    (fun r h => ⟨fun c => (h c).2.2, sem_eq_zero_of_no_sems (by decide) r.2⟩) (Cert.ROutIdeal.Value.run m g)

/-- The reference program `RUpSIdeal` runs to its end and leaves its arguments as they were. -/
theorem ups_reference_frame : Cert.quiescent_RUpSIdeal := fun m g _ =>
  (θ_run Cert.RUpSIdeal.defs _ _).mono
    (fun r h => ⟨fun c => (h c).2, sem_eq_zero_of_no_sems (by decide) r.2⟩) (Cert.RUpSIdeal.Value.run m g)

/-- The reference program `RDownSIdeal` runs to its end and leaves its arguments as they were. -/
theorem downs_reference_frame : Cert.quiescent_RDownSIdeal := fun m g _ =>
  (θ_run Cert.RDownSIdeal.defs _ _).mono
    (fun r h => ⟨fun c => (h c).2, sem_eq_zero_of_no_sems (by decide) r.2⟩) (Cert.RDownSIdeal.Value.run m g)

/-- The reference program `ROutSIdeal` runs to its end and leaves its arguments as they were. -/
theorem outs_reference_frame : Cert.quiescent_ROutSIdeal := fun m g _ =>
  (θ_run Cert.ROutSIdeal.defs _ _).mono
    (fun r h => ⟨fun c => (h c).2.2, sem_eq_zero_of_no_sems (by decide) r.2⟩) (Cert.ROutSIdeal.Value.run m g)

/-- The reference program `RSelIdeal` runs to its end and leaves its arguments as they were. -/
theorem sel_reference_frame : Cert.quiescent_RSelIdeal := fun m g _ =>
  (θ_run Cert.RSelIdeal.defs _ _).mono
    (fun r h => ⟨fun c => (h c).2, sem_eq_zero_of_no_sems (by decide) r.2⟩) (Cert.RSelIdeal.Value.run m g)

/-- Every program's claims. -/
theorem claim : Cert.Claim :=
  ⟨Cert.Kernel.Gen.facts, Cert.KernelIdeal.Gen.facts, Cert.ReferenceIdeal.Gen.facts, Cert.KUp.Gen.facts, Cert.KUpIdeal.Gen.facts, Cert.RUpIdeal.Gen.facts, Cert.KDown.Gen.facts, Cert.KDownIdeal.Gen.facts, Cert.RDownIdeal.Gen.facts, Cert.KProj.Gen.facts, Cert.KProjIdeal.Gen.facts, Cert.RProjIdeal.Gen.facts, Cert.KZm.Gen.facts, Cert.KZmIdeal.Gen.facts, Cert.RZmIdeal.Gen.facts, Cert.KZs.Gen.facts, Cert.KZsIdeal.Gen.facts, Cert.RZsIdeal.Gen.facts, Cert.KZp.Gen.facts, Cert.KZpIdeal.Gen.facts, Cert.RZpIdeal.Gen.facts, Cert.KOut.Gen.facts, Cert.KOutIdeal.Gen.facts, Cert.ROutIdeal.Gen.facts, Cert.KUpS.Gen.facts, Cert.KUpSIdeal.Gen.facts, Cert.RUpSIdeal.Gen.facts, Cert.KDownS.Gen.facts, Cert.KDownSIdeal.Gen.facts, Cert.RDownSIdeal.Gen.facts, Cert.KOutS.Gen.facts, Cert.KOutSIdeal.Gen.facts, Cert.ROutSIdeal.Gen.facts, Cert.KSel.Gen.facts, Cert.KSelIdeal.Gen.facts, Cert.RSelIdeal.Gen.facts, Cert.Pre_tables_in_range.Gen.facts, Cert.Pre_attend_inputs.Gen.facts, Cert.Pre_select_inputs.Gen.facts,
    fun m ρ h => Cert.Kernel.Gen.frame m ρ (Cert.Kernel.Attend.ok_of_pre m h),
    fun m ρ h => Cert.KernelIdeal.Gen.frame m ρ (Cert.KernelIdeal.Attend.ok_of_pre m h),
    fun m ρ h => Cert.KernelIdeal.Gen.frame m ρ (Cert.KernelIdeal.Attend.ok_of_pre_inputs m h),
    attend_reference_frame,
    fun m ρ _ => attend_reference_frame m ρ trivial,
    fun m ρ _ => Cert.KUp.Gen.frame m ρ,
    fun m ρ _ => Cert.KUpIdeal.Gen.frame m ρ,
    up_reference_frame,
    fun m ρ _ => Cert.KDown.Gen.frame m ρ,
    fun m ρ _ => Cert.KDownIdeal.Gen.frame m ρ,
    down_reference_frame,
    fun m ρ _ => Cert.KProj.Proj.frame m ρ,
    fun m ρ _ => Cert.KProjIdeal.Proj.frame m ρ,
    proj_reference_frame,
    fun m ρ _ => Cert.KZm.Gen.frame m ρ,
    fun m ρ _ => Cert.KZmIdeal.Gen.frame m ρ,
    zm_reference_frame,
    fun m ρ _ => Cert.KZs.Gen.frame m ρ,
    fun m ρ _ => Cert.KZsIdeal.Gen.frame m ρ,
    zs_reference_frame,
    fun m ρ _ => Cert.KZp.Gen.frame m ρ,
    fun m ρ _ => Cert.KZpIdeal.Gen.frame m ρ,
    zp_reference_frame,
    fun m ρ _ => Cert.KOut.Gen.frame m ρ,
    fun m ρ _ => Cert.KOutIdeal.Gen.frame m ρ,
    out_reference_frame,
    fun m ρ _ => Cert.KUpS.Gen.frame m ρ,
    fun m ρ _ => Cert.KUpSIdeal.Gen.frame m ρ,
    ups_reference_frame,
    fun m ρ _ => Cert.KDownS.Gen.frame m ρ,
    fun m ρ _ => Cert.KDownSIdeal.Gen.frame m ρ,
    downs_reference_frame,
    fun m ρ _ => Cert.KOutS.Gen.frame m ρ,
    fun m ρ _ => Cert.KOutSIdeal.Gen.frame m ρ,
    outs_reference_frame,
    fun m ρ _ => Cert.KSel.Gen.frame m ρ,
    fun m ρ _ => Cert.KSelIdeal.Gen.frame m ρ,
    fun m ρ _ => Cert.KSelIdeal.Gen.frame m ρ,
    sel_reference_frame,
    fun m ρ _ => sel_reference_frame m ρ trivial,
    trivial,
    attend_values,
    trivial,
    up_values,
    trivial,
    down_values,
    trivial,
    proj_values,
    trivial,
    zm_values,
    trivial,
    zs_values,
    trivial,
    zp_values,
    trivial,
    out_values,
    trivial,
    ups_values,
    trivial,
    downs_values,
    trivial,
    outs_values,
    trivial,
    sel_values⟩

end Cert.Proof

end
